-- ==== Defs.lean ====
def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.2.1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.2.2 = (fun _ => 1#1)

def Pre_BwdFfn (m : (ℓ : Loc Cert.BwdFfn.nD Cert.BwdFfn.τ Cert.BwdFfn.sig) → Buf (Elt Bits) ℓ) : Prop :=
  True

def Pre_BwdFfnIdeal (m : (ℓ : Loc Cert.BwdFfnIdeal.nD Cert.BwdFfnIdeal.τ Cert.BwdFfnIdeal.sig) → Buf (Elt Ideal) ℓ) : Prop :=
  True

def Pre_BwdFfnIdeal_bwd_ffn_finite [hPre_bwd_ffn_finite : Cert.Pre_bwd_ffn_finite.Facts] (m : (ℓ : Loc Cert.BwdFfnIdeal.nD Cert.BwdFfnIdeal.τ Cert.BwdFfnIdeal.sig) → Buf (Elt Ideal) ℓ) : Prop :=
  ∀ c : Dev Cert.BwdFfnIdeal.nD,
    (Cert.Pre_bwd_ffn_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4)) (m ((c.tc : Thread Cert.BwdFfnIdeal.nD Cert.BwdFfnIdeal.τ).loc Cert.BwdFfnIdeal.main_arg5))).1 = (fun _ => 1#1)
    ∧ (Cert.Pre_bwd_ffn_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4)) (m ((c.tc : Thread Cert.BwdFfnIdeal.nD Cert.BwdFfnIdeal.τ).loc Cert.BwdFfnIdeal.main_arg5))).2.1 = (fun _ => 1#1)
    ∧ (Cert.Pre_bwd_ffn_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4)) (m ((c.tc : Thread Cert.BwdFfnIdeal.nD Cert.BwdFfnIdeal.τ).loc Cert.BwdFfnIdeal.main_arg5))).2.2.1 = (fun _ => 1#1)
    ∧ (Cert.Pre_bwd_ffn_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4)) (m ((c.tc : Thread Cert.BwdFfnIdeal.nD Cert.BwdFfnIdeal.τ).loc Cert.BwdFfnIdeal.main_arg5))).2.2.2 = (fun _ => 1#1)

def Pre_BwdFfnRefIdeal (m : (ℓ : Loc Cert.BwdFfnRefIdeal.nD Cert.BwdFfnRefIdeal.τ Cert.BwdFfnRefIdeal.sig) → Buf (Elt Ideal) ℓ) : Prop :=
  True

def Pre_BwdFfnRefIdeal_bwd_ffn_finite [hPre_bwd_ffn_finite : Cert.Pre_bwd_ffn_finite.Facts] (m : (ℓ : Loc Cert.BwdFfnRefIdeal.nD Cert.BwdFfnRefIdeal.τ Cert.BwdFfnRefIdeal.sig) → Buf (Elt Ideal) ℓ) : Prop :=
  ∀ c : Dev Cert.BwdFfnRefIdeal.nD,
    (Cert.Pre_bwd_ffn_finite.fn (F := Ideal) (m ((c.tc : Thread Cert.BwdFfnRefIdeal.nD Cert.BwdFfnRefIdeal.τ).loc Cert.BwdFfnRefIdeal.main_arg0)) (m ((c.tc : Thread Cert.BwdFfnRefIdeal.nD Cert.BwdFfnRefIdeal.τ).loc Cert.BwdFfnRefIdeal.main_arg1)) (m ((c.tc : Thread Cert.BwdFfnRefIdeal.nD Cert.BwdFfnRefIdeal.τ).loc Cert.BwdFfnRefIdeal.main_arg2)) (m ((c.tc : Thread Cert.BwdFfnRefIdeal.nD Cert.BwdFfnRefIdeal.τ).loc Cert.BwdFfnRefIdeal.main_arg3)) (m ((c.tc : Thread Cert.BwdFfnRefIdeal.nD Cert.BwdFfnRefIdeal.τ).loc Cert.BwdFfnRefIdeal.main_arg4)) (m ((c.tc : Thread Cert.BwdFfnRefIdeal.nD Cert.BwdFfnRefIdeal.τ).loc Cert.BwdFfnRefIdeal.main_arg5))).1 = (fun _ => 1#1)
    ∧ (Cert.Pre_bwd_ffn_finite.fn (F := Ideal) (m ((c.tc : Thread Cert.BwdFfnRefIdeal.nD Cert.BwdFfnRefIdeal.τ).loc Cert.BwdFfnRefIdeal.main_arg0)) (m ((c.tc : Thread Cert.BwdFfnRefIdeal.nD Cert.BwdFfnRefIdeal.τ).loc Cert.BwdFfnRefIdeal.main_arg1)) (m ((c.tc : Thread Cert.BwdFfnRefIdeal.nD Cert.BwdFfnRefIdeal.τ).loc Cert.BwdFfnRefIdeal.main_arg2)) (m ((c.tc : Thread Cert.BwdFfnRefIdeal.nD Cert.BwdFfnRefIdeal.τ).loc Cert.BwdFfnRefIdeal.main_arg3)) (m ((c.tc : Thread Cert.BwdFfnRefIdeal.nD Cert.BwdFfnRefIdeal.τ).loc Cert.BwdFfnRefIdeal.main_arg4)) (m ((c.tc : Thread Cert.BwdFfnRefIdeal.nD Cert.BwdFfnRefIdeal.τ).loc Cert.BwdFfnRefIdeal.main_arg5))).2.1 = (fun _ => 1#1)
    ∧ (Cert.Pre_bwd_ffn_finite.fn (F := Ideal) (m ((c.tc : Thread Cert.BwdFfnRefIdeal.nD Cert.BwdFfnRefIdeal.τ).loc Cert.BwdFfnRefIdeal.main_arg0)) (m ((c.tc : Thread Cert.BwdFfnRefIdeal.nD Cert.BwdFfnRefIdeal.τ).loc Cert.BwdFfnRefIdeal.main_arg1)) (m ((c.tc : Thread Cert.BwdFfnRefIdeal.nD Cert.BwdFfnRefIdeal.τ).loc Cert.BwdFfnRefIdeal.main_arg2)) (m ((c.tc : Thread Cert.BwdFfnRefIdeal.nD Cert.BwdFfnRefIdeal.τ).loc Cert.BwdFfnRefIdeal.main_arg3)) (m ((c.tc : Thread Cert.BwdFfnRefIdeal.nD Cert.BwdFfnRefIdeal.τ).loc Cert.BwdFfnRefIdeal.main_arg4)) (m ((c.tc : Thread Cert.BwdFfnRefIdeal.nD Cert.BwdFfnRefIdeal.τ).loc Cert.BwdFfnRefIdeal.main_arg5))).2.2.1 = (fun _ => 1#1)
    ∧ (Cert.Pre_bwd_ffn_finite.fn (F := Ideal) (m ((c.tc : Thread Cert.BwdFfnRefIdeal.nD Cert.BwdFfnRefIdeal.τ).loc Cert.BwdFfnRefIdeal.main_arg0)) (m ((c.tc : Thread Cert.BwdFfnRefIdeal.nD Cert.BwdFfnRefIdeal.τ).loc Cert.BwdFfnRefIdeal.main_arg1)) (m ((c.tc : Thread Cert.BwdFfnRefIdeal.nD Cert.BwdFfnRefIdeal.τ).loc Cert.BwdFfnRefIdeal.main_arg2)) (m ((c.tc : Thread Cert.BwdFfnRefIdeal.nD Cert.BwdFfnRefIdeal.τ).loc Cert.BwdFfnRefIdeal.main_arg3)) (m ((c.tc : Thread Cert.BwdFfnRefIdeal.nD Cert.BwdFfnRefIdeal.τ).loc Cert.BwdFfnRefIdeal.main_arg4)) (m ((c.tc : Thread Cert.BwdFfnRefIdeal.nD Cert.BwdFfnRefIdeal.τ).loc Cert.BwdFfnRefIdeal.main_arg5))).2.2.2 = (fun _ => 1#1)

def Pre_GradFfn (m : (ℓ : Loc Cert.GradFfn.nD Cert.GradFfn.τ Cert.GradFfn.sig) → Buf (Elt Bits) ℓ) : Prop :=
  True

def Pre_GradFfnIdeal (m : (ℓ : Loc Cert.GradFfnIdeal.nD Cert.GradFfnIdeal.τ Cert.GradFfnIdeal.sig) → Buf (Elt Ideal) ℓ) : Prop :=
  True

def Pre_GradFfnRefIdeal (m : (ℓ : Loc Cert.GradFfnRefIdeal.nD Cert.GradFfnRefIdeal.τ Cert.GradFfnRefIdeal.sig) → Buf (Elt Ideal) ℓ) : Prop :=
  True

def Pre_BwdOut (m : (ℓ : Loc Cert.BwdOut.nD Cert.BwdOut.τ Cert.BwdOut.sig) → Buf (Elt Bits) ℓ) : Prop :=
  True

def Pre_BwdOutIdeal (m : (ℓ : Loc Cert.BwdOutIdeal.nD Cert.BwdOutIdeal.τ Cert.BwdOutIdeal.sig) → Buf (Elt Ideal) ℓ) : Prop :=
  True

def Pre_BwdOutRefIdeal (m : (ℓ : Loc Cert.BwdOutRefIdeal.nD Cert.BwdOutRefIdeal.τ Cert.BwdOutRefIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3))) = (fun _ => 1#1)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_BwdFfn [hBwdFfn : Cert.BwdFfn.Facts] : Prop :=
  ∀ (m : (ℓ : Loc Cert.BwdFfn.nD Cert.BwdFfn.τ Cert.BwdFfn.sig) → Buf (Elt Bits) ℓ) (g : Dev Cert.BwdFfn.nD → PrngReg), Pre_BwdFfn m →
    θ_run (Cert.BwdFfn.defs (F := Bits)) (onTc (τ := Cert.BwdFfn.τ) (Cert.BwdFfn.main (F := Bits))) ⟨m, fun _ => 0, g⟩ (fun r => (∀ c : Dev Cert.BwdFfn.nD,
      r.2.mem ((c.tc : Thread Cert.BwdFfn.nD Cert.BwdFfn.τ).loc Cert.BwdFfn.main_arg0) = m ((c.tc : Thread Cert.BwdFfn.nD Cert.BwdFfn.τ).loc Cert.BwdFfn.main_arg0)
      ∧ r.2.mem ((c.tc : Thread Cert.BwdFfn.nD Cert.BwdFfn.τ).loc Cert.BwdFfn.main_arg1) = m ((c.tc : Thread Cert.BwdFfn.nD Cert.BwdFfn.τ).loc Cert.BwdFfn.main_arg1)
      ∧ r.2.mem ((c.tc : Thread Cert.BwdFfn.nD Cert.BwdFfn.τ).loc Cert.BwdFfn.main_arg2) = m ((c.tc : Thread Cert.BwdFfn.nD Cert.BwdFfn.τ).loc Cert.BwdFfn.main_arg2)
      ∧ r.2.mem ((c.tc : Thread Cert.BwdFfn.nD Cert.BwdFfn.τ).loc Cert.BwdFfn.main_arg3) = m ((c.tc : Thread Cert.BwdFfn.nD Cert.BwdFfn.τ).loc Cert.BwdFfn.main_arg3)
      ∧ r.2.mem ((c.tc : Thread Cert.BwdFfn.nD Cert.BwdFfn.τ).loc Cert.BwdFfn.main_arg4) = m ((c.tc : Thread Cert.BwdFfn.nD Cert.BwdFfn.τ).loc Cert.BwdFfn.main_arg4)
      ∧ r.2.mem ((c.tc : Thread Cert.BwdFfn.nD Cert.BwdFfn.τ).loc Cert.BwdFfn.main_arg5) = m ((c.tc : Thread Cert.BwdFfn.nD Cert.BwdFfn.τ).loc Cert.BwdFfn.main_arg5))
      ∧ r.2.sem = fun _ => 0)

def quiescent_BwdFfnIdeal [hBwdFfnIdeal : Cert.BwdFfnIdeal.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg), Pre_BwdFfnIdeal m →
    θ_run (Cert.BwdFfnIdeal.defs (F := Ideal)) (onTc (τ := Cert.BwdFfnIdeal.τ) (Cert.BwdFfnIdeal.main (F := Ideal))) ⟨m, fun _ => 0, g⟩ (fun r => (∀ c : Dev Cert.BwdFfnIdeal.nD,
      r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
      ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
      ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
      ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3)
      ∧ r.2.mem ((c.tc : Thread Cert.BwdFfnIdeal.nD Cert.BwdFfnIdeal.τ).loc Cert.BwdFfnIdeal.main_arg4) = m ((c.tc : Thread Cert.BwdFfnIdeal.nD Cert.BwdFfnIdeal.τ).loc Cert.BwdFfnIdeal.main_arg4)
      ∧ r.2.mem ((c.tc : Thread Cert.BwdFfnIdeal.nD Cert.BwdFfnIdeal.τ).loc Cert.BwdFfnIdeal.main_arg5) = m ((c.tc : Thread Cert.BwdFfnIdeal.nD Cert.BwdFfnIdeal.τ).loc Cert.BwdFfnIdeal.main_arg5))
      ∧ r.2.sem = fun _ => 0)

def quiescent_BwdFfnIdeal_pre_bwd_ffn_finite [hBwdFfnIdeal : Cert.BwdFfnIdeal.Facts] [hPre_bwd_ffn_finite : Cert.Pre_bwd_ffn_finite.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg), Pre_BwdFfnIdeal_bwd_ffn_finite m →
    θ_run (Cert.BwdFfnIdeal.defs (F := Ideal)) (onTc (τ := Cert.BwdFfnIdeal.τ) (Cert.BwdFfnIdeal.main (F := Ideal))) ⟨m, fun _ => 0, g⟩ (fun r => (∀ c : Dev Cert.BwdFfnIdeal.nD,
      r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
      ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
      ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
      ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3)
      ∧ r.2.mem ((c.tc : Thread Cert.BwdFfnIdeal.nD Cert.BwdFfnIdeal.τ).loc Cert.BwdFfnIdeal.main_arg4) = m ((c.tc : Thread Cert.BwdFfnIdeal.nD Cert.BwdFfnIdeal.τ).loc Cert.BwdFfnIdeal.main_arg4)
      ∧ r.2.mem ((c.tc : Thread Cert.BwdFfnIdeal.nD Cert.BwdFfnIdeal.τ).loc Cert.BwdFfnIdeal.main_arg5) = m ((c.tc : Thread Cert.BwdFfnIdeal.nD Cert.BwdFfnIdeal.τ).loc Cert.BwdFfnIdeal.main_arg5))
      ∧ r.2.sem = fun _ => 0)

def quiescent_BwdFfnRefIdeal [hBwdFfnRefIdeal : Cert.BwdFfnRefIdeal.Facts] : Prop :=
  ∀ (m : (ℓ : Loc Cert.BwdFfnRefIdeal.nD Cert.BwdFfnRefIdeal.τ Cert.BwdFfnRefIdeal.sig) → Buf (Elt Ideal) ℓ) (g : Dev Cert.BwdFfnRefIdeal.nD → PrngReg), Pre_BwdFfnRefIdeal m →
    θ_run (Cert.BwdFfnRefIdeal.defs (F := Ideal)) (onTc (τ := Cert.BwdFfnRefIdeal.τ) (Cert.BwdFfnRefIdeal.main (F := Ideal))) ⟨m, fun _ => 0, g⟩ (fun r => (∀ c : Dev Cert.BwdFfnRefIdeal.nD,
      r.2.mem ((c.tc : Thread Cert.BwdFfnRefIdeal.nD Cert.BwdFfnRefIdeal.τ).loc Cert.BwdFfnRefIdeal.main_arg0) = m ((c.tc : Thread Cert.BwdFfnRefIdeal.nD Cert.BwdFfnRefIdeal.τ).loc Cert.BwdFfnRefIdeal.main_arg0)
      ∧ r.2.mem ((c.tc : Thread Cert.BwdFfnRefIdeal.nD Cert.BwdFfnRefIdeal.τ).loc Cert.BwdFfnRefIdeal.main_arg1) = m ((c.tc : Thread Cert.BwdFfnRefIdeal.nD Cert.BwdFfnRefIdeal.τ).loc Cert.BwdFfnRefIdeal.main_arg1)
      ∧ r.2.mem ((c.tc : Thread Cert.BwdFfnRefIdeal.nD Cert.BwdFfnRefIdeal.τ).loc Cert.BwdFfnRefIdeal.main_arg2) = m ((c.tc : Thread Cert.BwdFfnRefIdeal.nD Cert.BwdFfnRefIdeal.τ).loc Cert.BwdFfnRefIdeal.main_arg2)
      ∧ r.2.mem ((c.tc : Thread Cert.BwdFfnRefIdeal.nD Cert.BwdFfnRefIdeal.τ).loc Cert.BwdFfnRefIdeal.main_arg3) = m ((c.tc : Thread Cert.BwdFfnRefIdeal.nD Cert.BwdFfnRefIdeal.τ).loc Cert.BwdFfnRefIdeal.main_arg3)
      ∧ r.2.mem ((c.tc : Thread Cert.BwdFfnRefIdeal.nD Cert.BwdFfnRefIdeal.τ).loc Cert.BwdFfnRefIdeal.main_arg4) = m ((c.tc : Thread Cert.BwdFfnRefIdeal.nD Cert.BwdFfnRefIdeal.τ).loc Cert.BwdFfnRefIdeal.main_arg4)
      ∧ r.2.mem ((c.tc : Thread Cert.BwdFfnRefIdeal.nD Cert.BwdFfnRefIdeal.τ).loc Cert.BwdFfnRefIdeal.main_arg5) = m ((c.tc : Thread Cert.BwdFfnRefIdeal.nD Cert.BwdFfnRefIdeal.τ).loc Cert.BwdFfnRefIdeal.main_arg5))
      ∧ r.2.sem = fun _ => 0)

def quiescent_BwdFfnRefIdeal_pre_bwd_ffn_finite [hBwdFfnRefIdeal : Cert.BwdFfnRefIdeal.Facts] [hPre_bwd_ffn_finite : Cert.Pre_bwd_ffn_finite.Facts] : Prop :=
  ∀ (m : (ℓ : Loc Cert.BwdFfnRefIdeal.nD Cert.BwdFfnRefIdeal.τ Cert.BwdFfnRefIdeal.sig) → Buf (Elt Ideal) ℓ) (g : Dev Cert.BwdFfnRefIdeal.nD → PrngReg), Pre_BwdFfnRefIdeal_bwd_ffn_finite m →
    θ_run (Cert.BwdFfnRefIdeal.defs (F := Ideal)) (onTc (τ := Cert.BwdFfnRefIdeal.τ) (Cert.BwdFfnRefIdeal.main (F := Ideal))) ⟨m, fun _ => 0, g⟩ (fun r => (∀ c : Dev Cert.BwdFfnRefIdeal.nD,
      r.2.mem ((c.tc : Thread Cert.BwdFfnRefIdeal.nD Cert.BwdFfnRefIdeal.τ).loc Cert.BwdFfnRefIdeal.main_arg0) = m ((c.tc : Thread Cert.BwdFfnRefIdeal.nD Cert.BwdFfnRefIdeal.τ).loc Cert.BwdFfnRefIdeal.main_arg0)
      ∧ r.2.mem ((c.tc : Thread Cert.BwdFfnRefIdeal.nD Cert.BwdFfnRefIdeal.τ).loc Cert.BwdFfnRefIdeal.main_arg1) = m ((c.tc : Thread Cert.BwdFfnRefIdeal.nD Cert.BwdFfnRefIdeal.τ).loc Cert.BwdFfnRefIdeal.main_arg1)
      ∧ r.2.mem ((c.tc : Thread Cert.BwdFfnRefIdeal.nD Cert.BwdFfnRefIdeal.τ).loc Cert.BwdFfnRefIdeal.main_arg2) = m ((c.tc : Thread Cert.BwdFfnRefIdeal.nD Cert.BwdFfnRefIdeal.τ).loc Cert.BwdFfnRefIdeal.main_arg2)
      ∧ r.2.mem ((c.tc : Thread Cert.BwdFfnRefIdeal.nD Cert.BwdFfnRefIdeal.τ).loc Cert.BwdFfnRefIdeal.main_arg3) = m ((c.tc : Thread Cert.BwdFfnRefIdeal.nD Cert.BwdFfnRefIdeal.τ).loc Cert.BwdFfnRefIdeal.main_arg3)
      ∧ r.2.mem ((c.tc : Thread Cert.BwdFfnRefIdeal.nD Cert.BwdFfnRefIdeal.τ).loc Cert.BwdFfnRefIdeal.main_arg4) = m ((c.tc : Thread Cert.BwdFfnRefIdeal.nD Cert.BwdFfnRefIdeal.τ).loc Cert.BwdFfnRefIdeal.main_arg4)
      ∧ r.2.mem ((c.tc : Thread Cert.BwdFfnRefIdeal.nD Cert.BwdFfnRefIdeal.τ).loc Cert.BwdFfnRefIdeal.main_arg5) = m ((c.tc : Thread Cert.BwdFfnRefIdeal.nD Cert.BwdFfnRefIdeal.τ).loc Cert.BwdFfnRefIdeal.main_arg5))
      ∧ r.2.sem = fun _ => 0)

def quiescent_GradFfn [hGradFfn : Cert.GradFfn.Facts] : Prop :=
  ∀ (m : (ℓ : Loc Cert.GradFfn.nD Cert.GradFfn.τ Cert.GradFfn.sig) → Buf (Elt Bits) ℓ) (g : Dev Cert.GradFfn.nD → PrngReg), Pre_GradFfn m →
    θ_run (Cert.GradFfn.defs (F := Bits)) (onTc (τ := Cert.GradFfn.τ) (Cert.GradFfn.main (F := Bits))) ⟨m, fun _ => 0, g⟩ (fun r => (∀ c : Dev Cert.GradFfn.nD,
      r.2.mem ((c.tc : Thread Cert.GradFfn.nD Cert.GradFfn.τ).loc Cert.GradFfn.main_arg0) = m ((c.tc : Thread Cert.GradFfn.nD Cert.GradFfn.τ).loc Cert.GradFfn.main_arg0)
      ∧ r.2.mem ((c.tc : Thread Cert.GradFfn.nD Cert.GradFfn.τ).loc Cert.GradFfn.main_arg1) = m ((c.tc : Thread Cert.GradFfn.nD Cert.GradFfn.τ).loc Cert.GradFfn.main_arg1)
      ∧ r.2.mem ((c.tc : Thread Cert.GradFfn.nD Cert.GradFfn.τ).loc Cert.GradFfn.main_arg2) = m ((c.tc : Thread Cert.GradFfn.nD Cert.GradFfn.τ).loc Cert.GradFfn.main_arg2)
      ∧ r.2.mem ((c.tc : Thread Cert.GradFfn.nD Cert.GradFfn.τ).loc Cert.GradFfn.main_arg3) = m ((c.tc : Thread Cert.GradFfn.nD Cert.GradFfn.τ).loc Cert.GradFfn.main_arg3)
      ∧ r.2.mem ((c.tc : Thread Cert.GradFfn.nD Cert.GradFfn.τ).loc Cert.GradFfn.main_arg4) = m ((c.tc : Thread Cert.GradFfn.nD Cert.GradFfn.τ).loc Cert.GradFfn.main_arg4)
      ∧ r.2.mem ((c.tc : Thread Cert.GradFfn.nD Cert.GradFfn.τ).loc Cert.GradFfn.main_arg5) = m ((c.tc : Thread Cert.GradFfn.nD Cert.GradFfn.τ).loc Cert.GradFfn.main_arg5))
      ∧ r.2.sem = fun _ => 0)

def quiescent_GradFfnIdeal [hGradFfnIdeal : Cert.GradFfnIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg), Pre_GradFfnIdeal m →
    θ_run (Cert.GradFfnIdeal.defs (F := Ideal)) (onTc (τ := Cert.GradFfnIdeal.τ) (Cert.GradFfnIdeal.main (F := Ideal))) ⟨m, fun _ => 0, g⟩ (fun r => (∀ c : Dev Cert.GradFfnIdeal.nD,
      r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
      ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1)
      ∧ r.2.mem ((c.tc : Thread Cert.GradFfnIdeal.nD Cert.GradFfnIdeal.τ).loc Cert.GradFfnIdeal.main_arg2) = m ((c.tc : Thread Cert.GradFfnIdeal.nD Cert.GradFfnIdeal.τ).loc Cert.GradFfnIdeal.main_arg2)
      ∧ r.2.mem ((c.tc : Thread Cert.GradFfnIdeal.nD Cert.GradFfnIdeal.τ).loc Cert.GradFfnIdeal.main_arg3) = m ((c.tc : Thread Cert.GradFfnIdeal.nD Cert.GradFfnIdeal.τ).loc Cert.GradFfnIdeal.main_arg3)
      ∧ r.2.mem ((c.tc : Thread Cert.GradFfnIdeal.nD Cert.GradFfnIdeal.τ).loc Cert.GradFfnIdeal.main_arg4) = m ((c.tc : Thread Cert.GradFfnIdeal.nD Cert.GradFfnIdeal.τ).loc Cert.GradFfnIdeal.main_arg4)
      ∧ r.2.mem ((c.tc : Thread Cert.GradFfnIdeal.nD Cert.GradFfnIdeal.τ).loc Cert.GradFfnIdeal.main_arg5) = m ((c.tc : Thread Cert.GradFfnIdeal.nD Cert.GradFfnIdeal.τ).loc Cert.GradFfnIdeal.main_arg5))
      ∧ r.2.sem = fun _ => 0)

def quiescent_GradFfnRefIdeal [hGradFfnRefIdeal : Cert.GradFfnRefIdeal.Facts] : Prop :=
  ∀ (m : (ℓ : Loc Cert.GradFfnRefIdeal.nD Cert.GradFfnRefIdeal.τ Cert.GradFfnRefIdeal.sig) → Buf (Elt Ideal) ℓ) (g : Dev Cert.GradFfnRefIdeal.nD → PrngReg), Pre_GradFfnRefIdeal m →
    θ_run (Cert.GradFfnRefIdeal.defs (F := Ideal)) (onTc (τ := Cert.GradFfnRefIdeal.τ) (Cert.GradFfnRefIdeal.main (F := Ideal))) ⟨m, fun _ => 0, g⟩ (fun r => (∀ c : Dev Cert.GradFfnRefIdeal.nD,
      r.2.mem ((c.tc : Thread Cert.GradFfnRefIdeal.nD Cert.GradFfnRefIdeal.τ).loc Cert.GradFfnRefIdeal.main_arg0) = m ((c.tc : Thread Cert.GradFfnRefIdeal.nD Cert.GradFfnRefIdeal.τ).loc Cert.GradFfnRefIdeal.main_arg0)
      ∧ r.2.mem ((c.tc : Thread Cert.GradFfnRefIdeal.nD Cert.GradFfnRefIdeal.τ).loc Cert.GradFfnRefIdeal.main_arg1) = m ((c.tc : Thread Cert.GradFfnRefIdeal.nD Cert.GradFfnRefIdeal.τ).loc Cert.GradFfnRefIdeal.main_arg1)
      ∧ r.2.mem ((c.tc : Thread Cert.GradFfnRefIdeal.nD Cert.GradFfnRefIdeal.τ).loc Cert.GradFfnRefIdeal.main_arg2) = m ((c.tc : Thread Cert.GradFfnRefIdeal.nD Cert.GradFfnRefIdeal.τ).loc Cert.GradFfnRefIdeal.main_arg2)
      ∧ r.2.mem ((c.tc : Thread Cert.GradFfnRefIdeal.nD Cert.GradFfnRefIdeal.τ).loc Cert.GradFfnRefIdeal.main_arg3) = m ((c.tc : Thread Cert.GradFfnRefIdeal.nD Cert.GradFfnRefIdeal.τ).loc Cert.GradFfnRefIdeal.main_arg3)
      ∧ r.2.mem ((c.tc : Thread Cert.GradFfnRefIdeal.nD Cert.GradFfnRefIdeal.τ).loc Cert.GradFfnRefIdeal.main_arg4) = m ((c.tc : Thread Cert.GradFfnRefIdeal.nD Cert.GradFfnRefIdeal.τ).loc Cert.GradFfnRefIdeal.main_arg4)
      ∧ r.2.mem ((c.tc : Thread Cert.GradFfnRefIdeal.nD Cert.GradFfnRefIdeal.τ).loc Cert.GradFfnRefIdeal.main_arg5) = m ((c.tc : Thread Cert.GradFfnRefIdeal.nD Cert.GradFfnRefIdeal.τ).loc Cert.GradFfnRefIdeal.main_arg5))
      ∧ r.2.sem = fun _ => 0)

def quiescent_BwdOut [hBwdOut : Cert.BwdOut.Facts] : Prop :=
  ∀ (m : (ℓ : Loc Cert.BwdOut.nD Cert.BwdOut.τ Cert.BwdOut.sig) → Buf (Elt Bits) ℓ) (g : Dev Cert.BwdOut.nD → PrngReg), Pre_BwdOut m →
    θ_run (Cert.BwdOut.defs (F := Bits)) (onTc (τ := Cert.BwdOut.τ) (Cert.BwdOut.main (F := Bits))) ⟨m, fun _ => 0, g⟩ (fun r => (∀ c : Dev Cert.BwdOut.nD,
      r.2.mem ((c.tc : Thread Cert.BwdOut.nD Cert.BwdOut.τ).loc Cert.BwdOut.main_arg0) = m ((c.tc : Thread Cert.BwdOut.nD Cert.BwdOut.τ).loc Cert.BwdOut.main_arg0)
      ∧ r.2.mem ((c.tc : Thread Cert.BwdOut.nD Cert.BwdOut.τ).loc Cert.BwdOut.main_arg1) = m ((c.tc : Thread Cert.BwdOut.nD Cert.BwdOut.τ).loc Cert.BwdOut.main_arg1)
      ∧ r.2.mem ((c.tc : Thread Cert.BwdOut.nD Cert.BwdOut.τ).loc Cert.BwdOut.main_arg2) = m ((c.tc : Thread Cert.BwdOut.nD Cert.BwdOut.τ).loc Cert.BwdOut.main_arg2)
      ∧ r.2.mem ((c.tc : Thread Cert.BwdOut.nD Cert.BwdOut.τ).loc Cert.BwdOut.main_arg3) = m ((c.tc : Thread Cert.BwdOut.nD Cert.BwdOut.τ).loc Cert.BwdOut.main_arg3))
      ∧ r.2.sem = fun _ => 0)

def quiescent_BwdOutIdeal [hBwdOutIdeal : Cert.BwdOutIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg), Pre_BwdOutIdeal m →
    θ_run (Cert.BwdOutIdeal.defs (F := Ideal)) (onTc (τ := Cert.BwdOutIdeal.τ) (Cert.BwdOutIdeal.main (F := Ideal))) ⟨m, fun _ => 0, g⟩ (fun r => (∀ c : Dev Cert.BwdOutIdeal.nD,
      r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
      ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
      ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
      ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3))
      ∧ r.2.sem = fun _ => 0)

def quiescent_BwdOutRefIdeal [hBwdOutRefIdeal : Cert.BwdOutRefIdeal.Facts] : Prop :=
  ∀ (m : (ℓ : Loc Cert.BwdOutRefIdeal.nD Cert.BwdOutRefIdeal.τ Cert.BwdOutRefIdeal.sig) → Buf (Elt Ideal) ℓ) (g : Dev Cert.BwdOutRefIdeal.nD → PrngReg), Pre_BwdOutRefIdeal m →
    θ_run (Cert.BwdOutRefIdeal.defs (F := Ideal)) (onTc (τ := Cert.BwdOutRefIdeal.τ) (Cert.BwdOutRefIdeal.main (F := Ideal))) ⟨m, fun _ => 0, g⟩ (fun r => (∀ c : Dev Cert.BwdOutRefIdeal.nD,
      r.2.mem ((c.tc : Thread Cert.BwdOutRefIdeal.nD Cert.BwdOutRefIdeal.τ).loc Cert.BwdOutRefIdeal.main_arg0) = m ((c.tc : Thread Cert.BwdOutRefIdeal.nD Cert.BwdOutRefIdeal.τ).loc Cert.BwdOutRefIdeal.main_arg0)
      ∧ r.2.mem ((c.tc : Thread Cert.BwdOutRefIdeal.nD Cert.BwdOutRefIdeal.τ).loc Cert.BwdOutRefIdeal.main_arg1) = m ((c.tc : Thread Cert.BwdOutRefIdeal.nD Cert.BwdOutRefIdeal.τ).loc Cert.BwdOutRefIdeal.main_arg1)
      ∧ r.2.mem ((c.tc : Thread Cert.BwdOutRefIdeal.nD Cert.BwdOutRefIdeal.τ).loc Cert.BwdOutRefIdeal.main_arg2) = m ((c.tc : Thread Cert.BwdOutRefIdeal.nD Cert.BwdOutRefIdeal.τ).loc Cert.BwdOutRefIdeal.main_arg2)
      ∧ r.2.mem ((c.tc : Thread Cert.BwdOutRefIdeal.nD Cert.BwdOutRefIdeal.τ).loc Cert.BwdOutRefIdeal.main_arg3) = m ((c.tc : Thread Cert.BwdOutRefIdeal.nD Cert.BwdOutRefIdeal.τ).loc Cert.BwdOutRefIdeal.main_arg3))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v73_0)) (v1 : (c : Dev Cert.PoolBwdIdeal.nD) → Buf (Elt Ideal) ((c.tc : Thread Cert.PoolBwdIdeal.nD Cert.PoolBwdIdeal.τ).loc Cert.PoolBwdIdeal.main_v73_1)) (v2 : (c : Dev Cert.PoolBwdIdeal.nD) → Buf (Elt Ideal) ((c.tc : Thread Cert.PoolBwdIdeal.nD Cert.PoolBwdIdeal.τ).loc Cert.PoolBwdIdeal.main_v73_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v73_0) = v0 c
          ∧ r.2.mem ((c.tc : Thread Cert.PoolBwdIdeal.nD Cert.PoolBwdIdeal.τ).loc Cert.PoolBwdIdeal.main_v73_1) = v1 c
          ∧ r.2.mem ((c.tc : Thread Cert.PoolBwdIdeal.nD Cert.PoolBwdIdeal.τ).loc Cert.PoolBwdIdeal.main_v73_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v188) = v0 c
          ∧ r.2.mem ((c.tc : Thread Cert.PoolBwdRefIdeal.nD Cert.PoolBwdRefIdeal.τ).loc Cert.PoolBwdRefIdeal.main_v123) = v1 c
          ∧ r.2.mem ((c.tc : Thread Cert.PoolBwdRefIdeal.nD Cert.PoolBwdRefIdeal.τ).loc Cert.PoolBwdRefIdeal.main_v192) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4))

def preserves_BwdFfn_BwdFfnIdeal : Prop :=
  True

def algebraic_BwdFfnIdeal_BwdFfnRefIdeal_pre_bwd_ffn_finite [hBwdFfnIdeal : Cert.BwdFfnIdeal.Facts] [hBwdFfnRefIdeal : Cert.BwdFfnRefIdeal.Facts] [hPre_bwd_ffn_finite : Cert.Pre_bwd_ffn_finite.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg)
    (m' : (ℓ : Loc Cert.BwdFfnRefIdeal.nD Cert.BwdFfnRefIdeal.τ Cert.BwdFfnRefIdeal.sig) → Buf (Elt Ideal) ℓ) (g' : Dev Cert.BwdFfnRefIdeal.nD → PrngReg), Pre_BwdFfnIdeal_bwd_ffn_finite m →
    (∀ c : Dev Cert.BwdFfnIdeal.nD,
      m' ((c.tc : Thread Cert.BwdFfnRefIdeal.nD Cert.BwdFfnRefIdeal.τ).loc Cert.BwdFfnRefIdeal.main_arg0) = m ((c.tc : Thread Cert.BwdFfnIdeal.nD Cert.BwdFfnIdeal.τ).loc Cert.BwdFfnIdeal.main_arg0)
      ∧ m' ((c.tc : Thread Cert.BwdFfnRefIdeal.nD Cert.BwdFfnRefIdeal.τ).loc Cert.BwdFfnRefIdeal.main_arg1) = m ((c.tc : Thread Cert.BwdFfnIdeal.nD Cert.BwdFfnIdeal.τ).loc Cert.BwdFfnIdeal.main_arg1)
      ∧ m' ((c.tc : Thread Cert.BwdFfnRefIdeal.nD Cert.BwdFfnRefIdeal.τ).loc Cert.BwdFfnRefIdeal.main_arg2) = m ((c.tc : Thread Cert.BwdFfnIdeal.nD Cert.BwdFfnIdeal.τ).loc Cert.BwdFfnIdeal.main_arg2)
      ∧ m' ((c.tc : Thread Cert.BwdFfnRefIdeal.nD Cert.BwdFfnRefIdeal.τ).loc Cert.BwdFfnRefIdeal.main_arg3) = m ((c.tc : Thread Cert.BwdFfnIdeal.nD Cert.BwdFfnIdeal.τ).loc Cert.BwdFfnIdeal.main_arg3)
      ∧ m' ((c.tc : Thread Cert.BwdFfnRefIdeal.nD Cert.BwdFfnRefIdeal.τ).loc Cert.BwdFfnRefIdeal.main_arg4) = m ((c.tc : Thread Cert.BwdFfnIdeal.nD Cert.BwdFfnIdeal.τ).loc Cert.BwdFfnIdeal.main_arg4)
      ∧ m' ((c.tc : Thread Cert.BwdFfnRefIdeal.nD Cert.BwdFfnRefIdeal.τ).loc Cert.BwdFfnRefIdeal.main_arg5) = m ((c.tc : Thread Cert.BwdFfnIdeal.nD Cert.BwdFfnIdeal.τ).loc Cert.BwdFfnIdeal.main_arg5)) →
    ∃ (v0 : (c : Dev Cert.BwdFfnIdeal.nD) → Buf (Elt Ideal) ((c.tc : Thread Cert.BwdFfnIdeal.nD Cert.BwdFfnIdeal.τ).loc Cert.BwdFfnIdeal.main_v29_0)) (v1 : (c : Dev Cert.BwdFfnIdeal.nD) → Buf (Elt Ideal) ((c.tc : Thread Cert.BwdFfnIdeal.nD Cert.BwdFfnIdeal.τ).loc Cert.BwdFfnIdeal.main_v29_1)) (v2 : (c : Dev Cert.BwdFfnIdeal.nD) → Buf (Elt Ideal) ((c.tc : Thread Cert.BwdFfnIdeal.nD Cert.BwdFfnIdeal.τ).loc Cert.BwdFfnIdeal.main_v29_2)) (v3 : (c : Dev Cert.BwdFfnIdeal.nD) → Buf (Elt Ideal) ((c.tc : Thread Cert.BwdFfnIdeal.nD Cert.BwdFfnIdeal.τ).loc Cert.BwdFfnIdeal.main_v29_3)),
      θ_run (Cert.BwdFfnIdeal.defs (F := Ideal)) (onTc (τ := Cert.BwdFfnIdeal.τ) (Cert.BwdFfnIdeal.main (F := Ideal))) ⟨m, fun _ => 0, g⟩ (fun r => ∀ c : Dev Cert.BwdFfnIdeal.nD,
          r.2.mem ((c.tc : Thread Cert.BwdFfnIdeal.nD Cert.BwdFfnIdeal.τ).loc Cert.BwdFfnIdeal.main_v29_0) = v0 c
          ∧ r.2.mem ((c.tc : Thread Cert.BwdFfnIdeal.nD Cert.BwdFfnIdeal.τ).loc Cert.BwdFfnIdeal.main_v29_1) = v1 c
          ∧ r.2.mem ((c.tc : Thread Cert.BwdFfnIdeal.nD Cert.BwdFfnIdeal.τ).loc Cert.BwdFfnIdeal.main_v29_2) = v2 c
          ∧ r.2.mem ((c.tc : Thread Cert.BwdFfnIdeal.nD Cert.BwdFfnIdeal.τ).loc Cert.BwdFfnIdeal.main_v29_3) = v3 c
          ∧ r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
          ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
          ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
          ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3)
          ∧ r.2.mem ((c.tc : Thread Cert.BwdFfnIdeal.nD Cert.BwdFfnIdeal.τ).loc Cert.BwdFfnIdeal.main_arg4) = m ((c.tc : Thread Cert.BwdFfnIdeal.nD Cert.BwdFfnIdeal.τ).loc Cert.BwdFfnIdeal.main_arg4)
          ∧ r.2.mem ((c.tc : Thread Cert.BwdFfnIdeal.nD Cert.BwdFfnIdeal.τ).loc Cert.BwdFfnIdeal.main_arg5) = m ((c.tc : Thread Cert.BwdFfnIdeal.nD Cert.BwdFfnIdeal.τ).loc Cert.BwdFfnIdeal.main_arg5))
      ∧ θ_run (Cert.BwdFfnRefIdeal.defs (F := Ideal)) (onTc (τ := Cert.BwdFfnRefIdeal.τ) (Cert.BwdFfnRefIdeal.main (F := Ideal))) ⟨m', fun _ => 0, g'⟩ (fun r => ∀ c : Dev Cert.BwdFfnRefIdeal.nD,
          r.2.mem ((c.tc : Thread Cert.BwdFfnRefIdeal.nD Cert.BwdFfnRefIdeal.τ).loc Cert.BwdFfnRefIdeal.main_v72) = v0 c
          ∧ r.2.mem ((c.tc : Thread Cert.BwdFfnRefIdeal.nD Cert.BwdFfnRefIdeal.τ).loc Cert.BwdFfnRefIdeal.main_v75) = v1 c
          ∧ r.2.mem ((c.tc : Thread Cert.BwdFfnRefIdeal.nD Cert.BwdFfnRefIdeal.τ).loc Cert.BwdFfnRefIdeal.main_v69) = v2 c
          ∧ r.2.mem ((c.tc : Thread Cert.BwdFfnRefIdeal.nD Cert.BwdFfnRefIdeal.τ).loc Cert.BwdFfnRefIdeal.main_v52) = v3 c
          ∧ r.2.mem ((c.tc : Thread Cert.BwdFfnRefIdeal.nD Cert.BwdFfnRefIdeal.τ).loc Cert.BwdFfnRefIdeal.main_arg0) = m' ((c.tc : Thread Cert.BwdFfnRefIdeal.nD Cert.BwdFfnRefIdeal.τ).loc Cert.BwdFfnRefIdeal.main_arg0)
          ∧ r.2.mem ((c.tc : Thread Cert.BwdFfnRefIdeal.nD Cert.BwdFfnRefIdeal.τ).loc Cert.BwdFfnRefIdeal.main_arg1) = m' ((c.tc : Thread Cert.BwdFfnRefIdeal.nD Cert.BwdFfnRefIdeal.τ).loc Cert.BwdFfnRefIdeal.main_arg1)
          ∧ r.2.mem ((c.tc : Thread Cert.BwdFfnRefIdeal.nD Cert.BwdFfnRefIdeal.τ).loc Cert.BwdFfnRefIdeal.main_arg2) = m' ((c.tc : Thread Cert.BwdFfnRefIdeal.nD Cert.BwdFfnRefIdeal.τ).loc Cert.BwdFfnRefIdeal.main_arg2)
          ∧ r.2.mem ((c.tc : Thread Cert.BwdFfnRefIdeal.nD Cert.BwdFfnRefIdeal.τ).loc Cert.BwdFfnRefIdeal.main_arg3) = m' ((c.tc : Thread Cert.BwdFfnRefIdeal.nD Cert.BwdFfnRefIdeal.τ).loc Cert.BwdFfnRefIdeal.main_arg3)
          ∧ r.2.mem ((c.tc : Thread Cert.BwdFfnRefIdeal.nD Cert.BwdFfnRefIdeal.τ).loc Cert.BwdFfnRefIdeal.main_arg4) = m' ((c.tc : Thread Cert.BwdFfnRefIdeal.nD Cert.BwdFfnRefIdeal.τ).loc Cert.BwdFfnRefIdeal.main_arg4)
          ∧ r.2.mem ((c.tc : Thread Cert.BwdFfnRefIdeal.nD Cert.BwdFfnRefIdeal.τ).loc Cert.BwdFfnRefIdeal.main_arg5) = m' ((c.tc : Thread Cert.BwdFfnRefIdeal.nD Cert.BwdFfnRefIdeal.τ).loc Cert.BwdFfnRefIdeal.main_arg5))

def preserves_GradFfn_GradFfnIdeal : Prop :=
  True

def algebraic_GradFfnIdeal_GradFfnRefIdeal [hGradFfnIdeal : Cert.GradFfnIdeal.Facts] [hGradFfnRefIdeal : Cert.GradFfnRefIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradFfnRefIdeal.nD Cert.GradFfnRefIdeal.τ Cert.GradFfnRefIdeal.sig) → Buf (Elt Ideal) ℓ) (g' : Dev Cert.GradFfnRefIdeal.nD → PrngReg), Pre_GradFfnIdeal m →
    (∀ c : Dev Cert.GradFfnIdeal.nD,
      m' ((c.tc : Thread Cert.GradFfnRefIdeal.nD Cert.GradFfnRefIdeal.τ).loc Cert.GradFfnRefIdeal.main_arg0) = m ((c.tc : Thread Cert.GradFfnIdeal.nD Cert.GradFfnIdeal.τ).loc Cert.GradFfnIdeal.main_arg0)
      ∧ m' ((c.tc : Thread Cert.GradFfnRefIdeal.nD Cert.GradFfnRefIdeal.τ).loc Cert.GradFfnRefIdeal.main_arg1) = m ((c.tc : Thread Cert.GradFfnIdeal.nD Cert.GradFfnIdeal.τ).loc Cert.GradFfnIdeal.main_arg1)
      ∧ m' ((c.tc : Thread Cert.GradFfnRefIdeal.nD Cert.GradFfnRefIdeal.τ).loc Cert.GradFfnRefIdeal.main_arg2) = m ((c.tc : Thread Cert.GradFfnIdeal.nD Cert.GradFfnIdeal.τ).loc Cert.GradFfnIdeal.main_arg2)
      ∧ m' ((c.tc : Thread Cert.GradFfnRefIdeal.nD Cert.GradFfnRefIdeal.τ).loc Cert.GradFfnRefIdeal.main_arg3) = m ((c.tc : Thread Cert.GradFfnIdeal.nD Cert.GradFfnIdeal.τ).loc Cert.GradFfnIdeal.main_arg3)
      ∧ m' ((c.tc : Thread Cert.GradFfnRefIdeal.nD Cert.GradFfnRefIdeal.τ).loc Cert.GradFfnRefIdeal.main_arg4) = m ((c.tc : Thread Cert.GradFfnIdeal.nD Cert.GradFfnIdeal.τ).loc Cert.GradFfnIdeal.main_arg4)
      ∧ m' ((c.tc : Thread Cert.GradFfnRefIdeal.nD Cert.GradFfnRefIdeal.τ).loc Cert.GradFfnRefIdeal.main_arg5) = m ((c.tc : Thread Cert.GradFfnIdeal.nD Cert.GradFfnIdeal.τ).loc Cert.GradFfnIdeal.main_arg5)) →
    ∃ (v0 : (c : Dev Cert.GradFfnIdeal.nD) → Buf (Elt Ideal) ((c.tc : Thread Cert.GradFfnIdeal.nD Cert.GradFfnIdeal.τ).loc Cert.GradFfnIdeal.main_v32_0)) (v1 : (c : Dev Cert.GradFfnIdeal.nD) → Buf (Elt Ideal) ((c.tc : Thread Cert.GradFfnIdeal.nD Cert.GradFfnIdeal.τ).loc Cert.GradFfnIdeal.main_v32_1)) (v2 : (c : Dev Cert.GradFfnIdeal.nD) → Buf (Elt Ideal) ((c.tc : Thread Cert.GradFfnIdeal.nD Cert.GradFfnIdeal.τ).loc Cert.GradFfnIdeal.main_v32_2)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v32_0) = v0 c
          ∧ r.2.mem ((c.tc : Thread Cert.GradFfnIdeal.nD Cert.GradFfnIdeal.τ).loc Cert.GradFfnIdeal.main_v32_1) = v1 c
          ∧ r.2.mem ((c.tc : Thread Cert.GradFfnIdeal.nD Cert.GradFfnIdeal.τ).loc Cert.GradFfnIdeal.main_v32_2) = v2 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1)
          ∧ r.2.mem ((c.tc : Thread Cert.GradFfnIdeal.nD Cert.GradFfnIdeal.τ).loc Cert.GradFfnIdeal.main_arg2) = m ((c.tc : Thread Cert.GradFfnIdeal.nD Cert.GradFfnIdeal.τ).loc Cert.GradFfnIdeal.main_arg2)
          ∧ r.2.mem ((c.tc : Thread Cert.GradFfnIdeal.nD Cert.GradFfnIdeal.τ).loc Cert.GradFfnIdeal.main_arg3) = m ((c.tc : Thread Cert.GradFfnIdeal.nD Cert.GradFfnIdeal.τ).loc Cert.GradFfnIdeal.main_arg3)
          ∧ r.2.mem ((c.tc : Thread Cert.GradFfnIdeal.nD Cert.GradFfnIdeal.τ).loc Cert.GradFfnIdeal.main_arg4) = m ((c.tc : Thread Cert.GradFfnIdeal.nD Cert.GradFfnIdeal.τ).loc Cert.GradFfnIdeal.main_arg4)
          ∧ r.2.mem ((c.tc : Thread Cert.GradFfnIdeal.nD Cert.GradFfnIdeal.τ).loc Cert.GradFfnIdeal.main_arg5) = m ((c.tc : Thread Cert.GradFfnIdeal.nD Cert.GradFfnIdeal.τ).loc Cert.GradFfnIdeal.main_arg5))
      ∧ θ_run (Cert.GradFfnRefIdeal.defs (F := Ideal)) (onTc (τ := Cert.GradFfnRefIdeal.τ) (Cert.GradFfnRefIdeal.main (F := Ideal))) ⟨m', fun _ => 0, g'⟩ (fun r => ∀ c : Dev Cert.GradFfnRefIdeal.nD,
          r.2.mem ((c.tc : Thread Cert.GradFfnRefIdeal.nD Cert.GradFfnRefIdeal.τ).loc Cert.GradFfnRefIdeal.main_v30) = v0 c
          ∧ r.2.mem ((c.tc : Thread Cert.GradFfnRefIdeal.nD Cert.GradFfnRefIdeal.τ).loc Cert.GradFfnRefIdeal.main_v31) = v1 c
          ∧ r.2.mem ((c.tc : Thread Cert.GradFfnRefIdeal.nD Cert.GradFfnRefIdeal.τ).loc Cert.GradFfnRefIdeal.main_v32) = v2 c
          ∧ r.2.mem ((c.tc : Thread Cert.GradFfnRefIdeal.nD Cert.GradFfnRefIdeal.τ).loc Cert.GradFfnRefIdeal.main_arg0) = m' ((c.tc : Thread Cert.GradFfnRefIdeal.nD Cert.GradFfnRefIdeal.τ).loc Cert.GradFfnRefIdeal.main_arg0)
          ∧ r.2.mem ((c.tc : Thread Cert.GradFfnRefIdeal.nD Cert.GradFfnRefIdeal.τ).loc Cert.GradFfnRefIdeal.main_arg1) = m' ((c.tc : Thread Cert.GradFfnRefIdeal.nD Cert.GradFfnRefIdeal.τ).loc Cert.GradFfnRefIdeal.main_arg1)
          ∧ r.2.mem ((c.tc : Thread Cert.GradFfnRefIdeal.nD Cert.GradFfnRefIdeal.τ).loc Cert.GradFfnRefIdeal.main_arg2) = m' ((c.tc : Thread Cert.GradFfnRefIdeal.nD Cert.GradFfnRefIdeal.τ).loc Cert.GradFfnRefIdeal.main_arg2)
          ∧ r.2.mem ((c.tc : Thread Cert.GradFfnRefIdeal.nD Cert.GradFfnRefIdeal.τ).loc Cert.GradFfnRefIdeal.main_arg3) = m' ((c.tc : Thread Cert.GradFfnRefIdeal.nD Cert.GradFfnRefIdeal.τ).loc Cert.GradFfnRefIdeal.main_arg3)
          ∧ r.2.mem ((c.tc : Thread Cert.GradFfnRefIdeal.nD Cert.GradFfnRefIdeal.τ).loc Cert.GradFfnRefIdeal.main_arg4) = m' ((c.tc : Thread Cert.GradFfnRefIdeal.nD Cert.GradFfnRefIdeal.τ).loc Cert.GradFfnRefIdeal.main_arg4)
          ∧ r.2.mem ((c.tc : Thread Cert.GradFfnRefIdeal.nD Cert.GradFfnRefIdeal.τ).loc Cert.GradFfnRefIdeal.main_arg5) = m' ((c.tc : Thread Cert.GradFfnRefIdeal.nD Cert.GradFfnRefIdeal.τ).loc Cert.GradFfnRefIdeal.main_arg5))

def preserves_BwdOut_BwdOutIdeal : Prop :=
  True

def algebraic_BwdOutIdeal_BwdOutRefIdeal [hBwdOutIdeal : Cert.BwdOutIdeal.Facts] [hBwdOutRefIdeal : Cert.BwdOutRefIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg)
    (m' : (ℓ : Loc Cert.BwdOutRefIdeal.nD Cert.BwdOutRefIdeal.τ Cert.BwdOutRefIdeal.sig) → Buf (Elt Ideal) ℓ) (g' : Dev Cert.BwdOutRefIdeal.nD → PrngReg), Pre_BwdOutIdeal m →
    (∀ c : Dev Cert.BwdOutIdeal.nD,
      m' ((c.tc : Thread Cert.BwdOutRefIdeal.nD Cert.BwdOutRefIdeal.τ).loc Cert.BwdOutRefIdeal.main_arg0) = m ((c.tc : Thread Cert.BwdOutIdeal.nD Cert.BwdOutIdeal.τ).loc Cert.BwdOutIdeal.main_arg0)
      ∧ m' ((c.tc : Thread Cert.BwdOutRefIdeal.nD Cert.BwdOutRefIdeal.τ).loc Cert.BwdOutRefIdeal.main_arg1) = m ((c.tc : Thread Cert.BwdOutIdeal.nD Cert.BwdOutIdeal.τ).loc Cert.BwdOutIdeal.main_arg1)
      ∧ m' ((c.tc : Thread Cert.BwdOutRefIdeal.nD Cert.BwdOutRefIdeal.τ).loc Cert.BwdOutRefIdeal.main_arg2) = m ((c.tc : Thread Cert.BwdOutIdeal.nD Cert.BwdOutIdeal.τ).loc Cert.BwdOutIdeal.main_arg2)
      ∧ m' ((c.tc : Thread Cert.BwdOutRefIdeal.nD Cert.BwdOutRefIdeal.τ).loc Cert.BwdOutRefIdeal.main_arg3) = m ((c.tc : Thread Cert.BwdOutIdeal.nD Cert.BwdOutIdeal.τ).loc Cert.BwdOutIdeal.main_arg3)) →
    ∃ (v0 : (c : Dev Cert.BwdOutIdeal.nD) → Buf (Elt Ideal) ((c.tc : Thread Cert.BwdOutIdeal.nD Cert.BwdOutIdeal.τ).loc Cert.BwdOutIdeal.main_v4_0)) (v1 : (c : Dev Cert.BwdOutIdeal.nD) → Buf (Elt Ideal) ((c.tc : Thread Cert.BwdOutIdeal.nD Cert.BwdOutIdeal.τ).loc Cert.BwdOutIdeal.main_v4_1)) (v2 : (c : Dev Cert.BwdOutIdeal.nD) → Buf (Elt Ideal) ((c.tc : Thread Cert.BwdOutIdeal.nD Cert.BwdOutIdeal.τ).loc Cert.BwdOutIdeal.main_v4_2)),
      θ_run (Cert.BwdOutIdeal.defs (F := Ideal)) (onTc (τ := Cert.BwdOutIdeal.τ) (Cert.BwdOutIdeal.main (F := Ideal))) ⟨m, fun _ => 0, g⟩ (fun r => ∀ c : Dev Cert.BwdOutIdeal.nD,
          r.2.mem ((c.tc : Thread Cert.BwdOutIdeal.nD Cert.BwdOutIdeal.τ).loc Cert.BwdOutIdeal.main_v4_0) = v0 c
          ∧ r.2.mem ((c.tc : Thread Cert.BwdOutIdeal.nD Cert.BwdOutIdeal.τ).loc Cert.BwdOutIdeal.main_v4_1) = v1 c
          ∧ r.2.mem ((c.tc : Thread Cert.BwdOutIdeal.nD Cert.BwdOutIdeal.τ).loc Cert.BwdOutIdeal.main_v4_2) = v2 c
          ∧ r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
          ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
          ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
          ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3))
      ∧ θ_run (Cert.BwdOutRefIdeal.defs (F := Ideal)) (onTc (τ := Cert.BwdOutRefIdeal.τ) (Cert.BwdOutRefIdeal.main (F := Ideal))) ⟨m', fun _ => 0, g'⟩ (fun r => ∀ c : Dev Cert.BwdOutRefIdeal.nD,
          r.2.mem ((c.tc : Thread Cert.BwdOutRefIdeal.nD Cert.BwdOutRefIdeal.τ).loc Cert.BwdOutRefIdeal.main_v8) = v0 c
          ∧ r.2.mem ((c.tc : Thread Cert.BwdOutRefIdeal.nD Cert.BwdOutRefIdeal.τ).loc Cert.BwdOutRefIdeal.main_v6) = v1 c
          ∧ r.2.mem ((c.tc : Thread Cert.BwdOutRefIdeal.nD Cert.BwdOutRefIdeal.τ).loc Cert.BwdOutRefIdeal.main_v3) = v2 c
          ∧ r.2.mem ((c.tc : Thread Cert.BwdOutRefIdeal.nD Cert.BwdOutRefIdeal.τ).loc Cert.BwdOutRefIdeal.main_arg0) = m' ((c.tc : Thread Cert.BwdOutRefIdeal.nD Cert.BwdOutRefIdeal.τ).loc Cert.BwdOutRefIdeal.main_arg0)
          ∧ r.2.mem ((c.tc : Thread Cert.BwdOutRefIdeal.nD Cert.BwdOutRefIdeal.τ).loc Cert.BwdOutRefIdeal.main_arg1) = m' ((c.tc : Thread Cert.BwdOutRefIdeal.nD Cert.BwdOutRefIdeal.τ).loc Cert.BwdOutRefIdeal.main_arg1)
          ∧ r.2.mem ((c.tc : Thread Cert.BwdOutRefIdeal.nD Cert.BwdOutRefIdeal.τ).loc Cert.BwdOutRefIdeal.main_arg2) = m' ((c.tc : Thread Cert.BwdOutRefIdeal.nD Cert.BwdOutRefIdeal.τ).loc Cert.BwdOutRefIdeal.main_arg2)
          ∧ r.2.mem ((c.tc : Thread Cert.BwdOutRefIdeal.nD Cert.BwdOutRefIdeal.τ).loc Cert.BwdOutRefIdeal.main_arg3) = m' ((c.tc : Thread Cert.BwdOutRefIdeal.nD Cert.BwdOutRefIdeal.τ).loc Cert.BwdOutRefIdeal.main_arg3))

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)) →
    ∃ (v0 : (c : Dev Cert.BwdInIdeal.nD) → Buf (Elt Ideal) ((c.tc : Thread Cert.BwdInIdeal.nD Cert.BwdInIdeal.τ).loc Cert.BwdInIdeal.main_v1_0)) (v1 : (c : Dev Cert.BwdInIdeal.nD) → Buf (Elt Ideal) ((c.tc : Thread Cert.BwdInIdeal.nD Cert.BwdInIdeal.τ).loc Cert.BwdInIdeal.main_v1_1)) (v2 : (c : Dev Cert.BwdInIdeal.nD) → Buf (Elt Ideal) ((c.tc : Thread Cert.BwdInIdeal.nD Cert.BwdInIdeal.τ).loc Cert.BwdInIdeal.main_v1_2)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v1_0) = v0 c
          ∧ r.2.mem ((c.tc : Thread Cert.BwdInIdeal.nD Cert.BwdInIdeal.τ).loc Cert.BwdInIdeal.main_v1_1) = v1 c
          ∧ r.2.mem ((c.tc : Thread Cert.BwdInIdeal.nD Cert.BwdInIdeal.τ).loc Cert.BwdInIdeal.main_v1_2) = v2 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v43) = v0 c
          ∧ r.2.mem ((c.tc : Thread Cert.BwdInRefIdeal.nD Cert.BwdInRefIdeal.τ).loc Cert.BwdInRefIdeal.main_v22) = v1 c
          ∧ r.2.mem ((c.tc : Thread Cert.BwdInRefIdeal.nD Cert.BwdInRefIdeal.τ).loc Cert.BwdInRefIdeal.main_v26) = v2 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v2_0)) (v1 : (c : Dev Cert.FwdInIdeal.nD) → Buf (Elt Ideal) ((c.tc : Thread Cert.FwdInIdeal.nD Cert.FwdInIdeal.τ).loc Cert.FwdInIdeal.main_v2_1)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v2_0) = v0 c
          ∧ r.2.mem ((c.tc : Thread Cert.FwdInIdeal.nD Cert.FwdInIdeal.τ).loc Cert.FwdInIdeal.main_v2_1) = v1 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v16) = v0 c
          ∧ r.2.mem ((c.tc : Thread Cert.FwdInRefIdeal.nD Cert.FwdInRefIdeal.τ).loc Cert.FwdInRefIdeal.main_v14) = v1 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)
      ∧ m' ((c.tc : Thread Cert.PoolFwdRefIdeal.nD Cert.PoolFwdRefIdeal.τ).loc Cert.PoolFwdRefIdeal.main_arg3) = m ((c.tc : Thread Cert.PoolFwdIdeal.nD Cert.PoolFwdIdeal.τ).loc Cert.PoolFwdIdeal.main_arg3)) →
    ∃ (v0 : (c : Dev Cert.PoolFwdIdeal.nD) → Buf (Elt Ideal) ((c.tc : Thread Cert.PoolFwdIdeal.nD Cert.PoolFwdIdeal.τ).loc Cert.PoolFwdIdeal.main_v6_0)) (v1 : (c : Dev Cert.PoolFwdIdeal.nD) → Buf (Elt Ideal) ((c.tc : Thread Cert.PoolFwdIdeal.nD Cert.PoolFwdIdeal.τ).loc Cert.PoolFwdIdeal.main_v6_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v6_0) = v0 c
          ∧ r.2.mem ((c.tc : Thread Cert.PoolFwdIdeal.nD Cert.PoolFwdIdeal.τ).loc Cert.PoolFwdIdeal.main_v6_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v67) = v0 c
          ∧ r.2.mem ((c.tc : Thread Cert.PoolFwdRefIdeal.nD Cert.PoolFwdRefIdeal.τ).loc Cert.PoolFwdRefIdeal.main_v87) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
          ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3))

def Claim : Prop :=
  ∃ (hPoolBwd : Cert.PoolBwd.Facts) (hPoolBwdIdeal : Cert.PoolBwdIdeal.Facts) (hPoolBwdRefIdeal : Cert.PoolBwdRefIdeal.Facts) (hBwdFfn : Cert.BwdFfn.Facts) (hBwdFfnIdeal : Cert.BwdFfnIdeal.Facts) (hBwdFfnRefIdeal : Cert.BwdFfnRefIdeal.Facts) (hGradFfn : Cert.GradFfn.Facts) (hGradFfnIdeal : Cert.GradFfnIdeal.Facts) (hGradFfnRefIdeal : Cert.GradFfnRefIdeal.Facts) (hBwdOut : Cert.BwdOut.Facts) (hBwdOutIdeal : Cert.BwdOutIdeal.Facts) (hBwdOutRefIdeal : Cert.BwdOutRefIdeal.Facts) (hBwdIn : Cert.BwdIn.Facts) (hBwdInIdeal : Cert.BwdInIdeal.Facts) (hBwdInRefIdeal : Cert.BwdInRefIdeal.Facts) (hFwdIn : Cert.FwdIn.Facts) (hFwdInIdeal : Cert.FwdInIdeal.Facts) (hFwdInRefIdeal : Cert.FwdInRefIdeal.Facts) (hPoolFwd : Cert.PoolFwd.Facts) (hPoolFwdIdeal : Cert.PoolFwdIdeal.Facts) (hPoolFwdRefIdeal : Cert.PoolFwdRefIdeal.Facts) (hPre_pool_bwd_finite : Cert.Pre_pool_bwd_finite.Facts) (hPre_bwd_ffn_finite : Cert.Pre_bwd_ffn_finite.Facts) (hPre_pool_fwd_finite : Cert.Pre_pool_fwd_finite.Facts),
    quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_BwdFfn (hBwdFfn := hBwdFfn)
    ∧ quiescent_BwdFfnIdeal (hBwdFfnIdeal := hBwdFfnIdeal)
    ∧ quiescent_BwdFfnIdeal_pre_bwd_ffn_finite (hBwdFfnIdeal := hBwdFfnIdeal) (hPre_bwd_ffn_finite := hPre_bwd_ffn_finite)
    ∧ quiescent_BwdFfnRefIdeal (hBwdFfnRefIdeal := hBwdFfnRefIdeal)
    ∧ quiescent_BwdFfnRefIdeal_pre_bwd_ffn_finite (hBwdFfnRefIdeal := hBwdFfnRefIdeal) (hPre_bwd_ffn_finite := hPre_bwd_ffn_finite)
    ∧ quiescent_GradFfn (hGradFfn := hGradFfn)
    ∧ quiescent_GradFfnIdeal (hGradFfnIdeal := hGradFfnIdeal)
    ∧ quiescent_GradFfnRefIdeal (hGradFfnRefIdeal := hGradFfnRefIdeal)
    ∧ quiescent_BwdOut (hBwdOut := hBwdOut)
    ∧ quiescent_BwdOutIdeal (hBwdOutIdeal := hBwdOutIdeal)
    ∧ quiescent_BwdOutRefIdeal (hBwdOutRefIdeal := hBwdOutRefIdeal)
    ∧ quiescent_BwdIn (hBwdIn := hBwdIn)
    ∧ quiescent_BwdInIdeal (hBwdInIdeal := hBwdInIdeal)
    ∧ quiescent_BwdInRefIdeal (hBwdInRefIdeal := hBwdInRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_BwdFfn_BwdFfnIdeal
    ∧ algebraic_BwdFfnIdeal_BwdFfnRefIdeal_pre_bwd_ffn_finite (hBwdFfnIdeal := hBwdFfnIdeal) (hBwdFfnRefIdeal := hBwdFfnRefIdeal) (hPre_bwd_ffn_finite := hPre_bwd_ffn_finite)
    ∧ preserves_GradFfn_GradFfnIdeal
    ∧ algebraic_GradFfnIdeal_GradFfnRefIdeal (hGradFfnIdeal := hGradFfnIdeal) (hGradFfnRefIdeal := hGradFfnRefIdeal)
    ∧ preserves_BwdOut_BwdOutIdeal
    ∧ algebraic_BwdOutIdeal_BwdOutRefIdeal (hBwdOutIdeal := hBwdOutIdeal) (hBwdOutRefIdeal := hBwdOutRefIdeal)
    ∧ preserves_BwdIn_BwdInIdeal
    ∧ algebraic_BwdInIdeal_BwdInRefIdeal (hBwdInIdeal := hBwdInIdeal) (hBwdInRefIdeal := hBwdInRefIdeal)
    ∧ preserves_FwdIn_FwdInIdeal
    ∧ algebraic_FwdInIdeal_FwdInRefIdeal (hFwdInIdeal := hFwdInIdeal) (hFwdInRefIdeal := hFwdInRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
-- ==== Pre_bwd_ffn_finite.lean ====
abbrev S4160x1024 : Shape := ⟨2, ![4160, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S4160x1024 : S_.BroadcastsInDim S4160x1024 (![] : Fin 0 → Fin S4160x1024.rank)

variable [Facts]

def fn {F : FTy → Type} [FloatOps F] (main_arg0 : FVec F S4160x1024 .f32) (main_arg1 : FVec F S1x1024 .f32) (main_arg2 : FVec F S1024x2816 .f32) (main_arg3 : FVec F S1024x2816 .f32) (main_arg4 : FVec F S2816x1024 .f32) (main_arg5 : FVec F S4160x1024 .f32) : IVec S1x1024 1 × IVec S1024x2816 1 × IVec S2816x1024 1 × IVec S4160x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4160x1024 .f32 := Host.absf main_arg5
  let main_cst_2 : FVec F S_ .f32 := constant S_ .f32 0x7F800000#32
  let main_v10 : FVec F S4160x1024 .f32 := broadcastInDim S4160x1024 ![] bcast_S_S4160x1024 main_cst_2
  let main_v11 : IVec S4160x1024 1 := cmpf .olt main_v9 main_v10
  (main_v2, main_v5, main_v8, main_v11)
-- ==== Pre_pool_bwd_finite.lean ====
abbrev S4160x512 : Shape := ⟨2, ![4160, 512]⟩
abbrev S4x128x128 : Shape := ⟨3, ![4, 128, 128]⟩
abbrev S4x128 : Shape := ⟨2, ![4, 128]⟩
abbrev S512 : Shape := ⟨1, ![512]⟩
abbrev S_ : Shape := ⟨0, ![]⟩

class Facts : Prop where
  bcast_S_S4x128x128 : S_.BroadcastsInDim S4x128x128 (![] : Fin 0 → Fin S4x128x128.rank)
  bcast_S_S4x128 : S_.BroadcastsInDim S4x128 (![] : Fin 0 → Fin S4x128.rank)
  bcast_S_S512 : S_.BroadcastsInDim S512 (![] : Fin 0 → Fin S512.rank)
  bcast_S_S4160x512 : S_.BroadcastsInDim S4160x512 (![] : Fin 0 → Fin S4160x512.rank)

variable [Facts]

def fn {F : FTy → Type} [FloatOps F] (main_arg0 : FVec F S4160x512 .f32) (main_arg1 : FVec F S4x128x128 .f32) (main_arg2 : FVec F S4x128 .f32) (main_arg3 : FVec F S512 .f32) (main_arg4 : FVec F S4160x512 .f32) : IVec S4x128x128 1 × IVec S4x128 1 × IVec S512 1 × IVec S4160x512 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_v3 : FVec F S4x128 .f32 := Host.absf main_arg2
  let main_cst_0 : FVec F S_ .f32 := constant S_ .f32 0x7F800000#32
  let main_v4 : FVec F S4x128 .f32 := broadcastInDim S4x128 ![] bcast_S_S4x128 main_cst_0
  let main_v5 : IVec S4x128 1 := cmpf .olt main_v3 main_v4
  let main_v6 : FVec F S512 .f32 := Host.absf main_arg3
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4160x512 .f32 := Host.absf main_arg4
  let main_cst_2 : FVec F S_ .f32 := constant S_ .f32 0x7F800000#32
  let main_v10 : FVec F S4160x512 .f32 := broadcastInDim S4160x512 ![] bcast_S_S4160x512 main_cst_2
  let main_v11 : IVec S4160x512 1 := cmpf .olt main_v9 main_v10
  (main_v2, main_v5, main_v8, main_v11)
-- ==== Pre_pool_fwd_finite.lean ====
abbrev S4160x512 : Shape := ⟨2, ![4160, 512]⟩
abbrev S4x128x128 : Shape := ⟨3, ![4, 128, 128]⟩
abbrev S4x128 : Shape := ⟨2, ![4, 128]⟩
abbrev S512 : Shape := ⟨1, ![512]⟩
abbrev S_ : Shape := ⟨0, ![]⟩

class Facts : Prop where
  bcast_S_S4160x512 : S_.BroadcastsInDim S4160x512 (![] : Fin 0 → Fin S4160x512.rank)

variable [Facts]

def fn {F : FTy → Type} [FloatOps F] (main_arg0 : FVec F S4160x512 .f32) (main_arg1 : FVec F S4x128x128 .f32) (main_arg2 : FVec F S4x128 .f32) (main_arg3 : FVec F S512 .f32) : IVec S4160x512 1 :=
  let main_v0 : FVec F S4160x512 .f32 := Host.absf main_arg0
  let main_cst : FVec F S_ .f32 := constant S_ .f32 0x7F800000#32
  let main_v1 : FVec F S4160x512 .f32 := broadcastInDim S4160x512 ![] bcast_S_S4160x512 main_cst
  let main_v2 : IVec S4160x512 1 := cmpf .olt main_v0 main_v1
  main_v2
-- ==== PoolBwd.lean ====
abbrev S4160x512 : Shape := ⟨2, ![4160, 512]⟩
abbrev S4x128x128 : Shape := ⟨3, ![4, 128, 128]⟩
abbrev S4x128 : Shape := ⟨2, ![4, 128]⟩
abbrev S512 : Shape := ⟨1, ![512]⟩
abbrev S4160x4x128 : Shape := ⟨3, ![4160, 4, 128]⟩
abbrev S_ : Shape := ⟨0, ![]⟩
abbrev S4160 : Shape := ⟨1, ![4160]⟩
abbrev S4160x1x128 : Shape := ⟨3, ![4160, 1, 128]⟩
abbrev S4160x128 : Shape := ⟨2, ![4160, 128]⟩
abbrev S2x128 : Shape := ⟨2, ![2, 128]⟩
abbrev S4158x128 : Shape := ⟨2, ![4158, 128]⟩
abbrev S4160x1 : Shape := ⟨2, ![4160, 1]⟩
abbrev S4156x128 : Shape := ⟨2, ![4156, 128]⟩
abbrev S8x128 : Shape := ⟨2, ![8, 128]⟩
abbrev S4152x128 : Shape := ⟨2, ![4152, 128]⟩
abbrev S16x128 : Shape := ⟨2, ![16, 128]⟩
abbrev S4144x128 : Shape := ⟨2, ![4144, 128]⟩
abbrev S1x512 : Shape := ⟨2, ![1, 512]⟩
abbrev S2x512 : Shape := ⟨2, ![2, 512]⟩
abbrev S8x512 : Shape := ⟨2, ![8, 512]⟩
abbrev S320x512 : Shape := ⟨2, ![320, 512]⟩
abbrev S16x512 : Shape := ⟨2, ![16, 512]⟩
abbrev S320x128 : Shape := ⟨2, ![320, 128]⟩
abbrev S1x128x128 : Shape := ⟨3, ![1, 128, 128]⟩
abbrev S128x128 : Shape := ⟨2, ![128, 128]⟩
abbrev S320 : Shape := ⟨1, ![320]⟩
abbrev S320x1 : Shape := ⟨2, ![320, 1]⟩
abbrev S336x512 : Shape := ⟨2, ![336, 512]⟩
abbrev S336x128 : Shape := ⟨2, ![336, 128]⟩

abbrev nBuf : Space → Nat
  | .hbm => 94
  | .vmem => 11
  | .smem => 0
  | _ => 0

abbrev bufTy : (tb : Table) → Fin (tcTables nBuf tb) → BufTy
  | .hbm, ⟨0, _⟩ => ⟨S4160x512, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S4160x512, .f32⟩
  | .hbm, ⟨5, _⟩ => ⟨S4160x4x128, .f32⟩
  | .hbm, ⟨6, _⟩ => ⟨S_, .f32⟩
  | .hbm, ⟨7, _⟩ => ⟨S_, .f32⟩
  | .hbm, ⟨8, _⟩ => ⟨S4160x4x128, .f32⟩
  | .hbm, ⟨9, _⟩ => ⟨S4160, .f32⟩
  | .hbm, ⟨10, _⟩ => ⟨S_, .f32⟩
  | .hbm, ⟨11, _⟩ => ⟨S4160, .f32⟩
  | .hbm, ⟨12, _⟩ => ⟨S4160, .f32⟩
  | .hbm, ⟨13, _⟩ => ⟨S4160x1x128, .f32⟩
  | .hbm, ⟨14, _⟩ => ⟨S4160x128, .f32⟩
  | .hbm, ⟨15, _⟩ => ⟨S_, .f32⟩
  | .hbm, ⟨16, _⟩ => ⟨S2x128, .f32⟩
  | .hbm, ⟨17, _⟩ => ⟨S4158x128, .f32⟩
  | .hbm, ⟨18, _⟩ => ⟨S4160x128, .f32⟩
  | .hbm, ⟨19, _⟩ => ⟨S_, .f32⟩
  | .hbm, ⟨20, _⟩ => ⟨S4160, .f32⟩
  | .hbm, ⟨21, _⟩ => ⟨S4160, .f32⟩
  | .hbm, ⟨22, _⟩ => ⟨S4160x1, .f32⟩
  | .hbm, ⟨23, _⟩ => ⟨S4160x128, .f32⟩
  | .hbm, ⟨24, _⟩ => ⟨S4160x128, .f32⟩
  | .hbm, ⟨25, _⟩ => ⟨S4160x128, .f32⟩
  | .hbm, ⟨26, _⟩ => ⟨S4160x1x128, .f32⟩
  | .hbm, ⟨27, _⟩ => ⟨S4160x128, .f32⟩
  | .hbm, ⟨28, _⟩ => ⟨S4160x128, .f32⟩
  | .hbm, ⟨29, _⟩ => ⟨S4160x1x128, .f32⟩
  | .hbm, ⟨30, _⟩ => ⟨S4160x128, .f32⟩
  | .hbm, ⟨31, _⟩ => ⟨S_, .f32⟩
  | .hbm, ⟨32, _⟩ => ⟨S4x128, .f32⟩
  | .hbm, ⟨33, _⟩ => ⟨S4156x128, .f32⟩
  | .hbm, ⟨34, _⟩ => ⟨S4160x128, .f32⟩
  | .hbm, ⟨35, _⟩ => ⟨S_, .f32⟩
  | .hbm, ⟨36, _⟩ => ⟨S4160, .f32⟩
  | .hbm, ⟨37, _⟩ => ⟨S4160, .f32⟩
  | .hbm, ⟨38, _⟩ => ⟨S4160x1, .f32⟩
  | .hbm, ⟨39, _⟩ => ⟨S4160x128, .f32⟩
  | .hbm, ⟨40, _⟩ => ⟨S4160x128, .f32⟩
  | .hbm, ⟨41, _⟩ => ⟨S4160x128, .f32⟩
  | .hbm, ⟨42, _⟩ => ⟨S4160x1x128, .f32⟩
  | .hbm, ⟨43, _⟩ => ⟨S4160x128, .f32⟩
  | .hbm, ⟨44, _⟩ => ⟨S4160x128, .f32⟩
  | .hbm, ⟨45, _⟩ => ⟨S4160x1x128, .f32⟩
  | .hbm, ⟨46, _⟩ => ⟨S4160x128, .f32⟩
  | .hbm, ⟨47, _⟩ => ⟨S_, .f32⟩
  | .hbm, ⟨48, _⟩ => ⟨S8x128, .f32⟩
  | .hbm, ⟨49, _⟩ => ⟨S4152x128, .f32⟩
  | .hbm, ⟨50, _⟩ => ⟨S4160x128, .f32⟩
  | .hbm, ⟨51, _⟩ => ⟨S_, .f32⟩
  | .hbm, ⟨52, _⟩ => ⟨S4160, .f32⟩
  | .hbm, ⟨53, _⟩ => ⟨S4160, .f32⟩
  | .hbm, ⟨54, _⟩ => ⟨S4160x1, .f32⟩
  | .hbm, ⟨55, _⟩ => ⟨S4160x128, .f32⟩
  | .hbm, ⟨56, _⟩ => ⟨S4160x128, .f32⟩
  | .hbm, ⟨57, _⟩ => ⟨S4160x128, .f32⟩
  | .hbm, ⟨58, _⟩ => ⟨S4160x1x128, .f32⟩
  | .hbm, ⟨59, _⟩ => ⟨S4160x128, .f32⟩
  | .hbm, ⟨60, _⟩ => ⟨S4160x128, .f32⟩
  | .hbm, ⟨61, _⟩ => ⟨S4160x1x128, .f32⟩
  | .hbm, ⟨62, _⟩ => ⟨S4160x128, .f32⟩
  | .hbm, ⟨63, _⟩ => ⟨S_, .f32⟩
  | .hbm, ⟨64, _⟩ => ⟨S16x128, .f32⟩
  | .hbm, ⟨65, _⟩ => ⟨S4144x128, .f32⟩
  | .hbm, ⟨66, _⟩ => ⟨S4160x128, .f32⟩
  | .hbm, ⟨67, _⟩ => ⟨S_, .f32⟩
  | .hbm, ⟨68, _⟩ => ⟨S4160, .f32⟩
  | .hbm, ⟨69, _⟩ => ⟨S4160, .f32⟩
  | .hbm, ⟨70, _⟩ => ⟨S4160x1, .f32⟩
  | .hbm, ⟨71, _⟩ => ⟨S4160x128, .f32⟩
  | .hbm, ⟨72, _⟩ => ⟨S4160x128, .f32⟩
  | .hbm, ⟨73, _⟩ => ⟨S4160x128, .f32⟩
  | .hbm, ⟨74, _⟩ => ⟨S4160x1x128, .f32⟩
  | .hbm, ⟨75, _⟩ => ⟨S4160x128, .f32⟩
  | .hbm, ⟨76, _⟩ => ⟨S4160x128, .f32⟩
  | .hbm, ⟨77, _⟩ => ⟨S4160x1x128, .f32⟩
  | .hbm, ⟨78, _⟩ => ⟨S4160x1x128, .f32⟩
  | .hbm, ⟨79, _⟩ => ⟨S4160x1x128, .f32⟩
  | .hbm, ⟨80, _⟩ => ⟨S4160x1x128, .f32⟩
  | .hbm, ⟨81, _⟩ => ⟨S4160x4x128, .f32⟩
  | .hbm, ⟨82, _⟩ => ⟨S4160x512, .f32⟩
  | .hbm, ⟨83, _⟩ => ⟨S4160x512, .bf16⟩
  | .hbm, ⟨84, _⟩ => ⟨S4x128x128, .bf16⟩
  | .hbm, ⟨85, _⟩ => ⟨S1x512, .f32⟩
  | .hbm, ⟨86, _⟩ => ⟨S1x512, .f32⟩
  | .hbm, ⟨87, _⟩ => ⟨S2x512, .f32⟩
  | .hbm, ⟨88, _⟩ => ⟨S_, .i32⟩
  | .hbm, ⟨89, _⟩ => ⟨S_, .f32⟩
  | .hbm, ⟨90, _⟩ => ⟨S8x512, .f32⟩
  | .hbm, ⟨91, _⟩ => ⟨S4160x512, .f32⟩
  | .hbm, ⟨92, _⟩ => ⟨S4x128x128, .f32⟩
  | .hbm, ⟨93, _⟩ => ⟨S8x512, .f32⟩
  | .local _ .vmem, ⟨0, _⟩ => ⟨S320x512, .f32⟩
  | .local _ .vmem, ⟨1, _⟩ => ⟨S320x512, .f32⟩
  | .local _ .vmem, ⟨2, _⟩ => ⟨S320x512, .bf16⟩
  | .local _ .vmem, ⟨3, _⟩ => ⟨S320x512, .bf16⟩
  | .local _ .vmem, ⟨4, _⟩ => ⟨S4x128x128, .bf16⟩
  | .local _ .vmem, ⟨5, _⟩ => ⟨S8x512, .f32⟩
  | .local _ .vmem, ⟨6, _⟩ => ⟨S320x512, .f32⟩
  | .local _ .vmem, ⟨7, _⟩ => ⟨S320x512, .f32⟩
  | .local _ .vmem, ⟨8, _⟩ => ⟨S4x128x128, .f32⟩
  | .local _ .vmem, ⟨9, _⟩ => ⟨S8x512, .f32⟩
  | .local _ .vmem, ⟨10, _⟩ => ⟨S16x512, .f32⟩
  | _, _ => ⟨S4160x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_c : Ref sig .tc := ⟨.hbm, 88, rfl⟩
abbrev main_call1_v0 : Ref sig .tc := ⟨.hbm, 89, rfl⟩
abbrev main_v72 : Ref sig .tc := ⟨.hbm, 90, rfl⟩
abbrev main_v73_0 : Ref sig .tc := ⟨.hbm, 91, rfl⟩
abbrev main_v73_1 : Ref sig .tc := ⟨.hbm, 92, rfl⟩
abbrev main_v73_2 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolBwdRefIdeal.lean ====
abbrev S4160x512 : Shape := ⟨2, ![4160, 512]⟩
abbrev S4x128x128 : Shape := ⟨3, ![4, 128, 128]⟩
abbrev S4x128 : Shape := ⟨2, ![4, 128]⟩
abbrev S512 : Shape := ⟨1, ![512]⟩
abbrev S4160x4x128 : Shape := ⟨3, ![4160, 4, 128]⟩
abbrev S_ : Shape := ⟨0, ![]⟩
abbrev S4160 : Shape := ⟨1, ![4160]⟩
abbrev S4160x1x128 : Shape := ⟨3, ![4160, 1, 128]⟩
abbrev S4160x128 : Shape := ⟨2, ![4160, 128]⟩
abbrev S2x128 : Shape := ⟨2, ![2, 128]⟩
abbrev S4158x128 : Shape := ⟨2, ![4158, 128]⟩
abbrev S4160x1 : Shape := ⟨2, ![4160, 1]⟩
abbrev S4156x128 : Shape := ⟨2, ![4156, 128]⟩
abbrev S8x128 : Shape := ⟨2, ![8, 128]⟩
abbrev S4152x128 : Shape := ⟨2, ![4152, 128]⟩
abbrev S16x128 : Shape := ⟨2, ![16, 128]⟩
abbrev S4144x128 : Shape := ⟨2, ![4144, 128]⟩
abbrev S4x128x4160 : Shape := ⟨3, ![4, 128, 4160]⟩
abbrev S1x4x128 : Shape := ⟨3, ![1, 4, 128]⟩
abbrev S1x512 : Shape := ⟨2, ![1, 512]⟩
abbrev S4x4160x128 : Shape := ⟨3, ![4, 4160, 128]⟩
abbrev S2x512 : Shape := ⟨2, ![2, 512]⟩
abbrev S8x512 : Shape := ⟨2, ![8, 512]⟩

abbrev nBuf : Space → Nat
  | .hbm => 240
  | .vmem => 0
  | .smem => 0
  | _ => 0

abbrev hbmTy0_0 (i : Nat) : BufTy := match i % 128 with
  | 0 => ⟨S4160x512, .f32⟩
  | 1 => ⟨S4x128x128, .f32⟩
  | 2 => ⟨S4x128, .f32⟩
  | 3 => ⟨S512, .f32⟩
  | 4 => ⟨S4160x512, .f32⟩
  | 5 => ⟨S4160x4x128, .f32⟩
  | 6 => ⟨S_, .f32⟩
  | 7 => ⟨S_, .f32⟩
  | 8 => ⟨S4160x4x128, .f32⟩
  | 9 => ⟨S4160, .f32⟩
  | 10 => ⟨S_, .f32⟩
  | 11 => ⟨S4160, .f32⟩
  | 12 => ⟨S4160, .f32⟩
  | 13 => ⟨S4160x1x128, .f32⟩
  | 14 => ⟨S4160x128, .f32⟩
  | 15 => ⟨S_, .f32⟩
  | 16 => ⟨S2x128, .f32⟩
  | 17 => ⟨S4158x128, .f32⟩
  | 18 => ⟨S4160x128, .f32⟩
  | 19 => ⟨S_, .f32⟩
  | 20 => ⟨S2x128, .f32⟩
  | 21 => ⟨S_, .f32⟩
  | 22 => ⟨S4160, .f32⟩
  | 23 => ⟨S4160, .f32⟩
  | 24 => ⟨S4160x1, .f32⟩
  | 25 => ⟨S4160x128, .f32⟩
  | 26 => ⟨S4160x128, .f32⟩
  | 27 => ⟨S4160x128, .f32⟩
  | 28 => ⟨S4160x1x128, .f32⟩
  | 29 => ⟨S4160x128, .f32⟩
  | 30 => ⟨S4160x128, .f32⟩
  | 31 => ⟨S4160x1x128, .f32⟩
  | 32 => ⟨S4160x128, .f32⟩
  | 33 => ⟨S_, .f32⟩
  | 34 => ⟨S4x128, .f32⟩
  | 35 => ⟨S4156x128, .f32⟩
  | 36 => ⟨S4160x128, .f32⟩
  | 37 => ⟨S_, .f32⟩
  | 38 => ⟨S4x128, .f32⟩
  | 39 => ⟨S_, .f32⟩
  | 40 => ⟨S4160, .f32⟩
  | 41 => ⟨S4160, .f32⟩
  | 42 => ⟨S4160x1, .f32⟩
  | 43 => ⟨S4160x128, .f32⟩
  | 44 => ⟨S4160x128, .f32⟩
  | 45 => ⟨S4160x128, .f32⟩
  | 46 => ⟨S4160x1x128, .f32⟩
  | 47 => ⟨S4160x128, .f32⟩
  | 48 => ⟨S4160x128, .f32⟩
  | 49 => ⟨S4160x1x128, .f32⟩
  | 50 => ⟨S4160x128, .f32⟩
  | 51 => ⟨S_, .f32⟩
  | 52 => ⟨S8x128, .f32⟩
  | 53 => ⟨S4152x128, .f32⟩
  | 54 => ⟨S4160x128, .f32⟩
  | 55 => ⟨S_, .f32⟩
  | 56 => ⟨S8x128, .f32⟩
  | 57 => ⟨S_, .f32⟩
  | 58 => ⟨S4160, .f32⟩
  | 59 => ⟨S4160, .f32⟩
  | 60 => ⟨S4160x1, .f32⟩
  | 61 => ⟨S4160x128, .f32⟩
  | 62 => ⟨S4160x128, .f32⟩
  | 63 => ⟨S4160x128, .f32⟩
  | 64 => ⟨S4160x1x128, .f32⟩
  | 65 => ⟨S4160x128, .f32⟩
  | 66 => ⟨S4160x128, .f32⟩
  | 67 => ⟨S4160x1x128, .f32⟩
  | 68 => ⟨S4160x128, .f32⟩
  | 69 => ⟨S_, .f32⟩
  | 70 => ⟨S16x128, .f32⟩
  | 71 => ⟨S4144x128, .f32⟩
  | 72 => ⟨S4160x128, .f32⟩
  | 73 => ⟨S_, .f32⟩
  | 74 => ⟨S16x128, .f32⟩
  | 75 => ⟨S_, .f32⟩
  | 76 => ⟨S4160, .f32⟩
  | 77 => ⟨S4160, .f32⟩
  | 78 => ⟨S4160x1, .f32⟩
  | 79 => ⟨S4160x128, .f32⟩
  | 80 => ⟨S4160x128, .f32⟩
  | 81 => ⟨S4160x128, .f32⟩
  | 82 => ⟨S4160x1x128, .f32⟩
  | 83 => ⟨S4160x128, .f32⟩
  | 84 => ⟨S4160x128, .f32⟩
  | 85 => ⟨S4160x1x128, .f32⟩
  | 86 => ⟨S4160x1x128, .f32⟩
  | 87 => ⟨S4160x1x128, .f32⟩
  | 88 => ⟨S4160x1x128, .f32⟩
  | 89 => ⟨S4160x4x128, .f32⟩
  | 90 => ⟨S4x128x4160, .f32⟩
  | 91 => ⟨S4160x4x128, .f32⟩
  | 92 => ⟨S1x4x128, .f32⟩
  | 93 => ⟨S4160x4x128, .f32⟩
  | 94 => ⟨S4160x4x128, .f32⟩
  | 95 => ⟨S4160x512, .f32⟩
  | 96 => ⟨S4160x512, .f32⟩
  | 97 => ⟨S_, .f32⟩
  | 98 => ⟨S4160, .f32⟩
  | 99 => ⟨S4160x1, .f32⟩
  | 100 => ⟨S_, .f32⟩
  | 101 => ⟨S4160x1, .f32⟩
  | 102 => ⟨S4160x1, .f32⟩
  | 103 => ⟨S_, .f32⟩
  | 104 => ⟨S4160x1, .f32⟩
  | 105 => ⟨S4160x1, .f32⟩
  | 106 => ⟨S4160x1, .f32⟩
  | 107 => ⟨S4160x1, .f32⟩
  | 108 => ⟨S_, .f32⟩
  | 109 => ⟨S4160x1, .f32⟩
  | 110 => ⟨S4160x1, .f32⟩
  | 111 => ⟨S4160x512, .f32⟩
  | 112 => ⟨S4160x512, .f32⟩
  | 113 => ⟨S1x512, .f32⟩
  | 114 => ⟨S4160x512, .f32⟩
  | 115 => ⟨S4160x512, .f32⟩
  | 116 => ⟨S4160x512, .f32⟩
  | 117 => ⟨S_, .f32⟩
  | 118 => ⟨S512, .f32⟩
  | 119 => ⟨S1x512, .f32⟩
  | 120 => ⟨S4160x512, .f32⟩
  | 121 => ⟨S4160x512, .f32⟩
  | 122 => ⟨S_, .f32⟩
  | 123 => ⟨S512, .f32⟩
  | 124 => ⟨S4160x512, .f32⟩
  | 125 => ⟨S_, .f32⟩
  | 126 => ⟨S4160, .f32⟩
  | 127 => ⟨S4160x1, .f32⟩
  | _ => ⟨S4160x512, .f32⟩

abbrev hbmTy0_1 (i : Nat) : BufTy := match i % 128 with
  | 0 => ⟨S4160x512, .f32⟩
  | 1 => ⟨S4160x512, .f32⟩
  | 2 => ⟨S4160x1, .f32⟩
  | 3 => ⟨S_, .f32⟩
  | 4 => ⟨S4160x1, .f32⟩
  | 5 => ⟨S4160x1, .f32⟩
  | 6 => ⟨S_, .f32⟩
  | 7 => ⟨S4160, .f32⟩
  | 8 => ⟨S4160x512, .f32⟩
  | 9 => ⟨S4160x512, .f32⟩
  | 10 => ⟨S4160x512, .f32⟩
  | 11 => ⟨S4160x512, .f32⟩
  | 12 => ⟨S4160x512, .f32⟩
  | 13 => ⟨S4160x4x128, .f32⟩
  | 14 => ⟨S4160x4x128, .f32⟩
  | 15 => ⟨S_, .f32⟩
  | 16 => ⟨S4x128, .f32⟩
  | 17 => ⟨S1x4x128, .f32⟩
  | 18 => ⟨S4160x4x128, .f32⟩
  | 19 => ⟨S4160x4x128, .f32⟩
  | 20 => ⟨S_, .f32⟩
  | 21 => ⟨S4x128, .f32⟩
  | 22 => ⟨S4x128x4160, .f32⟩
  | 23 => ⟨S4x4160x128, .f32⟩
  | 24 => ⟨S4160x4x128, .f32⟩
  | 25 => ⟨S4x128x128, .f32⟩
  | 26 => ⟨S4x128x128, .f32⟩
  | 27 => ⟨S4160x1x128, .f32⟩
  | 28 => ⟨S4160x128, .f32⟩
  | 29 => ⟨S4160x1x128, .f32⟩
  | 30 => ⟨S4160x128, .f32⟩
  | 31 => ⟨S4160x1x128, .f32⟩
  | 32 => ⟨S4160x128, .f32⟩
  | 33 => ⟨S4160x1x128, .f32⟩
  | 34 => ⟨S4160x128, .f32⟩
  | 35 => ⟨S4160x128, .f32⟩
  | 36 => ⟨S4160x1x128, .f32⟩
  | 37 => ⟨S_, .f32⟩
  | 38 => ⟨S4160x4x128, .f32⟩
  | 39 => ⟨S4160x128, .f32⟩
  | 40 => ⟨S4160x128, .f32⟩
  | 41 => ⟨S4160x128, .f32⟩
  | 42 => ⟨S16x128, .f32⟩
  | 43 => ⟨S4144x128, .f32⟩
  | 44 => ⟨S_, .f32⟩
  | 45 => ⟨S4160x128, .f32⟩
  | 46 => ⟨S4160x128, .f32⟩
  | 47 => ⟨S4160x1x128, .f32⟩
  | 48 => ⟨S_, .f32⟩
  | 49 => ⟨S4160x4x128, .f32⟩
  | 50 => ⟨S4160x128, .f32⟩
  | 51 => ⟨S4160x1x128, .f32⟩
  | 52 => ⟨S_, .f32⟩
  | 53 => ⟨S4160x4x128, .f32⟩
  | 54 => ⟨S4160x4x128, .f32⟩
  | 55 => ⟨S4160x128, .f32⟩
  | 56 => ⟨S4160x128, .f32⟩
  | 57 => ⟨S4160x128, .f32⟩
  | 58 => ⟨S8x128, .f32⟩
  | 59 => ⟨S4152x128, .f32⟩
  | 60 => ⟨S_, .f32⟩
  | 61 => ⟨S4160x128, .f32⟩
  | 62 => ⟨S4160x128, .f32⟩
  | 63 => ⟨S4160x1x128, .f32⟩
  | 64 => ⟨S_, .f32⟩
  | 65 => ⟨S4160x4x128, .f32⟩
  | 66 => ⟨S4160x4x128, .f32⟩
  | 67 => ⟨S4160x128, .f32⟩
  | 68 => ⟨S4160x1x128, .f32⟩
  | 69 => ⟨S_, .f32⟩
  | 70 => ⟨S4160x4x128, .f32⟩
  | 71 => ⟨S4160x4x128, .f32⟩
  | 72 => ⟨S4160x128, .f32⟩
  | 73 => ⟨S4160x128, .f32⟩
  | 74 => ⟨S4160x128, .f32⟩
  | 75 => ⟨S4x128, .f32⟩
  | 76 => ⟨S4156x128, .f32⟩
  | 77 => ⟨S_, .f32⟩
  | 78 => ⟨S4160x128, .f32⟩
  | 79 => ⟨S4160x128, .f32⟩
  | 80 => ⟨S4160x1x128, .f32⟩
  | 81 => ⟨S_, .f32⟩
  | 82 => ⟨S4160x4x128, .f32⟩
  | 83 => ⟨S4160x4x128, .f32⟩
  | 84 => ⟨S4160x128, .f32⟩
  | 85 => ⟨S4160x1x128, .f32⟩
  | 86 => ⟨S_, .f32⟩
  | 87 => ⟨S4160x4x128, .f32⟩
  | 88 => ⟨S4160x4x128, .f32⟩
  | 89 => ⟨S4160x128, .f32⟩
  | 90 => ⟨S4160x128, .f32⟩
  | 91 => ⟨S4160x128, .f32⟩
  | 92 => ⟨S2x128, .f32⟩
  | 93 => ⟨S4158x128, .f32⟩
  | 94 => ⟨S_, .f32⟩
  | 95 => ⟨S4160x128, .f32⟩
  | 96 => ⟨S4160x128, .f32⟩
  | 97 => ⟨S4160x1x128, .f32⟩
  | 98 => ⟨S_, .f32⟩
  | 99 => ⟨S4160x4x128, .f32⟩
  | 100 => ⟨S4160x4x128, .f32⟩
  | 101 => ⟨S_, .f32⟩
  | 102 => ⟨S_, .f32⟩
  | 103 => ⟨S4160x4x128, .f32⟩
  | 104 => ⟨S4160x4x128, .f32⟩
  | 105 => ⟨S4160x512, .f32⟩
  | 106 => ⟨S1x512, .f32⟩
  | 107 => ⟨S1x512, .f32⟩
  | 108 => ⟨S2x512, .f32⟩
  | 109 => ⟨S_, .i32⟩
  | 110 => ⟨S_, .f32⟩
  | 111 => ⟨S8x512, .f32⟩
  | _ => ⟨S4160x512, .f32⟩

abbrev hbmTy (i : Nat) : BufTy := match i / 128 with
  | 0 => hbmTy0_0 i
  | 1 => hbmTy0_1 i
  | _ => ⟨S4160x512, .f32⟩

abbrev bufTy : (tb : Table) → Fin (tcTables nBuf tb) → BufTy
  | .hbm, ⟨i, _⟩ => hbmTy i
  | _, _ => ⟨S4160x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_cst_13 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_15 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_16 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_17 : Ref sig .tc := ⟨.hbm, 122, rfl⟩
abbrev main_v97 : Ref sig .tc := ⟨.hbm, 123, rfl⟩
abbrev main_v98 : Ref sig .tc := ⟨.hbm, 124, rfl⟩
abbrev main_cst_18 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_19 : Ref sig .tc := ⟨.hbm, 131, rfl⟩
abbrev main_v104 : Ref sig .tc := ⟨.hbm, 132, rfl⟩
abbrev main_v105 : Ref sig .tc := ⟨.hbm, 133, rfl⟩
abbrev main_cst_20 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_21 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_22 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_23 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_24 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_25 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_26 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_27 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_cst_28 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_cst_29 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_cst_30 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_31 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_cst_32 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_33 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_cst_34 : Ref sig .tc := ⟨.hbm, 226, rfl⟩
abbrev main_v184 : Ref sig .tc := ⟨.hbm, 227, rfl⟩
abbrev main_v185 : Ref sig .tc := ⟨.hbm, 228, rfl⟩
abbrev main_call1_call0_cst : Ref sig .tc := ⟨.hbm, 229, rfl⟩
abbrev main_call1_call0_v0 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_c : Ref sig .tc := ⟨.hbm, 237, rfl⟩
abbrev main_call2_v0 : Ref sig .tc := ⟨.hbm, 238, rfl⟩
abbrev main_v192 : Ref sig .tc := ⟨.hbm, 239, rfl⟩

abbrev nD : Nat := 1
abbrev τ : Topo := Topo.v7x

variable {F : FTy → Type} [FloatOps F]
-- ==== BwdFfn.lean ====
abbrev S4160x1024 : Shape := ⟨2, ![4160, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x2816 : Shape := ⟨2, ![4160, 2816]⟩
abbrev S4160x4x704 : Shape := ⟨3, ![4160, 4, 704]⟩
abbrev S4x4160x704 : Shape := ⟨3, ![4, 4160, 704]⟩
abbrev S4x704x1024 : Shape := ⟨3, ![4, 704, 1024]⟩
abbrev S320x1024 : Shape := ⟨2, ![320, 1024]⟩
abbrev S4x320x704 : Shape := ⟨3, ![4, 320, 704]⟩
abbrev S3 : Shape := ⟨1, ![3]⟩
abbrev S1 : Shape := ⟨1, ![1]⟩
abbrev S1x704x1024 : Shape := ⟨3, ![1, 704, 1024]⟩
abbrev S704x1024 : Shape := ⟨2, ![704, 1024]⟩
abbrev S320x704 : Shape := ⟨2, ![320, 704]⟩
abbrev S1x320x704 : Shape := ⟨3, ![1, 320, 704]⟩
abbrev S320 : Shape := ⟨1, ![320]⟩
abbrev S320x1 : Shape := ⟨2, ![320, 1]⟩
abbrev S1024 : Shape := ⟨1, ![1024]⟩

abbrev nBuf : Space → Nat
  | .hbm => 42
  | .vmem => 22
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4160x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x2816, .f32⟩
  | .hbm, ⟨22, _⟩ => ⟨S4160x4x704, .f32⟩
  | .hbm, ⟨23, _⟩ => ⟨S4x4160x704, .f32⟩
  | .hbm, ⟨24, _⟩ => ⟨S4x4160x704, .bf16⟩
  | .hbm, ⟨25, _⟩ => ⟨S4160x2816, .f32⟩
  | .hbm, ⟨26, _⟩ => ⟨S4160x4x704, .f32⟩
  | .hbm, ⟨27, _⟩ => ⟨S4x4160x704, .f32⟩
  | .hbm, ⟨28, _⟩ => ⟨S4x4160x704, .bf16⟩
  | .hbm, ⟨29, _⟩ => ⟨S4160x1024, .bf16⟩
  | .hbm, ⟨30, _⟩ => ⟨S2816x1024, .f32⟩
  | .hbm, ⟨31, _⟩ => ⟨S2816x1024, .f32⟩
  | .hbm, ⟨32, _⟩ => ⟨S2816x1024, .bf16⟩
  | .hbm, ⟨33, _⟩ => ⟨S4x704x1024, .bf16⟩
  | .hbm, ⟨34, _⟩ => ⟨S2816x1024, .bf16⟩
  | .hbm, ⟨35, _⟩ => ⟨S4x704x1024, .bf16⟩
  | .hbm, ⟨36, _⟩ => ⟨S2816x1024, .bf16⟩
  | .hbm, ⟨37, _⟩ => ⟨S4x704x1024, .bf16⟩
  | .hbm, ⟨38, _⟩ => ⟨S4x4160x704, .bf16⟩
  | .hbm, ⟨39, _⟩ => ⟨S4x4160x704, .bf16⟩
  | .hbm, ⟨40, _⟩ => ⟨S4160x1024, .f32⟩
  | .hbm, ⟨41, _⟩ => ⟨S1x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .bf16⟩
  | .local _ .vmem, ⟨3, _⟩ => ⟨S320x1024, .bf16⟩
  | .local _ .vmem, ⟨4, _⟩ => ⟨S4x320x704, .bf16⟩
  | .local _ .vmem, ⟨5, _⟩ => ⟨S4x320x704, .bf16⟩
  | .local _ .vmem, ⟨6, _⟩ => ⟨S4x320x704, .bf16⟩
  | .local _ .vmem, ⟨7, _⟩ => ⟨S4x320x704, .bf16⟩
  | .local _ .vmem, ⟨8, _⟩ => ⟨S320x1024, .f32⟩
  | .local _ .vmem, ⟨9, _⟩ => ⟨S320x1024, .f32⟩
  | .local _ .vmem, ⟨10, _⟩ => ⟨S1x1024, .f32⟩
  | .local _ .vmem, ⟨11, _⟩ => ⟨S4x320x704, .bf16⟩
  | .local _ .vmem, ⟨12, _⟩ => ⟨S4x320x704, .bf16⟩
  | .local _ .vmem, ⟨13, _⟩ => ⟨S4x320x704, .bf16⟩
  | .local _ .vmem, ⟨14, _⟩ => ⟨S4x320x704, .bf16⟩
  | .local _ .vmem, ⟨15, _⟩ => ⟨S320x1024, .f32⟩
  | .local _ .vmem, ⟨16, _⟩ => ⟨S320x1024, .f32⟩
  | .local _ .vmem, ⟨17, _⟩ => ⟨S1x1024, .f32⟩
  | .local _ .vmem, ⟨18, _⟩ => ⟨S4x704x1024, .bf16⟩
  | .local _ .vmem, ⟨19, _⟩ => ⟨S4x704x1024, .bf16⟩
  | .local _ .vmem, ⟨20, _⟩ => ⟨S4x704x1024, .bf16⟩
  | .local _ .vmem, ⟨21, _⟩ => ⟨S320x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x320x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x320x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x320x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x320x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdFfnRefIdeal.lean ====
abbrev S4160x1024 : Shape := ⟨2, ![4160, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x2816 : Shape := ⟨2, ![4160, 2816]⟩
abbrev S1024 : Shape := ⟨1, ![1024]⟩
abbrev S4160x4x704 : Shape := ⟨3, ![4160, 4, 704]⟩
abbrev S4x4160x704 : Shape := ⟨3, ![4, 4160, 704]⟩

abbrev nBuf : Space → Nat
  | .hbm => 123
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4160x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x2816, .f32⟩
  | .hbm, ⟨22, _⟩ => ⟨S4160x2816, .f32⟩
  | .hbm, ⟨23, _⟩ => ⟨S4160x2816, .f32⟩
  | .hbm, ⟨24, _⟩ => ⟨S4160x2816, .f32⟩
  | .hbm, ⟨25, _⟩ => ⟨S_, .f32⟩
  | .hbm, ⟨26, _⟩ => ⟨S4160x2816, .f32⟩
  | .hbm, ⟨27, _⟩ => ⟨S4160x2816, .f32⟩
  | .hbm, ⟨28, _⟩ => ⟨S_, .f32⟩
  | .hbm, ⟨29, _⟩ => ⟨S4160x2816, .f32⟩
  | .hbm, ⟨30, _⟩ => ⟨S4160x2816, .f32⟩
  | .hbm, ⟨31, _⟩ => ⟨S_, .f32⟩
  | .hbm, ⟨32, _⟩ => ⟨S4160x2816, .f32⟩
  | .hbm, ⟨33, _⟩ => ⟨S4160x2816, .f32⟩
  | .hbm, ⟨34, _⟩ => ⟨S4160x2816, .f32⟩
  | .hbm, ⟨35, _⟩ => ⟨S4160x2816, .f32⟩
  | .hbm, ⟨36, _⟩ => ⟨S4160x2816, .f32⟩
  | .hbm, ⟨37, _⟩ => ⟨S4160x1024, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x2816, .f32⟩
  | .hbm, ⟨43, _⟩ => ⟨S4160x2816, .f32⟩
  | .hbm, ⟨44, _⟩ => ⟨S4160x2816, .f32⟩
  | .hbm, ⟨45, _⟩ => ⟨S4160x1024, .f32⟩
  | .hbm, ⟨46, _⟩ => ⟨S_, .f32⟩
  | .hbm, ⟨47, _⟩ => ⟨S4160, .f32⟩
  | .hbm, ⟨48, _⟩ => ⟨S4160x1, .f32⟩
  | .hbm, ⟨49, _⟩ => ⟨S_, .f32⟩
  | .hbm, ⟨50, _⟩ => ⟨S4160x1, .f32⟩
  | .hbm, ⟨51, _⟩ => ⟨S4160x1, .f32⟩
  | .hbm, ⟨52, _⟩ => ⟨S_, .f32⟩
  | .hbm, ⟨53, _⟩ => ⟨S4160x1, .f32⟩
  | .hbm, ⟨54, _⟩ => ⟨S4160x1, .f32⟩
  | .hbm, ⟨55, _⟩ => ⟨S4160x1, .f32⟩
  | .hbm, ⟨56, _⟩ => ⟨S4160x1, .f32⟩
  | .hbm, ⟨57, _⟩ => ⟨S_, .f32⟩
  | .hbm, ⟨58, _⟩ => ⟨S4160x1, .f32⟩
  | .hbm, ⟨59, _⟩ => ⟨S4160x1, .f32⟩
  | .hbm, ⟨60, _⟩ => ⟨S4160x1024, .f32⟩
  | .hbm, ⟨61, _⟩ => ⟨S4160x1024, .f32⟩
  | .hbm, ⟨62, _⟩ => ⟨S4160x1024, .f32⟩
  | .hbm, ⟨63, _⟩ => ⟨S4160x1024, .f32⟩
  | .hbm, ⟨64, _⟩ => ⟨S4160x2816, .f32⟩
  | .hbm, ⟨65, _⟩ => ⟨S4160x2816, .f32⟩
  | .hbm, ⟨66, _⟩ => ⟨S4160x2816, .f32⟩
  | .hbm, ⟨67, _⟩ => ⟨S_, .f32⟩
  | .hbm, ⟨68, _⟩ => ⟨S4160x2816, .f32⟩
  | .hbm, ⟨69, _⟩ => ⟨S4160x2816, .f32⟩
  | .hbm, ⟨70, _⟩ => ⟨S_, .f32⟩
  | .hbm, ⟨71, _⟩ => ⟨S4160x2816, .f32⟩
  | .hbm, ⟨72, _⟩ => ⟨S4160x2816, .f32⟩
  | .hbm, ⟨73, _⟩ => ⟨S_, .f32⟩
  | .hbm, ⟨74, _⟩ => ⟨S4160x2816, .f32⟩
  | .hbm, ⟨75, _⟩ => ⟨S4160x2816, .f32⟩
  | .hbm, ⟨76, _⟩ => ⟨S4160x2816, .f32⟩
  | .hbm, ⟨77, _⟩ => ⟨S4160x2816, .f32⟩
  | .hbm, ⟨78, _⟩ => ⟨S4160x2816, .f32⟩
  | .hbm, ⟨79, _⟩ => ⟨S4160x2816, .f32⟩
  | .hbm, ⟨80, _⟩ => ⟨S4160x1024, .f32⟩
  | .hbm, ⟨81, _⟩ => ⟨S4160x1024, .f32⟩
  | .hbm, ⟨82, _⟩ => ⟨S4160x1024, .f32⟩
  | .hbm, ⟨83, _⟩ => ⟨S4160x2816, .f32⟩
  | .hbm, ⟨84, _⟩ => ⟨S4160x2816, .f32⟩
  | .hbm, ⟨85, _⟩ => ⟨S4160x2816, .f32⟩
  | .hbm, ⟨86, _⟩ => ⟨S4160x1024, .f32⟩
  | .hbm, ⟨87, _⟩ => ⟨S4160x2816, .f32⟩
  | .hbm, ⟨88, _⟩ => ⟨S4160x2816, .f32⟩
  | .hbm, ⟨89, _⟩ => ⟨S4160x2816, .f32⟩
  | .hbm, ⟨90, _⟩ => ⟨S4160x2816, .f32⟩
  | .hbm, ⟨91, _⟩ => ⟨S4160x1024, .f32⟩
  | .hbm, ⟨92, _⟩ => ⟨S4160x1024, .f32⟩
  | .hbm, ⟨93, _⟩ => ⟨S4160x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S4160x1024, .f32⟩
  | .hbm, ⟨98, _⟩ => ⟨S4160x1024, .f32⟩
  | .hbm, ⟨99, _⟩ => ⟨S4160x1024, .f32⟩
  | .hbm, ⟨100, _⟩ => ⟨S_, .f32⟩
  | .hbm, ⟨101, _⟩ => ⟨S4160, .f32⟩
  | .hbm, ⟨102, _⟩ => ⟨S4160x1, .f32⟩
  | .hbm, ⟨103, _⟩ => ⟨S4160x1024, .f32⟩
  | .hbm, ⟨104, _⟩ => ⟨S4160x1024, .f32⟩
  | .hbm, ⟨105, _⟩ => ⟨S4160x1024, .f32⟩
  | .hbm, ⟨106, _⟩ => ⟨S4160x1, .f32⟩
  | .hbm, ⟨107, _⟩ => ⟨S_, .f32⟩
  | .hbm, ⟨108, _⟩ => ⟨S4160x1, .f32⟩
  | .hbm, ⟨109, _⟩ => ⟨S4160x1, .f32⟩
  | .hbm, ⟨110, _⟩ => ⟨S_, .f32⟩
  | .hbm, ⟨111, _⟩ => ⟨S4160, .f32⟩
  | .hbm, ⟨112, _⟩ => ⟨S4160x1024, .f32⟩
  | .hbm, ⟨113, _⟩ => ⟨S4160x1024, .f32⟩
  | .hbm, ⟨114, _⟩ => ⟨S4160x1024, .f32⟩
  | .hbm, ⟨115, _⟩ => ⟨S4160x1024, .f32⟩
  | .hbm, ⟨116, _⟩ => ⟨S4160x1024, .f32⟩
  | .hbm, ⟨117, _⟩ => ⟨S4160x4x704, .f32⟩
  | .hbm, ⟨118, _⟩ => ⟨S4x4160x704, .f32⟩
  | .hbm, ⟨119, _⟩ => ⟨S4x4160x704, .bf16⟩
  | .hbm, ⟨120, _⟩ => ⟨S4160x4x704, .f32⟩
  | .hbm, ⟨121, _⟩ => ⟨S4x4160x704, .f32⟩
  | .hbm, ⟨122, _⟩ => ⟨S4x4160x704, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_v37_2 : Ref sig .tc := ⟨.hbm, 72, rfl⟩
abbrev main_call2_cst_1 : Ref sig .tc := ⟨.hbm, 73, rfl⟩
abbrev main_call2_v6 : Ref sig .tc := ⟨.hbm, 74, rfl⟩
abbrev main_call2_v7 : Ref sig .tc := ⟨.hbm, 75, rfl⟩
abbrev main_v37_1 : Ref sig .tc := ⟨.hbm, 76, rfl⟩
abbrev main_v37_0 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_6 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_7 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_8 : Ref sig .tc := ⟨.hbm, 107, rfl⟩
abbrev main_v62 : Ref sig .tc := ⟨.hbm, 108, rfl⟩
abbrev main_v63 : Ref sig .tc := ⟨.hbm, 109, rfl⟩
abbrev main_cst_9 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩

abbrev nD : Nat := 1
abbrev τ : Topo := Topo.v7x

variable {F : FTy → Type} [FloatOps F]
-- ==== GradFfn.lean ====
abbrev S4160x1024 : Shape := ⟨2, ![4160, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x2816 : Shape := ⟨2, ![4160, 2816]⟩
abbrev S4160x4x704 : Shape := ⟨3, ![4160, 4, 704]⟩
abbrev S4x4160x704 : Shape := ⟨3, ![4, 4160, 704]⟩
abbrev S4x704x1024 : Shape := ⟨3, ![4, 704, 1024]⟩
abbrev S1040x1024 : Shape := ⟨2, ![1040, 1024]⟩
abbrev S1x1040x704 : Shape := ⟨3, ![1, 1040, 704]⟩
abbrev S1x704x1024 : Shape := ⟨3, ![1, 704, 1024]⟩
abbrev S1040x704 : Shape := ⟨2, ![1040, 704]⟩
abbrev S704x1024 : Shape := ⟨2, ![704, 1024]⟩

abbrev nBuf : Space → Nat
  | .hbm => 59
  | .vmem => 16
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4160x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x2816, .f32⟩
  | .hbm, ⟨22, _⟩ => ⟨S4160x2816, .f32⟩
  | .hbm, ⟨23, _⟩ => ⟨S4160x2816, .f32⟩
  | .hbm, ⟨24, _⟩ => ⟨S4160x2816, .f32⟩
  | .hbm, ⟨25, _⟩ => ⟨S_, .f32⟩
  | .hbm, ⟨26, _⟩ => ⟨S4160x2816, .f32⟩
  | .hbm, ⟨27, _⟩ => ⟨S4160x2816, .f32⟩
  | .hbm, ⟨28, _⟩ => ⟨S_, .f32⟩
  | .hbm, ⟨29, _⟩ => ⟨S4160x2816, .f32⟩
  | .hbm, ⟨30, _⟩ => ⟨S4160x2816, .f32⟩
  | .hbm, ⟨31, _⟩ => ⟨S_, .f32⟩
  | .hbm, ⟨32, _⟩ => ⟨S4160x2816, .f32⟩
  | .hbm, ⟨33, _⟩ => ⟨S4160x2816, .f32⟩
  | .hbm, ⟨34, _⟩ => ⟨S4160x2816, .f32⟩
  | .hbm, ⟨35, _⟩ => ⟨S4160x2816, .f32⟩
  | .hbm, ⟨36, _⟩ => ⟨S4160x2816, .f32⟩
  | .hbm, ⟨37, _⟩ => ⟨S1024x2816, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x2816, .f32⟩
  | .hbm, ⟨43, _⟩ => ⟨S4160x2816, .f32⟩
  | .hbm, ⟨44, _⟩ => ⟨S4160x2816, .f32⟩
  | .hbm, ⟨45, _⟩ => ⟨S4160x4x704, .f32⟩
  | .hbm, ⟨46, _⟩ => ⟨S4x4160x704, .f32⟩
  | .hbm, ⟨47, _⟩ => ⟨S4160x4x704, .f32⟩
  | .hbm, ⟨48, _⟩ => ⟨S4x4160x704, .f32⟩
  | .hbm, ⟨49, _⟩ => ⟨S4160x4x704, .f32⟩
  | .hbm, ⟨50, _⟩ => ⟨S4x4160x704, .f32⟩
  | .hbm, ⟨51, _⟩ => ⟨S4160x1024, .bf16⟩
  | .hbm, ⟨52, _⟩ => ⟨S4x4160x704, .bf16⟩
  | .hbm, ⟨53, _⟩ => ⟨S4x4160x704, .bf16⟩
  | .hbm, ⟨54, _⟩ => ⟨S4x4160x704, .bf16⟩
  | .hbm, ⟨55, _⟩ => ⟨S4160x1024, .bf16⟩
  | .hbm, ⟨56, _⟩ => ⟨S4x704x1024, .f32⟩
  | .hbm, ⟨57, _⟩ => ⟨S4x704x1024, .f32⟩
  | .hbm, ⟨58, _⟩ => ⟨S4x704x1024, .f32⟩
  | .local _ .vmem, ⟨0, _⟩ => ⟨S1040x1024, .bf16⟩
  | .local _ .vmem, ⟨1, _⟩ => ⟨S1040x1024, .bf16⟩
  | .local _ .vmem, ⟨2, _⟩ => ⟨S1x1040x704, .bf16⟩
  | .local _ .vmem, ⟨3, _⟩ => ⟨S1x1040x704, .bf16⟩
  | .local _ .vmem, ⟨4, _⟩ => ⟨S1x1040x704, .bf16⟩
  | .local _ .vmem, ⟨5, _⟩ => ⟨S1x1040x704, .bf16⟩
  | .local _ .vmem, ⟨6, _⟩ => ⟨S1x1040x704, .bf16⟩
  | .local _ .vmem, ⟨7, _⟩ => ⟨S1x1040x704, .bf16⟩
  | .local _ .vmem, ⟨8, _⟩ => ⟨S1040x1024, .bf16⟩
  | .local _ .vmem, ⟨9, _⟩ => ⟨S1040x1024, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_14 : BitVec 32 := 0#32
  let v15 : BitVec 1 := Scalar.cmpi .ne v14 c0_i32_14
  v15

def k0_cond2 (i : grid0.Coords) : BitVec 1 :=
  let arg1 : BitVec 32 := BitVec.ofNat 32 (i 1).val
  let c0_i32_15 : BitVec 32 := 0#32
  let v16 : BitVec 1 := Scalar.cmpi .sgt arg1 c0_i32_15
  let v17 : BitVec 32 := Scalar.extui v16
  let c0_i32_16 : BitVec 32 := 0#32
  let v18 : BitVec 1 := Scalar.cmpi .ne v17 c0_i32_16
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1040x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1040x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1040x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1040x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GradFfnRefIdeal.lean ====
abbrev S4160x1024 : Shape := ⟨2, ![4160, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x2816 : Shape := ⟨2, ![4160, 2816]⟩
abbrev S4x704x1024 : Shape := ⟨3, ![4, 704, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4160x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x2816, .f32⟩
  | .hbm, ⟨22, _⟩ => ⟨S4160x2816, .f32⟩
  | .hbm, ⟨23, _⟩ => ⟨S4160x2816, .f32⟩
  | .hbm, ⟨24, _⟩ => ⟨S_, .f32⟩
  | .hbm, ⟨25, _⟩ => ⟨S4160x2816, .f32⟩
  | .hbm, ⟨26, _⟩ => ⟨S4160x2816, .f32⟩
  | .hbm, ⟨27, _⟩ => ⟨S_, .f32⟩
  | .hbm, ⟨28, _⟩ => ⟨S4160x2816, .f32⟩
  | .hbm, ⟨29, _⟩ => ⟨S4160x2816, .f32⟩
  | .hbm, ⟨30, _⟩ => ⟨S_, .f32⟩
  | .hbm, ⟨31, _⟩ => ⟨S4160x2816, .f32⟩
  | .hbm, ⟨32, _⟩ => ⟨S4160x2816, .f32⟩
  | .hbm, ⟨33, _⟩ => ⟨S4160x2816, .f32⟩
  | .hbm, ⟨34, _⟩ => ⟨S4160x2816, .f32⟩
  | .hbm, ⟨35, _⟩ => ⟨S4160x2816, .f32⟩
  | .hbm, ⟨36, _⟩ => ⟨S4160x2816, .f32⟩
  | .hbm, ⟨37, _⟩ => ⟨S4160x1024, .f32⟩
  | .hbm, ⟨38, _⟩ => ⟨S4160x1024, .f32⟩
  | .hbm, ⟨39, _⟩ => ⟨S1024x2816, .f32⟩
  | .hbm, ⟨40, _⟩ => ⟨S2816x1024, .f32⟩
  | .hbm, ⟨41, _⟩ => ⟨S4160x2816, .f32⟩
  | .hbm, ⟨42, _⟩ => ⟨S4160x2816, .f32⟩
  | .hbm, ⟨43, _⟩ => ⟨S4160x2816, .f32⟩
  | .hbm, ⟨44, _⟩ => ⟨S2816x1024, .f32⟩
  | .hbm, ⟨45, _⟩ => ⟨S1024x2816, .f32⟩
  | .hbm, ⟨46, _⟩ => ⟨S4160x2816, .f32⟩
  | .hbm, ⟨47, _⟩ => ⟨S4160x2816, .f32⟩
  | .hbm, ⟨48, _⟩ => ⟨S4160x2816, .f32⟩
  | .hbm, ⟨49, _⟩ => ⟨S4160x2816, .f32⟩
  | .hbm, ⟨50, _⟩ => ⟨S2816x1024, .f32⟩
  | .hbm, ⟨51, _⟩ => ⟨S1024x2816, .f32⟩
  | .hbm, ⟨52, _⟩ => ⟨S2816x1024, .f32⟩
  | .hbm, ⟨53, _⟩ => ⟨S2816x1024, .f32⟩
  | .hbm, ⟨54, _⟩ => ⟨S4x704x1024, .f32⟩
  | .hbm, ⟨55, _⟩ => ⟨S4x704x1024, .f32⟩
  | .hbm, ⟨56, _⟩ => ⟨S4x704x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v13_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v13_1 : Ref sig .tc := ⟨.hbm, 33, rfl⟩
abbrev main_v13_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== BwdOut.lean ====
abbrev S4160x512 : Shape := ⟨2, ![4160, 512]⟩
abbrev S1024x1024 : Shape := ⟨2, ![1024, 1024]⟩
abbrev S4160x1024 : Shape := ⟨2, ![4160, 1024]⟩
abbrev S_ : Shape := ⟨0, ![]⟩
abbrev S8x128 : Shape := ⟨2, ![8, 128]⟩
abbrev S4x4160x128 : Shape := ⟨3, ![4, 4160, 128]⟩
abbrev S832x1024 : Shape := ⟨2, ![832, 1024]⟩
abbrev S832x512 : Shape := ⟨2, ![832, 512]⟩
abbrev S4x832x128 : Shape := ⟨3, ![4, 832, 128]⟩
abbrev S512x1024 : Shape := ⟨2, ![512, 1024]⟩
abbrev S832x128 : Shape := ⟨2, ![832, 128]⟩
abbrev S1x832x128 : Shape := ⟨3, ![1, 832, 128]⟩

abbrev nBuf : Space → Nat
  | .hbm => 12
  | .vmem => 12
  | .smem => 0
  | _ => 0

abbrev bufTy : (tb : Table) → Fin (tcTables nBuf tb) → BufTy
  | .hbm, ⟨0, _⟩ => ⟨S4160x512, .f32⟩
  | .hbm, ⟨1, _⟩ => ⟨S4160x512, .f32⟩
  | .hbm, ⟨2, _⟩ => ⟨S1024x1024, .f32⟩
  | .hbm, ⟨3, _⟩ => ⟨S4160x1024, .f32⟩
  | .hbm, ⟨4, _⟩ => ⟨S4160x512, .bf16⟩
  | .hbm, ⟨5, _⟩ => ⟨S4160x512, .bf16⟩
  | .hbm, ⟨6, _⟩ => ⟨S1024x1024, .bf16⟩
  | .hbm, ⟨7, _⟩ => ⟨S_, .f32⟩
  | .hbm, ⟨8, _⟩ => ⟨S8x128, .f32⟩
  | .hbm, ⟨9, _⟩ => ⟨S4x4160x128, .f32⟩
  | .hbm, ⟨10, _⟩ => ⟨S4160x512, .f32⟩
  | .hbm, ⟨11, _⟩ => ⟨S1024x1024, .f32⟩
  | .local _ .vmem, ⟨0, _⟩ => ⟨S832x1024, .f32⟩
  | .local _ .vmem, ⟨1, _⟩ => ⟨S832x1024, .f32⟩
  | .local _ .vmem, ⟨2, _⟩ => ⟨S832x512, .bf16⟩
  | .local _ .vmem, ⟨3, _⟩ => ⟨S832x512, .bf16⟩
  | .local _ .vmem, ⟨4, _⟩ => ⟨S832x512, .bf16⟩
  | .local _ .vmem, ⟨5, _⟩ => ⟨S832x512, .bf16⟩
  | .local _ .vmem, ⟨6, _⟩ => ⟨S1024x1024, .bf16⟩
  | .local _ .vmem, ⟨7, _⟩ => ⟨S4x832x128, .f32⟩
  | .local _ .vmem, ⟨8, _⟩ => ⟨S4x832x128, .f32⟩
  | .local _ .vmem, ⟨9, _⟩ => ⟨S832x512, .f32⟩
  | .local _ .vmem, ⟨10, _⟩ => ⟨S832x512, .f32⟩
  | .local _ .vmem, ⟨11, _⟩ => ⟨S1024x1024, .f32⟩
  | _, _ => ⟨S4160x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x832x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S832x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdOutRefIdeal.lean ====
abbrev S4160x512 : Shape := ⟨2, ![4160, 512]⟩
abbrev S1024x1024 : Shape := ⟨2, ![1024, 1024]⟩
abbrev S4160x1024 : Shape := ⟨2, ![4160, 1024]⟩
abbrev S4160x4x128 : Shape := ⟨3, ![4160, 4, 128]⟩
abbrev S4x4160x128 : Shape := ⟨3, ![4, 4160, 128]⟩

abbrev nBuf : Space → Nat
  | .hbm => 13
  | .vmem => 0
  | .smem => 0
  | _ => 0

abbrev bufTy : (tb : Table) → Fin (tcTables nBuf tb) → BufTy
  | .hbm, ⟨0, _⟩ => ⟨S4160x512, .f32⟩
  | .hbm, ⟨1, _⟩ => ⟨S4160x512, .f32⟩
  | .hbm, ⟨2, _⟩ => ⟨S1024x1024, .f32⟩
  | .hbm, ⟨3, _⟩ => ⟨S4160x1024, .f32⟩
  | .hbm, ⟨4, _⟩ => ⟨S4160x1024, .f32⟩
  | .hbm, ⟨5, _⟩ => ⟨S4160x1024, .f32⟩
  | .hbm, ⟨6, _⟩ => ⟨S1024x1024, .f32⟩
  | .hbm, ⟨7, _⟩ => ⟨S1024x1024, .f32⟩
  | .hbm, ⟨8, _⟩ => ⟨S4160x1024, .f32⟩
  | .hbm, ⟨9, _⟩ => ⟨S4160x512, .f32⟩
  | .hbm, ⟨10, _⟩ => ⟨S4160x512, .f32⟩
  | .hbm, ⟨11, _⟩ => ⟨S4160x4x128, .f32⟩
  | .hbm, ⟨12, _⟩ => ⟨S4x4160x128, .f32⟩
  | _, _ => ⟨S4160x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== BwdIn.lean ====
abbrev S4160x1024 : Shape := ⟨2, ![4160, 1024]⟩
abbrev S1x1024 : Shape := ⟨2, ![1, 1024]⟩
abbrev S1024x1024 : Shape := ⟨2, ![1024, 1024]⟩
abbrev S4160x512 : Shape := ⟨2, ![4160, 512]⟩
abbrev S832x512 : Shape := ⟨2, ![832, 512]⟩
abbrev S832x1024 : Shape := ⟨2, ![832, 1024]⟩
abbrev S1024x512 : Shape := ⟨2, ![1024, 512]⟩
abbrev S832 : Shape := ⟨1, ![832]⟩
abbrev S832x1 : Shape := ⟨2, ![832, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x1024, .f32⟩
  | .hbm, ⟨3, _⟩ => ⟨S4160x512, .f32⟩
  | .hbm, ⟨4, _⟩ => ⟨S4160x512, .f32⟩
  | .hbm, ⟨5, _⟩ => ⟨S4160x1024, .f32⟩
  | .hbm, ⟨6, _⟩ => ⟨S1024x1024, .bf16⟩
  | .hbm, ⟨7, _⟩ => ⟨S4160x1024, .f32⟩
  | .hbm, ⟨8, _⟩ => ⟨S1024x1024, .f32⟩
  | .hbm, ⟨9, _⟩ => ⟨S1x1024, .f32⟩
  | .local _ .vmem, ⟨0, _⟩ => ⟨S832x512, .f32⟩
  | .local _ .vmem, ⟨1, _⟩ => ⟨S832x512, .f32⟩
  | .local _ .vmem, ⟨2, _⟩ => ⟨S832x512, .f32⟩
  | .local _ .vmem, ⟨3, _⟩ => ⟨S832x512, .f32⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | .local _ .vmem, ⟨7, _⟩ => ⟨S832x1024, .f32⟩
  | .local _ .vmem, ⟨8, _⟩ => ⟨S1x1024, .f32⟩
  | .local _ .vmem, ⟨9, _⟩ => ⟨S1024x1024, .bf16⟩
  | .local _ .vmem, ⟨10, _⟩ => ⟨S832x1024, .f32⟩
  | .local _ .vmem, ⟨11, _⟩ => ⟨S832x1024, .f32⟩
  | .local _ .vmem, ⟨12, _⟩ => ⟨S1024x1024, .f32⟩
  | .local _ .vmem, ⟨13, _⟩ => ⟨S1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BwdInRefIdeal.lean ====
abbrev S4160x1024 : Shape := ⟨2, ![4160, 1024]⟩
abbrev S1x1024 : Shape := ⟨2, ![1, 1024]⟩
abbrev S1024x1024 : Shape := ⟨2, ![1024, 1024]⟩
abbrev S4160x512 : Shape := ⟨2, ![4160, 512]⟩
abbrev S_ : Shape := ⟨0, ![]⟩
abbrev S4160 : Shape := ⟨1, ![4160]⟩
abbrev S4160x1 : Shape := ⟨2, ![4160, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x1024, .f32⟩
  | .hbm, ⟨3, _⟩ => ⟨S4160x512, .f32⟩
  | .hbm, ⟨4, _⟩ => ⟨S4160x512, .f32⟩
  | .hbm, ⟨5, _⟩ => ⟨S4160x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S_, .f32⟩
  | .hbm, ⟨19, _⟩ => ⟨S4160x1, .f32⟩
  | .hbm, ⟨20, _⟩ => ⟨S4160x1, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S4160x1024, .f32⟩
  | .hbm, ⟨25, _⟩ => ⟨S4160x1024, .f32⟩
  | .hbm, ⟨26, _⟩ => ⟨S4160x512, .f32⟩
  | .hbm, ⟨27, _⟩ => ⟨S4160x512, .f32⟩
  | .hbm, ⟨28, _⟩ => ⟨S_, .f32⟩
  | .hbm, ⟨29, _⟩ => ⟨S4160x1024, .f32⟩
  | .hbm, ⟨30, _⟩ => ⟨S_, .f32⟩
  | .hbm, ⟨31, _⟩ => ⟨S4160x1024, .f32⟩
  | .hbm, ⟨32, _⟩ => ⟨S4160x1024, .f32⟩
  | .hbm, ⟨33, _⟩ => ⟨S1024x1024, .f32⟩
  | .hbm, ⟨34, _⟩ => ⟨S1024x1024, .f32⟩
  | .hbm, ⟨35, _⟩ => ⟨S4160x1024, .f32⟩
  | .hbm, ⟨36, _⟩ => ⟨S4160x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4160x1024, .f32⟩
  | .hbm, ⟨41, _⟩ => ⟨S4160x1024, .f32⟩
  | .hbm, ⟨42, _⟩ => ⟨S4160x1024, .f32⟩
  | .hbm, ⟨43, _⟩ => ⟨S_, .f32⟩
  | .hbm, ⟨44, _⟩ => ⟨S4160, .f32⟩
  | .hbm, ⟨45, _⟩ => ⟨S4160x1, .f32⟩
  | .hbm, ⟨46, _⟩ => ⟨S4160x1024, .f32⟩
  | .hbm, ⟨47, _⟩ => ⟨S4160x1024, .f32⟩
  | .hbm, ⟨48, _⟩ => ⟨S4160x1024, .f32⟩
  | .hbm, ⟨49, _⟩ => ⟨S4160x1, .f32⟩
  | .hbm, ⟨50, _⟩ => ⟨S_, .f32⟩
  | .hbm, ⟨51, _⟩ => ⟨S4160x1, .f32⟩
  | .hbm, ⟨52, _⟩ => ⟨S4160x1, .f32⟩
  | .hbm, ⟨53, _⟩ => ⟨S_, .f32⟩
  | .hbm, ⟨54, _⟩ => ⟨S4160, .f32⟩
  | .hbm, ⟨55, _⟩ => ⟨S4160x1024, .f32⟩
  | .hbm, ⟨56, _⟩ => ⟨S4160x1024, .f32⟩
  | .hbm, ⟨57, _⟩ => ⟨S4160x1024, .f32⟩
  | .hbm, ⟨58, _⟩ => ⟨S4160x1024, .f32⟩
  | .hbm, ⟨59, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== FwdIn.lean ====
abbrev S4160x1024 : Shape := ⟨2, ![4160, 1024]⟩
abbrev S1x1024 : Shape := ⟨2, ![1, 1024]⟩
abbrev S1024x1024 : Shape := ⟨2, ![1024, 1024]⟩
abbrev S_ : Shape := ⟨0, ![]⟩
abbrev S8x128 : Shape := ⟨2, ![8, 128]⟩
abbrev S4x4160x128 : Shape := ⟨3, ![4, 4160, 128]⟩
abbrev S4160x512 : Shape := ⟨2, ![4160, 512]⟩
abbrev S832x1024 : Shape := ⟨2, ![832, 1024]⟩
abbrev S4x832x128 : Shape := ⟨3, ![4, 832, 128]⟩
abbrev S832x512 : Shape := ⟨2, ![832, 512]⟩
abbrev S832 : Shape := ⟨1, ![832]⟩
abbrev S832x1 : Shape := ⟨2, ![832, 1]⟩
abbrev S832x128 : Shape := ⟨2, ![832, 128]⟩
abbrev S1x832x128 : Shape := ⟨3, ![1, 832, 128]⟩

abbrev nBuf : Space → Nat
  | .hbm => 8
  | .vmem => 8
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .hbm, ⟨4, _⟩ => ⟨S_, .f32⟩
  | .hbm, ⟨5, _⟩ => ⟨S8x128, .f32⟩
  | .hbm, ⟨6, _⟩ => ⟨S4x4160x128, .f32⟩
  | .hbm, ⟨7, _⟩ => ⟨S4160x512, .f32⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S1024x1024, .bf16⟩
  | .local _ .vmem, ⟨4, _⟩ => ⟨S4x832x128, .f32⟩
  | .local _ .vmem, ⟨5, _⟩ => ⟨S4x832x128, .f32⟩
  | .local _ .vmem, ⟨6, _⟩ => ⟨S832x512, .f32⟩
  | .local _ .vmem, ⟨7, _⟩ => ⟨S832x512, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x832x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S832x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdInRefIdeal.lean ====
abbrev S4160x1024 : Shape := ⟨2, ![4160, 1024]⟩
abbrev S1x1024 : Shape := ⟨2, ![1, 1024]⟩
abbrev S1024x1024 : Shape := ⟨2, ![1024, 1024]⟩
abbrev S_ : Shape := ⟨0, ![]⟩
abbrev S4160 : Shape := ⟨1, ![4160]⟩
abbrev S4160x1 : Shape := ⟨2, ![4160, 1]⟩
abbrev S4160x512 : Shape := ⟨2, ![4160, 512]⟩
abbrev S4160x4x128 : Shape := ⟨3, ![4160, 4, 128]⟩
abbrev S4x4160x128 : Shape := ⟨3, ![4, 4160, 128]⟩

abbrev nBuf : Space → Nat
  | .hbm => 23
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x1024, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x512, .f32⟩
  | .hbm, ⟨20, _⟩ => ⟨S4160x512, .f32⟩
  | .hbm, ⟨21, _⟩ => ⟨S4160x4x128, .f32⟩
  | .hbm, ⟨22, _⟩ => ⟨S4x4160x128, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== PoolFwd.lean ====
abbrev S4160x512 : Shape := ⟨2, ![4160, 512]⟩
abbrev S4x128x128 : Shape := ⟨3, ![4, 128, 128]⟩
abbrev S4x128 : Shape := ⟨2, ![4, 128]⟩
abbrev S512 : Shape := ⟨1, ![512]⟩
abbrev S1x512 : Shape := ⟨2, ![1, 512]⟩
abbrev S2x512 : Shape := ⟨2, ![2, 512]⟩
abbrev S_ : Shape := ⟨0, ![]⟩
abbrev S8x512 : Shape := ⟨2, ![8, 512]⟩
abbrev S8x128 : Shape := ⟨2, ![8, 128]⟩
abbrev S320x512 : Shape := ⟨2, ![320, 512]⟩
abbrev S16x512 : Shape := ⟨2, ![16, 512]⟩
abbrev S336x512 : Shape := ⟨2, ![336, 512]⟩
abbrev S336x128 : Shape := ⟨2, ![336, 128]⟩
abbrev S320x128 : Shape := ⟨2, ![320, 128]⟩
abbrev S320x1 : Shape := ⟨2, ![320, 1]⟩
abbrev S1x128x128 : Shape := ⟨3, ![1, 128, 128]⟩
abbrev S128x128 : Shape := ⟨2, ![128, 128]⟩
abbrev S320 : Shape := ⟨1, ![320]⟩

abbrev nBuf : Space → Nat
  | .hbm => 15
  | .vmem => 9
  | .smem => 0
  | _ => 0

abbrev bufTy : (tb : Table) → Fin (tcTables nBuf tb) → BufTy
  | .hbm, ⟨0, _⟩ => ⟨S4160x512, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S4x128x128, .bf16⟩
  | .hbm, ⟨5, _⟩ => ⟨S1x512, .f32⟩
  | .hbm, ⟨6, _⟩ => ⟨S1x512, .f32⟩
  | .hbm, ⟨7, _⟩ => ⟨S2x512, .f32⟩
  | .hbm, ⟨8, _⟩ => ⟨S_, .i32⟩
  | .hbm, ⟨9, _⟩ => ⟨S_, .f32⟩
  | .hbm, ⟨10, _⟩ => ⟨S8x512, .f32⟩
  | .hbm, ⟨11, _⟩ => ⟨S_, .f32⟩
  | .hbm, ⟨12, _⟩ => ⟨S8x128, .f32⟩
  | .hbm, ⟨13, _⟩ => ⟨S4160x512, .bf16⟩
  | .hbm, ⟨14, _⟩ => ⟨S4160x512, .bf16⟩
  | .local _ .vmem, ⟨0, _⟩ => ⟨S320x512, .f32⟩
  | .local _ .vmem, ⟨1, _⟩ => ⟨S320x512, .f32⟩
  | .local _ .vmem, ⟨2, _⟩ => ⟨S4x128x128, .bf16⟩
  | .local _ .vmem, ⟨3, _⟩ => ⟨S8x512, .f32⟩
  | .local _ .vmem, ⟨4, _⟩ => ⟨S320x512, .bf16⟩
  | .local _ .vmem, ⟨5, _⟩ => ⟨S320x512, .bf16⟩
  | .local _ .vmem, ⟨6, _⟩ => ⟨S320x512, .bf16⟩
  | .local _ .vmem, ⟨7, _⟩ => ⟨S320x512, .bf16⟩
  | .local _ .vmem, ⟨8, _⟩ => ⟨S16x512, .f32⟩
  | _, _ => ⟨S4160x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S4160x512 : Shape := ⟨2, ![4160, 512]⟩
abbrev S4x128x128 : Shape := ⟨3, ![4, 128, 128]⟩
abbrev S4x128 : Shape := ⟨2, ![4, 128]⟩
abbrev S512 : Shape := ⟨1, ![512]⟩
abbrev S4160x4x128 : Shape := ⟨3, ![4160, 4, 128]⟩
abbrev S_ : Shape := ⟨0, ![]⟩
abbrev S4160 : Shape := ⟨1, ![4160]⟩
abbrev S4160x1x128 : Shape := ⟨3, ![4160, 1, 128]⟩
abbrev S4160x128 : Shape := ⟨2, ![4160, 128]⟩
abbrev S2x128 : Shape := ⟨2, ![2, 128]⟩
abbrev S4158x128 : Shape := ⟨2, ![4158, 128]⟩
abbrev S4160x1 : Shape := ⟨2, ![4160, 1]⟩
abbrev S4156x128 : Shape := ⟨2, ![4156, 128]⟩
abbrev S8x128 : Shape := ⟨2, ![8, 128]⟩
abbrev S4152x128 : Shape := ⟨2, ![4152, 128]⟩
abbrev S16x128 : Shape := ⟨2, ![16, 128]⟩
abbrev S4144x128 : Shape := ⟨2, ![4144, 128]⟩
abbrev S4x128x4160 : Shape := ⟨3, ![4, 128, 4160]⟩
abbrev S1x4x128 : Shape := ⟨3, ![1, 4, 128]⟩
abbrev S1x512 : Shape := ⟨2, ![1, 512]⟩

abbrev nBuf : Space → Nat
  | .hbm => 106
  | .vmem => 0
  | .smem => 0
  | _ => 0

abbrev bufTy : (tb : Table) → Fin (tcTables nBuf tb) → BufTy
  | .hbm, ⟨0, _⟩ => ⟨S4160x512, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S4160x4x128, .f32⟩
  | .hbm, ⟨5, _⟩ => ⟨S_, .f32⟩
  | .hbm, ⟨6, _⟩ => ⟨S_, .f32⟩
  | .hbm, ⟨7, _⟩ => ⟨S4160x4x128, .f32⟩
  | .hbm, ⟨8, _⟩ => ⟨S4160, .f32⟩
  | .hbm, ⟨9, _⟩ => ⟨S_, .f32⟩
  | .hbm, ⟨10, _⟩ => ⟨S4160, .f32⟩
  | .hbm, ⟨11, _⟩ => ⟨S4160, .f32⟩
  | .hbm, ⟨12, _⟩ => ⟨S4160x1x128, .f32⟩
  | .hbm, ⟨13, _⟩ => ⟨S4160x128, .f32⟩
  | .hbm, ⟨14, _⟩ => ⟨S_, .f32⟩
  | .hbm, ⟨15, _⟩ => ⟨S2x128, .f32⟩
  | .hbm, ⟨16, _⟩ => ⟨S4158x128, .f32⟩
  | .hbm, ⟨17, _⟩ => ⟨S4160x128, .f32⟩
  | .hbm, ⟨18, _⟩ => ⟨S_, .f32⟩
  | .hbm, ⟨19, _⟩ => ⟨S4160, .f32⟩
  | .hbm, ⟨20, _⟩ => ⟨S4160, .f32⟩
  | .hbm, ⟨21, _⟩ => ⟨S4160x1, .f32⟩
  | .hbm, ⟨22, _⟩ => ⟨S4160x128, .f32⟩
  | .hbm, ⟨23, _⟩ => ⟨S4160x128, .f32⟩
  | .hbm, ⟨24, _⟩ => ⟨S4160x128, .f32⟩
  | .hbm, ⟨25, _⟩ => ⟨S4160x1x128, .f32⟩
  | .hbm, ⟨26, _⟩ => ⟨S4160x128, .f32⟩
  | .hbm, ⟨27, _⟩ => ⟨S4160x128, .f32⟩
  | .hbm, ⟨28, _⟩ => ⟨S4160x1x128, .f32⟩
  | .hbm, ⟨29, _⟩ => ⟨S4160x128, .f32⟩
  | .hbm, ⟨30, _⟩ => ⟨S_, .f32⟩
  | .hbm, ⟨31, _⟩ => ⟨S4x128, .f32⟩
  | .hbm, ⟨32, _⟩ => ⟨S4156x128, .f32⟩
  | .hbm, ⟨33, _⟩ => ⟨S4160x128, .f32⟩
  | .hbm, ⟨34, _⟩ => ⟨S_, .f32⟩
  | .hbm, ⟨35, _⟩ => ⟨S4160, .f32⟩
  | .hbm, ⟨36, _⟩ => ⟨S4160, .f32⟩
  | .hbm, ⟨37, _⟩ => ⟨S4160x1, .f32⟩
  | .hbm, ⟨38, _⟩ => ⟨S4160x128, .f32⟩
  | .hbm, ⟨39, _⟩ => ⟨S4160x128, .f32⟩
  | .hbm, ⟨40, _⟩ => ⟨S4160x128, .f32⟩
  | .hbm, ⟨41, _⟩ => ⟨S4160x1x128, .f32⟩
  | .hbm, ⟨42, _⟩ => ⟨S4160x128, .f32⟩
  | .hbm, ⟨43, _⟩ => ⟨S4160x128, .f32⟩
  | .hbm, ⟨44, _⟩ => ⟨S4160x1x128, .f32⟩
  | .hbm, ⟨45, _⟩ => ⟨S4160x128, .f32⟩
  | .hbm, ⟨46, _⟩ => ⟨S_, .f32⟩
  | .hbm, ⟨47, _⟩ => ⟨S8x128, .f32⟩
  | .hbm, ⟨48, _⟩ => ⟨S4152x128, .f32⟩
  | .hbm, ⟨49, _⟩ => ⟨S4160x128, .f32⟩
  | .hbm, ⟨50, _⟩ => ⟨S_, .f32⟩
  | .hbm, ⟨51, _⟩ => ⟨S4160, .f32⟩
  | .hbm, ⟨52, _⟩ => ⟨S4160, .f32⟩
  | .hbm, ⟨53, _⟩ => ⟨S4160x1, .f32⟩
  | .hbm, ⟨54, _⟩ => ⟨S4160x128, .f32⟩
  | .hbm, ⟨55, _⟩ => ⟨S4160x128, .f32⟩
  | .hbm, ⟨56, _⟩ => ⟨S4160x128, .f32⟩
  | .hbm, ⟨57, _⟩ => ⟨S4160x1x128, .f32⟩
  | .hbm, ⟨58, _⟩ => ⟨S4160x128, .f32⟩
  | .hbm, ⟨59, _⟩ => ⟨S4160x128, .f32⟩
  | .hbm, ⟨60, _⟩ => ⟨S4160x1x128, .f32⟩
  | .hbm, ⟨61, _⟩ => ⟨S4160x128, .f32⟩
  | .hbm, ⟨62, _⟩ => ⟨S_, .f32⟩
  | .hbm, ⟨63, _⟩ => ⟨S16x128, .f32⟩
  | .hbm, ⟨64, _⟩ => ⟨S4144x128, .f32⟩
  | .hbm, ⟨65, _⟩ => ⟨S4160x128, .f32⟩
  | .hbm, ⟨66, _⟩ => ⟨S_, .f32⟩
  | .hbm, ⟨67, _⟩ => ⟨S4160, .f32⟩
  | .hbm, ⟨68, _⟩ => ⟨S4160, .f32⟩
  | .hbm, ⟨69, _⟩ => ⟨S4160x1, .f32⟩
  | .hbm, ⟨70, _⟩ => ⟨S4160x128, .f32⟩
  | .hbm, ⟨71, _⟩ => ⟨S4160x128, .f32⟩
  | .hbm, ⟨72, _⟩ => ⟨S4160x128, .f32⟩
  | .hbm, ⟨73, _⟩ => ⟨S4160x1x128, .f32⟩
  | .hbm, ⟨74, _⟩ => ⟨S4160x128, .f32⟩
  | .hbm, ⟨75, _⟩ => ⟨S4160x128, .f32⟩
  | .hbm, ⟨76, _⟩ => ⟨S4160x1x128, .f32⟩
  | .hbm, ⟨77, _⟩ => ⟨S4160x1x128, .f32⟩
  | .hbm, ⟨78, _⟩ => ⟨S4160x1x128, .f32⟩
  | .hbm, ⟨79, _⟩ => ⟨S4160x1x128, .f32⟩
  | .hbm, ⟨80, _⟩ => ⟨S4160x4x128, .f32⟩
  | .hbm, ⟨81, _⟩ => ⟨S4160x512, .f32⟩
  | .hbm, ⟨82, _⟩ => ⟨S4160x512, .bf16⟩
  | .hbm, ⟨83, _⟩ => ⟨S4x128x4160, .f32⟩
  | .hbm, ⟨84, _⟩ => ⟨S4160x4x128, .f32⟩
  | .hbm, ⟨85, _⟩ => ⟨S1x4x128, .f32⟩
  | .hbm, ⟨86, _⟩ => ⟨S4160x4x128, .f32⟩
  | .hbm, ⟨87, _⟩ => ⟨S4160x4x128, .f32⟩
  | .hbm, ⟨88, _⟩ => ⟨S4160x512, .f32⟩
  | .hbm, ⟨89, _⟩ => ⟨S4160x512, .f32⟩
  | .hbm, ⟨90, _⟩ => ⟨S_, .f32⟩
  | .hbm, ⟨91, _⟩ => ⟨S4160, .f32⟩
  | .hbm, ⟨92, _⟩ => ⟨S4160x1, .f32⟩
  | .hbm, ⟨93, _⟩ => ⟨S_, .f32⟩
  | .hbm, ⟨94, _⟩ => ⟨S4160x1, .f32⟩
  | .hbm, ⟨95, _⟩ => ⟨S4160x1, .f32⟩
  | .hbm, ⟨96, _⟩ => ⟨S_, .f32⟩
  | .hbm, ⟨97, _⟩ => ⟨S4160x1, .f32⟩
  | .hbm, ⟨98, _⟩ => ⟨S4160x1, .f32⟩
  | .hbm, ⟨99, _⟩ => ⟨S4160x1, .f32⟩
  | .hbm, ⟨100, _⟩ => ⟨S4160x512, .f32⟩
  | .hbm, ⟨101, _⟩ => ⟨S4160x512, .f32⟩
  | .hbm, ⟨102, _⟩ => ⟨S1x512, .f32⟩
  | .hbm, ⟨103, _⟩ => ⟨S4160x512, .f32⟩
  | .hbm, ⟨104, _⟩ => ⟨S4160x512, .f32⟩
  | .hbm, ⟨105, _⟩ => ⟨S4160x512, .bf16⟩
  | _, _ => ⟨S4160x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩

abbrev nD : Nat := 1
abbrev τ : Topo := Topo.v7x

variable {F : FTy → Type} [FloatOps F]
-- ==== Proof.Real.Norm.lean ====
/-
  Finite extended reals, and the gradient of the root-mean-square norm: two ways to write it agree on finite rows.
-/
module

public import Idealize.ShloMosaic.Lib.Pipeline.ValueKit
public import Idealize.ShloMosaic.Lib.IdealHost

@[expose] public section

noncomputable section

namespace Cert.Norm

open Idealize.ShloMosaic

/-- An extended real that is a real number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.add {x y : EReal} (hx : Fin' x) (hy : Fin' y) : Fin' (x + y) := by
  obtain ⟨a, rfl⟩ := hx; obtain ⟨b, rfl⟩ := hy; exact ⟨a + b, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem Fin'.sub {x y : EReal} (hx : Fin' x) (hy : Fin' y) : Fin' (x - y) := by
  obtain ⟨a, rfl⟩ := hx; obtain ⟨b, rfl⟩ := hy; exact ⟨a - b, by push_cast; rfl⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Fin'.sum {ι : Type*} (s : Finset ι) (f : ι → EReal) (h : ∀ i, Fin' (f i)) : Fin' (∑ i ∈ s, f i) := by
  choose g hg using h
  exact ⟨∑ i ∈ s, g i, by rw [← coe_sum]; exact Finset.sum_congr rfl fun i _ => hg i⟩

/-- What a comparison `|x| < ∞` says of `x`. -/
theorem fin_of_lt (x : EReal) (h : Ideal.cmp .olt (max x (-x)) (Ideal.ofBits .f32 0x7F800000#32) = 1#1) : Fin' x := by
  have ht : Ideal.ofBits .f32 0x7F800000#32 = ⊤ := by
    simp [Ideal.ofBits, Ideal.ieee]
  rw [ht] at h
  induction x using EReal.rec with
  | bot => simp [Ideal.cmp] at h
  | top => simp [Ideal.cmp] at h
  | coe r => exact ⟨r, rfl⟩

/-! ## The constants -/

theorem n1024 : Ideal.ofBits .f32 0x44800000#32 = ((1024 : ℝ) : EReal) := by
  simp [Ideal.ofBits, Ideal.ieee, -EReal.coe_mul]; norm_num

theorem n512 : Ideal.ofBits .f32 0x44000000#32 = ((512 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul, -EReal.coe_neg]; norm_num

/-- The number added under the root is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

theorem div_coe {c : ℝ} (hc : c ≠ 0) (x : ℝ) : Ideal.div (x : EReal) (c : EReal) = ((x / c : ℝ) : EReal) := by
  rw [Ideal.div_coe hc, ← EReal.coe_mul]
  congr 1
  rw [mul_one_div]

theorem rsqrt_coe {q : ℝ} (hq : 0 < q) : Ideal.rsqrt (q : EReal) = (((Real.sqrt q)⁻¹ : ℝ) : EReal) := by
  rw [Ideal.rsqrt_coe, if_neg (not_lt.mpr hq.le), if_neg hq.ne']

/-! ## The norm -/

/-- The mean square of a row, with the small number added. -/
def SQ {n : ℕ} (c e : EReal) (x : Fin n → EReal) : EReal := Ideal.div (∑ k, x k * x k) c + e

/-- The row's gradient as the kernels write it: `r (d - x̂ mean(d x̂))`, where `x̂ = x r` and `r` is the reciprocal root. -/
def BWD {n : ℕ} (c e : EReal) (x d : Fin n → EReal) (k : Fin n) : EReal :=
  Ideal.rsqrt (SQ c e x) * (d k - x k * Ideal.rsqrt (SQ c e x)
    * Ideal.div (∑ j, d j * (x j * Ideal.rsqrt (SQ c e x))) c)

/-- The mean square's own gradient, as differentiation writes it. -/
def DSQ {n : ℕ} (c e h : EReal) (x d : Fin n → EReal) : EReal :=
  Ideal.div ((∑ j, x j * d j) * (h * Ideal.div (Ideal.rsqrt (SQ c e x)) (SQ c e x))) c

/-- The row's gradient as differentiation writes it, beside a summand `a`. -/
def VJP {n : ℕ} (c e h : EReal) (a : EReal) (x d : Fin n → EReal) (k : Fin n) : EReal :=
  a + d k * Ideal.rsqrt (SQ c e x) + x k * DSQ c e h x d + DSQ c e h x d * x k

/-- A factor that is a real not below zero comes out of a sum. -/
theorem sum_mul_coe {ι : Type*} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

theorem twice (y : EReal) {k : ℝ} (hk : 0 < k) : -(y * ((2 * k : ℝ) : EReal)) = y * ((-k : ℝ) : EReal) + y * ((-k : ℝ) : EReal) := by
  induction y using EReal.rec with
  | bot => rw [EReal.bot_mul_coe_of_pos (by linarith), EReal.bot_mul_coe_of_neg (by linarith)]; rfl
  | top => rw [EReal.top_mul_coe_of_pos (by linarith), EReal.top_mul_coe_of_neg (by linarith)]; rfl
  | coe y =>
    norm_cast
    ring

theorem sq_nonneg' (x : EReal) : 0 ≤ x * x := by
  induction x using EReal.rec with
  | bot => simp
  | top => simp
  | coe y => exact_mod_cast mul_self_nonneg y

/-- A mean square is the infinity, or a real, and then, with the small number added, above zero. -/
theorem SQ_cases {n : ℕ} {c e : EReal} {c' e' : ℝ} (hc : c = (c' : EReal)) (he : e = (e' : EReal)) (hc' : 0 < c') (he' : 0 < e')
    (x : Fin n → EReal) : SQ c e x = ⊤ ∨ ∃ q : ℝ, 0 < q ∧ SQ c e x = (q : EReal) := by
  have h0 : 0 ≤ ∑ k, x k * x k := Finset.sum_nonneg fun k _ => sq_nonneg' _
  unfold SQ
  generalize ∑ k, x k * x k = s at h0
  rw [hc, he, Ideal.div_coe hc'.ne']
  induction s using EReal.rec with
  | bot => simp at h0
  | top =>
    left
    rw [EReal.top_mul_coe_of_pos (by positivity)]
    rfl
  | coe y =>
    right
    have hy : 0 ≤ y := by exact_mod_cast h0
    exact ⟨y * (1 / c') + e', by positivity, by push_cast; rfl⟩

/-- The two gradients agree on every row, the infinite ones too. -/
theorem vjp_eq {n : ℕ} {c e h : EReal} {c' e' : ℝ} (hc : c = (c' : EReal)) (he : e = (e' : EReal)) (hc' : 0 < c') (he' : 0 < e')
    (hh : h = ((-(1 / 2) : ℝ) : EReal)) (a : EReal) (x d : Fin n → EReal) (k : Fin n) :
    VJP c e h a x d k = a + BWD c e x d k := by
  unfold VJP BWD DSQ
  obtain eq | ⟨q, hq, eq⟩ := SQ_cases hc he hc' he' x
  · rw [eq, hc, Ideal.rsqrt_top]
    have h0 : Ideal.div 0 ⊤ = 0 := by simp [Ideal.div]
    rw [h0, Ideal.div_coe hc'.ne']
    simp
  · have hs : 0 < (√q)⁻¹ := inv_pos.mpr (Real.sqrt_pos.mpr hq)
    have h2 : (√q)⁻¹ * (√q)⁻¹ = q⁻¹ := by rw [← mul_inv, Real.mul_self_sqrt hq.le]
    rw [eq, rsqrt_coe hq, hc, hh, div_coe hq.ne', Ideal.div_coe hc'.ne', Ideal.div_coe hc'.ne']
    simp only [← mul_assoc]
    rw [sum_mul_coe _ _ hs.le, Finset.sum_congr rfl fun j _ => mul_comm (d j) (x j)]
    generalize (∑ j, x j * d j) = S
    generalize (√q)⁻¹ = r at *
    rw [sub_eq_add_neg, EReal.left_distrib_of_nonneg_of_ne_top (by exact_mod_cast hs.le) (EReal.coe_ne_top r), add_assoc, add_assoc]
    congr 1
    rw [mul_comm (d k)]
    congr 1
    have t := twice (x k * S) (k := r / q / 2 / c') (by positivity)
    have t1 : x k * S * ((-(r / q / 2 / c') : ℝ) : EReal) = x k * S * ((-(1 / 2) : ℝ) : EReal) * ((r / q : ℝ) : EReal) * ((1 / c' : ℝ) : EReal) := by
      rw [mul_assoc, mul_assoc, mul_assoc, mul_assoc, ← EReal.coe_mul, ← EReal.coe_mul]
      congr 3
      field_simp
    have t2 : (r : EReal) * -(x k * (r : EReal) * (S * (r : EReal)) * ((1 / c' : ℝ) : EReal)) = -(x k * S * ((2 * (r / q / 2 / c') : ℝ) : EReal)) := by
      have e1 : 2 * (r / q / 2 / c') = r * r * r * (1 / c') := by
        rw [h2]
        field_simp
      rw [e1, mul_neg]
      push_cast
      congr 1
      ac_rfl
    rw [t2, t, t1]
    congr 1
    ac_rfl

/-- A row divided by its root mean square has finite entries, whatever the row: an infinite entry makes the square infinite and the
reciprocal root zero. -/
theorem norm_fin {n : ℕ} {c e : EReal} {c' e' : ℝ} (hc : c = (c' : EReal)) (he : e = (e' : EReal)) (hc' : 0 < c') (he' : 0 < e')
    (x : Fin n → EReal) (k : Fin n) : Fin' (x k * Ideal.rsqrt (SQ c e x)) := by
  obtain eq | ⟨q, hq, eq⟩ := SQ_cases hc he hc' he' x
  · rw [eq, Ideal.rsqrt_top, mul_zero]
    exact Fin'.zero
  · have ht : x k * x k ≠ ⊤ := fun h => by
      have h1 : ∑ j, x j * x j = ⊤ :=
        top_le_iff.mp (h.ge.trans (Finset.single_le_sum (f := fun j => x j * x j) (fun j _ => sq_nonneg' _) (Finset.mem_univ k)))
      unfold SQ at eq
      rw [h1, hc, he, Ideal.div_coe hc'.ne', EReal.top_mul_coe_of_pos (by positivity), EReal.top_add_coe] at eq
      exact EReal.coe_ne_top q eq.symm
    have hx : Fin' (x k) := by
      generalize x k = y at ht
      induction y using EReal.rec with
      | bot => exact absurd rfl ht
      | top => exact absurd rfl ht
      | coe r => exact Fin'.coe r
    rw [eq, rsqrt_coe hq]
    exact hx.mul (Fin'.coe _)

end Cert.Norm
-- ==== Proof.Real.Pool.lean ====
/-
  One row of the pooling mixer and of its norm, forwards and backwards, over the extended reals.
-/
module

public import proofs.«01_k».proof.Proof.Real.Norm

@[expose] public section

noncomputable section

namespace Cert.Pool

open Idealize.ShloMosaic Cert.Norm

/-- A row's number of entries, and the number under the root. -/
abbrev NN : EReal := Ideal.ofBits .f32 0x44000000#32
abbrev EE : EReal := Ideal.ofBits .f32 0x358637BD#32

/-- The group of a column, its place in the group, and the column at a place of a group. -/
def gq (j : Fin 512) : Fin 4 := ⟨j.val / 128, by omega⟩
def gd (j : Fin 512) : Fin 128 := ⟨j.val % 128, by omega⟩
def cc (q : Fin 4) (d : Fin 128) : Fin 512 := ⟨q.val * 128 + d.val, by omega⟩

theorem cc_g (j : Fin 512) : cc (gq j) (gd j) = j := Fin.ext (by simp only [cc, gq, gd]; omega)
theorem gq_cc (q : Fin 4) (d : Fin 128) : gq (cc q d) = q := Fin.ext (by simp only [cc, gq]; omega)
theorem gd_cc (q : Fin 4) (d : Fin 128) : gd (cc q d) = d := Fin.ext (by simp only [cc, gd]; omega)

variable (f : Fin 512 → EReal) (w : Fin 4 → Fin 128 → Fin 128 → EReal) (s g ct : Fin 512 → EReal)

/-- A row of features times the four groups' matrices, and then the scale. -/
def PR (j : Fin 512) : EReal := ∑ a, f (cc (gq j) a) * w (gq j) a (gd j)
def YP (j : Fin 512) : EReal := PR f w j * s j

/-- The row divided by its root mean square. -/
def XH (j : Fin 512) : EReal := YP f w s j * Ideal.rsqrt (SQ NN EE (YP f w s))

/-- The gradients of the scaled row, of the row, and of the features. -/
def DY (j : Fin 512) : EReal := BWD NN EE (YP f w s) (fun k => ct k * g k) j
def DP (j : Fin 512) : EReal := DY f w s g ct j * s j
def DF (j : Fin 512) : EReal := ∑ b, DP f w s g ct (cc (gq j) b) * w (gq j) (gd j) b

section Fin
variable (hs : ∀ j, Fin' (s j)) (hg : ∀ j, Fin' (g j)) (hc : ∀ j, Fin' (ct j)) (hw : ∀ q a b, Fin' (w q a b))

theorem rsqrt_fin : Fin' (Ideal.rsqrt (SQ NN EE (YP f w s))) := by
  obtain ⟨e', he', he⟩ := eps_pos
  obtain eq | ⟨q, hq, eq⟩ := SQ_cases n512 he (by norm_num) he' (YP f w s)
  · rw [eq, Ideal.rsqrt_top]
    exact Fin'.zero
  · rw [eq, rsqrt_coe hq]
    exact Fin'.coe _

theorem xh_fin (j : Fin 512) : Fin' (XH f w s j) := by
  obtain ⟨e', he', he⟩ := eps_pos
  exact norm_fin n512 he (by norm_num) he' _ _

include hg hc in
/-- The scaled row's gradient is finite where the norm's gain and the output's gradient are, whatever the row. -/
theorem dy_fin (j : Fin 512) : Fin' (DY f w s g ct j) := by
  refine Fin'.mul (rsqrt_fin f w s) (Fin'.sub (Fin'.mul (hc j) (hg j)) (Fin'.mul (xh_fin f w s j) ?_))
  obtain ⟨r, hr⟩ := Fin'.sum Finset.univ _ fun k => Fin'.mul (Fin'.mul (hc k) (hg k)) (xh_fin f w s k)
  have hr' : ∑ k, ct k * g k * (YP f w s k * Ideal.rsqrt (SQ NN EE (YP f w s))) = (r : EReal) := hr
  rw [hr', show NN = _ from n512, div_coe (by norm_num)]
  exact Fin'.coe _

include hs hg hc hw in
theorem df_fin (j : Fin 512) : Fin' (DF f w s g ct j) :=
  Fin'.sum _ _ fun b => Fin'.mul (Fin'.mul (dy_fin f w s g ct hg hc _) (hs _)) (hw _ _ _)
end Fin

/-! ## Sums over a window -/

/-- The differences of a sequence at distance `w`, summed from `l` on, are its first `w` terms from `l` on. -/
theorem window_real (E : ℕ → ℝ) (N w : ℕ) (hE : ∀ n, N ≤ n → E n = 0) (l : ℕ) :
    ∑ n ∈ Finset.range N, (E (l + n) - E (l + n + w)) = ∑ n ∈ Finset.range w, E (l + n) := by
  have h1 : ∑ n ∈ Finset.range (N + w), E (l + n) = ∑ n ∈ Finset.range N, E (l + n) + ∑ n ∈ Finset.range w, E (l + (N + n)) :=
    Finset.sum_range_add _ _ _
  have h2 : ∑ n ∈ Finset.range (w + N), E (l + n) = ∑ n ∈ Finset.range w, E (l + n) + ∑ n ∈ Finset.range N, E (l + (w + n)) :=
    Finset.sum_range_add _ _ _
  have h3 : ∑ n ∈ Finset.range w, E (l + (N + n)) = 0 := Finset.sum_eq_zero fun n _ => hE _ (by omega)
  have h4 : ∑ n ∈ Finset.range N, E (l + (w + n)) = ∑ n ∈ Finset.range N, E (l + n + w) :=
    Finset.sum_congr rfl fun n _ => congrArg E (by omega)
  rw [Finset.sum_sub_distrib]
  rw [add_comm w N] at h2
  linarith

/-- The same of extended reals, all of them finite. -/
theorem window (E : ℕ → EReal) (hf : ∀ n, Fin' (E n)) (N w : ℕ) (hE : ∀ n, N ≤ n → E n = 0) (l : ℕ) :
    ∑ n ∈ Finset.range N, (E (l + n) + -E (l + n + w)) = ∑ n ∈ Finset.range w, E (l + n) := by
  choose R hR using hf
  have e1 : ∀ n, E (l + n) + -E (l + n + w) = ((R (l + n) - R (l + n + w) : ℝ) : EReal) := fun n => by
    rw [hR, hR, EReal.coe_sub]
    rfl
  have e2 : ∀ n, N ≤ n → R n = 0 := fun n h => by
    have := hE n h
    rw [hR] at this
    exact_mod_cast this
  simp only [e1]
  rw [coe_sum, window_real R N w e2, ← coe_sum]
  exact Finset.sum_congr rfl fun n _ => (hR _).symm

/-- A quotient by a real is the product with the real's reciprocal. -/
theorem mul_recip (x : EReal) {c : ℝ} (hc : c ≠ 0) : x * Ideal.div 1 (c : EReal) = Ideal.div x (c : EReal) := by
  rw [Ideal.div_coe hc, Ideal.div_coe hc, one_mul]

end Cert.Pool
-- ==== Proof.PoolBwd.Ref.lean ====
/-
  The gradient of the pooling mixer: the reference's stages, entry by entry.
-/
module

public import proofs.«01_k».proof.Proof.Gen.PoolBwdRefIdeal.Read
public import proofs.«01_k».proof.Proof.Real.Pool
public import Idealize.ShloMosaic.Lib.Pipeline.ValueKit

@[expose] public section

set_option maxRecDepth 16384

noncomputable section

namespace Cert.PoolBwdRefIdeal.Rows

open Cert.PoolBwdRefIdeal Cert.PoolBwdRefIdeal.Gen Cert.PoolBwdRefIdeal.Read Idealize.ShloMosaic Idealize.ShloMosaic.TcCoe Idealize.SL.Sem
open Cert.Norm Cert.Pool

variable (x0 : FVec Ideal S4160x512 .f32) (x1 : FVec Ideal S4x128x128 .f32) (x2 : FVec Ideal S4x128 .f32) (x3 : FVec Ideal S512 .f32)
  (x4 : FVec Ideal S4160x512 .f32)

/-- A row of the features, the matrices, the scale, the gain, a row of the output's gradient. -/
abbrev fl (l : Fin 4160) (j : Fin 512) : EReal := val_main_v69 (F := Ideal) x0 (ix3 l (gq j) (gd j))
abbrev wl (q : Fin 4) (a b : Fin 128) : EReal := x1 (ix3 q a b)
abbrev sl (j : Fin 512) : EReal := x2 (ix2 (gq j) (gd j))
abbrev gl (j : Fin 512) : EReal := x3 (ix1 j)
abbrev cl (l : Fin 4160) (j : Fin 512) : EReal := x4 (ix2 l j)

theorem v71_at (l : Fin 4160) (q : Fin 4) (d : Fin 128) : val_main_v71 (F := Ideal) x0 x1 (ix3 l q d) = PR (fl x0 l) (wl x1) (cc q d) := by
  unfold PR fl
  simp only [gq_cc, gd_cc]
  generalize hz : val_main_v69 (F := Ideal) x0 = z
  pointwise [val_main_v71, val_main_v70]
  rw [hz]
  refine Finset.sum_congr rfl fun a _ => (mul_comm _ _).trans ?_
  rfl

theorem v75_at (l : Fin 4160) (j : Fin 512) : val_main_v75 (F := Ideal) x0 x1 x2 (ix2 l j) = YP (fl x0 l) (wl x1) (sl x2) j := by
  have f := v71_at x0 x1 l (gq j) (gd j)
  rw [cc_g] at f
  unfold YP
  rw [← f]
  generalize hz : val_main_v71 (F := Ideal) x0 x1 = z
  pointwise [val_main_v75, val_main_v74, val_main_v73, val_main_v72]
  rw [hz]
  rfl

theorem yp_row (l : Fin 4160) : YP (fl x0 l) (wl x1) (sl x2) = fun j : Fin 512 => val_main_v75 (F := Ideal) x0 x1 x2 (ix2 l j) :=
  funext fun j => (v75_at x0 x1 x2 l j).symm

theorem v82_at (l : Fin 4160) : val_main_v82 (F := Ideal) x0 x1 x2 (ix2 l 0) = SQ NN EE (YP (fl x0 l) (wl x1) (sl x2)) := by
  rw [yp_row]
  unfold SQ
  generalize hz : val_main_v75 (F := Ideal) x0 x1 x2 = z
  pointwise [val_main_v82, val_main_v81, val_main_cst_14, val_main_v80, val_main_v79, val_main_cst_13, val_main_v78, val_main_v77, val_main_cst_12, val_main_v76]
  simp only [hz]

theorem v88_at (l : Fin 4160) (j : Fin 512) : val_main_v88 (F := Ideal) x0 x1 x2 (ix2 l j) = XH (fl x0 l) (wl x1) (sl x2) j := by
  unfold XH
  rw [← v82_at, ← v75_at]
  generalize hy : val_main_v82 (F := Ideal) x0 x1 x2 = y
  generalize hz : val_main_v75 (F := Ideal) x0 x1 x2 = z
  pointwise [val_main_v88, val_main_v87, val_main_v83]
  simp only [hz, hy]

theorem v111_at (l : Fin 4160) (j : Fin 512) : val_main_v111 (F := Ideal) x0 x1 x2 x3 x4 (ix2 l j) = DY (fl x0 l) (wl x1) (sl x2) (gl x3) (cl x4 l) j := by
  obtain ⟨e', he', he⟩ := eps_pos
  unfold DY
  rw [← zero_add (BWD _ _ _ _ _)]
  refine Eq.trans ?_ (vjp_eq n512 he (by norm_num) he' neg_half 0 _ _ _)
  unfold VJP DSQ
  simp only [← v82_at]
  simp only [yp_row]
  generalize hy : val_main_v82 (F := Ideal) x0 x1 x2 = y
  generalize hz : val_main_v75 (F := Ideal) x0 x1 x2 = z
  pointwise [val_main_v111, val_main_v110, val_main_v109, val_main_v108, val_main_v107, val_main_v106, val_main_cst_20, val_main_v105, val_main_v104, val_main_cst_19,
    val_main_v103, val_main_v102, val_main_v101, val_main_v100, val_main_v99, val_main_cst_18, val_main_v98, val_main_v96, val_main_v95, val_main_v89, val_main_v86,
    val_main_v85, val_main_cst_15, val_main_v84, val_main_v83]
  simp only [Fin.sum_univ_one, hz, hy]

/-- A row's gradients of the norm's input and of the mixer's. -/
abbrev dyl (l : Fin 4160) (j : Fin 512) : EReal := DY (fl x0 l) (wl x1) (sl x2) (gl x3) (cl x4 l) j
abbrev dpl (l : Fin 4160) (j : Fin 512) : EReal := DP (fl x0 l) (wl x1) (sl x2) (gl x3) (cl x4 l) j
abbrev dfl (l : Fin 4160) (j : Fin 512) : EReal := DF (fl x0 l) (wl x1) (sl x2) (gl x3) (cl x4 l) j

theorem v117_at (l : Fin 4160) (q : Fin 4) (d : Fin 128) : val_main_v117 (F := Ideal) x0 x1 x2 x3 x4 (ix3 l q d) = dpl x0 x1 x2 x3 x4 l (cc q d) := by
  have f := v111_at x0 x1 x2 x3 x4 l (cc q d)
  unfold dpl DP
  rw [← f]
  simp only [sl, gq_cc, gd_cc]
  generalize hz : val_main_v111 (F := Ideal) x0 x1 x2 x3 x4 = z
  pointwise [val_main_v117, val_main_v116, val_main_v72, val_main_v112]
  rw [hz]
  rfl

theorem v121_at (l : Fin 4160) (q : Fin 4) (a : Fin 128) : val_main_v121 (F := Ideal) x0 x1 x2 x3 x4 (ix3 l q a) = dfl x0 x1 x2 x3 x4 l (cc q a) := by
  have f : ∀ b : Fin 128, _ = dpl x0 x1 x2 x3 x4 l (cc q b) := fun b => v117_at x0 x1 x2 x3 x4 l q b
  unfold dfl DF
  rw [gq_cc, gd_cc]
  simp only [← f]
  generalize hz : val_main_v117 (F := Ideal) x0 x1 x2 x3 x4 = z
  pointwise [val_main_v121, val_main_v120, val_main_v119]
  simp only [hz]

/-- The gradient of the matrices. -/
theorem v123_at (q : Fin 4) (a b : Fin 128) : val_main_v123 (F := Ideal) x0 x1 x2 x3 x4 (ix3 q a b)
    = ∑ l : Fin 4160, fl x0 l (cc q a) * dpl x0 x1 x2 x3 x4 l (cc q b) := by
  have f : ∀ l : Fin 4160, _ = dpl x0 x1 x2 x3 x4 l (cc q b) := fun l => v117_at x0 x1 x2 x3 x4 l q b
  simp only [← f, fl, gq_cc, gd_cc]
  generalize hz : val_main_v117 (F := Ideal) x0 x1 x2 x3 x4 = z
  generalize hy : val_main_v69 (F := Ideal) x0 = y
  pointwise [val_main_v123, val_main_v122, val_main_v119]
  simp only [hz, hy]
  exact Finset.sum_congr rfl fun l _ => mul_comm _ _

/-- The gradient of the scale. -/
theorem v118_at (q : Fin 4) (d : Fin 128) : val_main_v118 (F := Ideal) x0 x1 x2 x3 x4 (ix2 q d)
    = ∑ l : Fin 4160, dyl x0 x1 x2 x3 x4 l (cc q d) * PR (fl x0 l) (wl x1) (cc q d) := by
  have f : ∀ l : Fin 4160, _ = dyl x0 x1 x2 x3 x4 l (cc q d) := fun l => v111_at x0 x1 x2 x3 x4 l (cc q d)
  have g : ∀ l : Fin 4160, _ = PR (fl x0 l) (wl x1) (cc q d) := fun l => v71_at x0 x1 l q d
  simp only [← f, ← g]
  generalize hz : val_main_v111 (F := Ideal) x0 x1 x2 x3 x4 = z
  generalize hy : val_main_v71 (F := Ideal) x0 x1 = y
  pointwise [val_main_v118, val_main_v115, val_main_v114, val_main_v113, val_main_v112, val_main_cst_21, val_main_cst_22]
  simp only [hz, hy, Fin.sum_univ_one]
  exact Finset.sum_congr rfl fun l _ => mul_comm _ _

/-- The gradient of the gain. -/
theorem v97_at (j : Fin 512) : val_main_v97 (F := Ideal) x0 x1 x2 x4 (ix1 j)
    = ∑ l : Fin 4160, cl x4 l j * XH (fl x0 l) (wl x1) (sl x2) j := by
  have f : ∀ l : Fin 4160, _ = XH (fl x0 l) (wl x1) (sl x2) j := fun l => v88_at x0 x1 x2 l j
  simp only [← f]
  generalize hz : val_main_v88 (F := Ideal) x0 x1 x2 = z
  pointwise [val_main_v97, val_main_v94, val_main_v93, val_main_v92, val_main_cst_16, val_main_cst_17]
  simp only [hz, Fin.sum_univ_one]
  exact Finset.sum_congr rfl fun l _ => mul_comm _ _

/-- The two rows of gradients, under them rows of zeros. -/
theorem v192_at (i : Fin 8) (j : Fin 512) : val_main_v192 (F := Ideal) x0 x1 x2 x3 x4 (ix2 i j)
    = if i.val = 0 then val_main_v118 (F := Ideal) x0 x1 x2 x3 x4 (ix2 (gq j) (gd j))
      else if i.val = 1 then val_main_v97 (F := Ideal) x0 x1 x2 x4 (ix1 j) else 0 := by
  generalize hz : val_main_v118 (F := Ideal) x0 x1 x2 x3 x4 = z
  generalize hy : val_main_v97 (F := Ideal) x0 x1 x2 x4 = y
  pointwise [val_main_v192, val_main_v191, val_main_v190, val_main_v189, val_main_call2_v0, val_main_c]
  simp only [hz, hy]
  have h0 : FloatOps.sitofp (F := Ideal) .f32 (0#32) = 0 := by
    show (((0#32).toInt : ℝ) : EReal) = 0
    simp
  split_ifs <;> first | omega | rfl | exact h0

/-! ## The sums from a row on -/

theorem foldl_add {ι : Type*} (L : List ι) (g : ι → EReal) (v : EReal) : L.foldl (fun r n => r + g n) v = v + (L.map g).sum := by
  induction L generalizing v with
  | nil => simp
  | cons a L ih => rw [List.foldl_cons, ih, List.map_cons, List.sum_cons, add_assoc]

theorem win_row (n : Fin (⟨3, ![4160, 1, 1]⟩ : Shape).numel) : ((⟨3, ![4160, 1, 1]⟩ : Shape).rowMajor.symm n 0).val = n.val
    ∧ ((⟨3, ![4160, 1, 1]⟩ : Shape).rowMajor.symm n 1).val = 0 ∧ ((⟨3, ![4160, 1, 1]⟩ : Shape).rowMajor.symm n 2).val = 0 := by
  have e := Shape.rowMajor_val_three ((⟨3, ![4160, 1, 1]⟩ : Shape).rowMajor.symm n)
  rw [Equiv.apply_symm_apply] at e
  have h1 : ((⟨3, ![4160, 1, 1]⟩ : Shape).rowMajor.symm n 1).val < 1 := ((⟨3, ![4160, 1, 1]⟩ : Shape).rowMajor.symm n 1).isLt
  have h2 : ((⟨3, ![4160, 1, 1]⟩ : Shape).rowMajor.symm n 2).val < 1 := ((⟨3, ![4160, 1, 1]⟩ : Shape).rowMajor.symm n 2).isLt
  simp at e
  omega

/-- The window of the whole height, padded at the end: an entry holds the sum of its column from its row on. -/
theorem suffix_at (x : S4160x4x128.Idx → EReal) (h : S4160x4x128.ReduceWindows (![4160, 1, 1] : Fin 3 → Nat) ![1, 1, 1] ![0, 0, 0] ![4159, 0, 0] S4160x4x128)
    (l : Fin 4160) (q : Fin 4) (d : Fin 128) :
    Ideal.hostReduceWindowAdd ![4160, 1, 1] ![1, 1, 1] ![0, 0, 0] ![4159, 0, 0] h x 0 (ix3 l q d)
      = ∑ n ∈ Finset.range 4160, if hn : l.val + n < 4160 then x (ix3 ⟨l.val + n, hn⟩ q d) else 0 := by
  have hN : (⟨3, ![4160, 1, 1]⟩ : Shape).numel = 4160 := (Fin.prod_univ_three _).trans rfl
  unfold Ideal.hostReduceWindowAdd Host.reduceWindow
  refine (foldl_add _ _ _).trans ?_
  rw [zero_add, ← Fin.sum_univ_def]
  refine Eq.trans (Finset.sum_congr rfl fun n _ => ?_)
    ((Fin.sum_univ_eq_sum_range (fun n => if hn : l.val + n < 4160 then x (ix3 ⟨l.val + n, hn⟩ q d) else 0) _).trans (by rw [hN]))
  obtain ⟨w0, w1, w2⟩ := win_row n
  have hq := q.isLt
  have hd := d.isLt
  by_cases hl : l.val + n.val < 4160
  · rw [dif_pos hl, dif_pos (fun a => by
      match a with
      | ⟨0, _⟩ =>
        show 0 ≤ l.val * 1 + ((⟨3, ![4160, 1, 1]⟩ : Shape).rowMajor.symm n 0).val ∧ l.val * 1 + ((⟨3, ![4160, 1, 1]⟩ : Shape).rowMajor.symm n 0).val - 0 < 4160
        omega
      | ⟨1, _⟩ =>
        show 0 ≤ q.val * 1 + ((⟨3, ![4160, 1, 1]⟩ : Shape).rowMajor.symm n 1).val ∧ q.val * 1 + ((⟨3, ![4160, 1, 1]⟩ : Shape).rowMajor.symm n 1).val - 0 < 4
        omega
      | ⟨2, _⟩ =>
        show 0 ≤ d.val * 1 + ((⟨3, ![4160, 1, 1]⟩ : Shape).rowMajor.symm n 2).val ∧ d.val * 1 + ((⟨3, ![4160, 1, 1]⟩ : Shape).rowMajor.symm n 2).val - 0 < 128
        omega)]
    refine congrArg x (funext fun a => Fin.ext ?_)
    match a with
    | ⟨0, _⟩ =>
      show l.val * 1 + ((⟨3, ![4160, 1, 1]⟩ : Shape).rowMajor.symm n 0).val - 0 = l.val + n.val
      omega
    | ⟨1, _⟩ =>
      show q.val * 1 + ((⟨3, ![4160, 1, 1]⟩ : Shape).rowMajor.symm n 1).val - 0 = q.val
      omega
    | ⟨2, _⟩ =>
      show d.val * 1 + ((⟨3, ![4160, 1, 1]⟩ : Shape).rowMajor.symm n 2).val - 0 = d.val
      omega
  · rw [dif_neg hl, dif_neg (fun ha => hl (by
      have h0 : 0 ≤ l.val * 1 + ((⟨3, ![4160, 1, 1]⟩ : Shape).rowMajor.symm n 0).val ∧ l.val * 1 + ((⟨3, ![4160, 1, 1]⟩ : Shape).rowMajor.symm n 0).val - 0 < 4160 := ha 0
      omega))]

/-! ## The number of rows in a window, and the quotients -/

theorem cnt (n : ℕ) (hn : n < 4160) (c : ℕ) (b : BitVec 32) (hb : Ideal.ofBits .f32 b = ((c : ℝ) : EReal)) :
    min (1 + FloatOps.sitofp (F := Ideal) .f32 (BitVec.ofNat 32 n)) (Ideal.ofBits .f32 b) = (((min (n + 1) c : ℕ) : ℝ) : EReal) := by
  have h1 : FloatOps.sitofp (F := Ideal) .f32 (BitVec.ofNat 32 n) = ((n : ℝ) : EReal) := by
    show (((BitVec.ofNat 32 n).toInt : ℝ) : EReal) = _
    have h : (BitVec.ofNat 32 n).toInt = n := by
      rw [BitVec.toInt_eq_toNat_of_lt (by rw [BitVec.toNat_ofNat]; omega), BitVec.toNat_ofNat]
      omega
    rw [h, Int.cast_natCast]
  rw [h1, hb, ← EReal.coe_one, ← EReal.coe_add]
  rw [Nat.cast_min, Nat.cast_add, Nat.cast_one, add_comm (1 : ℝ)]
  exact (EReal.coe_strictMono.monotone.map_min).symm

theorem b2 : Ideal.ofBits .f32 0x40000000#32 = (((2 : ℕ) : ℝ) : EReal) := by
  simp [Ideal.ofBits, Ideal.ieee, -EReal.coe_mul]; norm_num
theorem b4 : Ideal.ofBits .f32 0x40800000#32 = (((4 : ℕ) : ℝ) : EReal) := by
  simp [Ideal.ofBits, Ideal.ieee, -EReal.coe_mul]; norm_num
theorem b8 : Ideal.ofBits .f32 0x41000000#32 = (((8 : ℕ) : ℝ) : EReal) := by
  simp [Ideal.ofBits, Ideal.ieee, -EReal.coe_mul]; norm_num
theorem b16 : Ideal.ofBits .f32 0x41800000#32 = (((16 : ℕ) : ℝ) : EReal) := by
  simp [Ideal.ofBits, Ideal.ieee, -EReal.coe_mul]; norm_num

/-- Row `n`'s quotient of the gradient of the features by the number of rows in the window, zero beyond the last row. -/
def en (q : Fin 4) (d : Fin 128) (n : ℕ) : EReal :=
  if h : n < 4160 then Ideal.div (dfl x0 x1 x2 x3 x4 ⟨n, h⟩ (cc q d)) (((min (n + 1) (2 ^ (q.val + 1)) : ℕ) : ℝ) : EReal) else 0

theorem v185_0 (l : Fin 4160) (d : Fin 128) : val_main_v185 (F := Ideal) x0 x1 x2 x3 x4 (ix3 l 0 d)
    = en x0 x1 x2 x3 x4 0 d l.val + -en x0 x1 x2 x3 x4 0 d (l.val + 2) := by
  have f : ∀ l : Fin 4160, _ = dfl x0 x1 x2 x3 x4 l (cc 0 d) := fun l => v121_at x0 x1 x2 x3 x4 l 0 d
  unfold en
  rw [dif_pos l.isLt]
  simp only [← f]
  generalize hz : val_main_v121 (F := Ideal) x0 x1 x2 x3 x4 = z
  pointwise [val_main_v185, val_main_v171, val_main_v157, val_main_v184, val_main_v170, val_main_v156, val_main_v143, val_main_v183, val_main_v182, val_main_v181, val_main_v180, val_main_v178, val_main_v177, val_main_v176, val_main_v13, val_main_v12, val_main_v11, val_main_v125, val_main_v124, val_main_v4, val_main_v3, val_main_v2, val_main_cst_34, val_main_cst_31, val_main_cst_28, val_main_cst_25, val_main_cst_2, val_main_cst_33, val_main_cst]
  simp only [hz]
  refine congrArg₂ (· + ·) (congrArg _ (cnt l.val l.isLt 2 _ b2)) ?_
  by_cases h : l.val + 2 < 4160
  · rw [dif_pos (show l.val < 4158 by omega), dif_pos h]
    refine congrArg Neg.neg (congrArg₂ Ideal.div (congrArg (fun e : Fin 4160 => z (ix3 e 0 d)) (Fin.ext (Nat.add_comm 2 l.val))) ?_)
    rw [cnt (2 + l.val) (by omega) 2 _ b2, Nat.add_comm 2 l.val]
    rfl
  · rw [dif_neg (show ¬l.val < 4158 by omega), dif_neg h, neg_zero]

theorem v185_1 (l : Fin 4160) (d : Fin 128) : val_main_v185 (F := Ideal) x0 x1 x2 x3 x4 (ix3 l 1 d)
    = en x0 x1 x2 x3 x4 1 d l.val + -en x0 x1 x2 x3 x4 1 d (l.val + 4) := by
  have f : ∀ l : Fin 4160, _ = dfl x0 x1 x2 x3 x4 l (cc 1 d) := fun l => v121_at x0 x1 x2 x3 x4 l 1 d
  unfold en
  rw [dif_pos l.isLt]
  simp only [← f]
  generalize hz : val_main_v121 (F := Ideal) x0 x1 x2 x3 x4 = z
  pointwise [val_main_v185, val_main_v171, val_main_v157, val_main_v184, val_main_v170, val_main_v156, val_main_v143, val_main_v169, val_main_v168, val_main_v167, val_main_v166, val_main_v164, val_main_v163, val_main_v162, val_main_v28, val_main_v27, val_main_v26, val_main_v127, val_main_v126, val_main_v4, val_main_v3, val_main_v2, val_main_cst_34, val_main_cst_31, val_main_cst_28, val_main_cst_25, val_main_cst_5, val_main_cst_30, val_main_cst]
  simp only [hz]
  refine congrArg₂ (· + ·) (congrArg _ (cnt l.val l.isLt 4 _ b4)) ?_
  by_cases h : l.val + 4 < 4160
  · rw [dif_pos (show l.val < 4156 by omega), dif_pos h]
    refine congrArg Neg.neg (congrArg₂ Ideal.div (congrArg (fun e : Fin 4160 => z (ix3 e 1 d)) (Fin.ext (Nat.add_comm 4 l.val))) ?_)
    rw [cnt (4 + l.val) (by omega) 4 _ b4, Nat.add_comm 4 l.val]
    rfl
  · rw [dif_neg (show ¬l.val < 4156 by omega), dif_neg h, neg_zero]

theorem v185_2 (l : Fin 4160) (d : Fin 128) : val_main_v185 (F := Ideal) x0 x1 x2 x3 x4 (ix3 l 2 d)
    = en x0 x1 x2 x3 x4 2 d l.val + -en x0 x1 x2 x3 x4 2 d (l.val + 8) := by
  have f : ∀ l : Fin 4160, _ = dfl x0 x1 x2 x3 x4 l (cc 2 d) := fun l => v121_at x0 x1 x2 x3 x4 l 2 d
  unfold en
  rw [dif_pos l.isLt]
  simp only [← f]
  generalize hz : val_main_v121 (F := Ideal) x0 x1 x2 x3 x4 = z
  pointwise [val_main_v185, val_main_v171, val_main_v157, val_main_v184, val_main_v170, val_main_v156, val_main_v143, val_main_v155, val_main_v154, val_main_v153, val_main_v152, val_main_v150, val_main_v149, val_main_v148, val_main_v43, val_main_v42, val_main_v41, val_main_v129, val_main_v128, val_main_v4, val_main_v3, val_main_v2, val_main_cst_34, val_main_cst_31, val_main_cst_28, val_main_cst_25, val_main_cst_8, val_main_cst_27, val_main_cst]
  simp only [hz]
  refine congrArg₂ (· + ·) (congrArg _ (cnt l.val l.isLt 8 _ b8)) ?_
  by_cases h : l.val + 8 < 4160
  · rw [dif_pos (show l.val < 4152 by omega), dif_pos h]
    refine congrArg Neg.neg (congrArg₂ Ideal.div (congrArg (fun e : Fin 4160 => z (ix3 e 2 d)) (Fin.ext (Nat.add_comm 8 l.val))) ?_)
    rw [cnt (8 + l.val) (by omega) 8 _ b8, Nat.add_comm 8 l.val]
    rfl
  · rw [dif_neg (show ¬l.val < 4152 by omega), dif_neg h, neg_zero]

theorem v185_3 (l : Fin 4160) (d : Fin 128) : val_main_v185 (F := Ideal) x0 x1 x2 x3 x4 (ix3 l 3 d)
    = en x0 x1 x2 x3 x4 3 d l.val + -en x0 x1 x2 x3 x4 3 d (l.val + 16) := by
  have f : ∀ l : Fin 4160, _ = dfl x0 x1 x2 x3 x4 l (cc 3 d) := fun l => v121_at x0 x1 x2 x3 x4 l 3 d
  unfold en
  rw [dif_pos l.isLt]
  simp only [← f]
  generalize hz : val_main_v121 (F := Ideal) x0 x1 x2 x3 x4 = z
  pointwise [val_main_v185, val_main_v171, val_main_v157, val_main_v184, val_main_v170, val_main_v156, val_main_v143, val_main_v142, val_main_v141, val_main_v140, val_main_v139, val_main_v137, val_main_v136, val_main_v135, val_main_v58, val_main_v57, val_main_v56, val_main_v131, val_main_v130, val_main_v4, val_main_v3, val_main_v2, val_main_cst_34, val_main_cst_31, val_main_cst_28, val_main_cst_25, val_main_cst_11, val_main_cst_24, val_main_cst]
  simp only [hz]
  refine congrArg₂ (· + ·) (congrArg _ (cnt l.val l.isLt 16 _ b16)) ?_
  by_cases h : l.val + 16 < 4160
  · rw [dif_pos (show l.val < 4144 by omega), dif_pos h]
    refine congrArg Neg.neg (congrArg₂ Ideal.div (congrArg (fun e : Fin 4160 => z (ix3 e 3 d)) (Fin.ext (Nat.add_comm 16 l.val))) ?_)
    rw [cnt (16 + l.val) (by omega) 16 _ b16, Nat.add_comm 16 l.val]
    rfl
  · rw [dif_neg (show ¬l.val < 4144 by omega), dif_neg h, neg_zero]

/-- What is summed from a row on, group by group: the row's quotient less the quotient a window's length further on. -/
theorem v185_at (l : Fin 4160) (q : Fin 4) (d : Fin 128) : val_main_v185 (F := Ideal) x0 x1 x2 x3 x4 (ix3 l q d)
    = en x0 x1 x2 x3 x4 q d l.val + -en x0 x1 x2 x3 x4 q d (l.val + 2 ^ (q.val + 1)) := by
  fin_cases q
  · exact v185_0 x0 x1 x2 x3 x4 l d
  · exact v185_1 x0 x1 x2 x3 x4 l d
  · exact v185_2 x0 x1 x2 x3 x4 l d
  · exact v185_3 x0 x1 x2 x3 x4 l d

theorem v175_0 (l : Fin 4160) (d : Fin 128) : val_main_v175 (F := Ideal) x0 x1 x2 x3 x4 (ix3 l 0 d) = -dfl x0 x1 x2 x3 x4 l (cc 0 d) := by
  have f : _ = dfl x0 x1 x2 x3 x4 l (cc 0 d) := v121_at x0 x1 x2 x3 x4 l 0 d
  rw [← f]
  generalize hz : val_main_v121 (F := Ideal) x0 x1 x2 x3 x4 = z
  pointwise [val_main_v175, val_main_v161, val_main_v147, val_main_v174, val_main_v160, val_main_v146, val_main_v134, val_main_v173, val_main_v172, val_main_v125, val_main_v124, val_main_cst_32, val_main_cst_29, val_main_cst_26, val_main_cst_23]
  simp only [hz]

theorem v175_1 (l : Fin 4160) (d : Fin 128) : val_main_v175 (F := Ideal) x0 x1 x2 x3 x4 (ix3 l 1 d) = -dfl x0 x1 x2 x3 x4 l (cc 1 d) := by
  have f : _ = dfl x0 x1 x2 x3 x4 l (cc 1 d) := v121_at x0 x1 x2 x3 x4 l 1 d
  rw [← f]
  generalize hz : val_main_v121 (F := Ideal) x0 x1 x2 x3 x4 = z
  pointwise [val_main_v175, val_main_v161, val_main_v147, val_main_v174, val_main_v160, val_main_v146, val_main_v134, val_main_v159, val_main_v158, val_main_v127, val_main_v126, val_main_cst_32, val_main_cst_29, val_main_cst_26, val_main_cst_23]
  simp only [hz]

theorem v175_2 (l : Fin 4160) (d : Fin 128) : val_main_v175 (F := Ideal) x0 x1 x2 x3 x4 (ix3 l 2 d) = -dfl x0 x1 x2 x3 x4 l (cc 2 d) := by
  have f : _ = dfl x0 x1 x2 x3 x4 l (cc 2 d) := v121_at x0 x1 x2 x3 x4 l 2 d
  rw [← f]
  generalize hz : val_main_v121 (F := Ideal) x0 x1 x2 x3 x4 = z
  pointwise [val_main_v175, val_main_v161, val_main_v147, val_main_v174, val_main_v160, val_main_v146, val_main_v134, val_main_v145, val_main_v144, val_main_v129, val_main_v128, val_main_cst_32, val_main_cst_29, val_main_cst_26, val_main_cst_23]
  simp only [hz]

theorem v175_3 (l : Fin 4160) (d : Fin 128) : val_main_v175 (F := Ideal) x0 x1 x2 x3 x4 (ix3 l 3 d) = -dfl x0 x1 x2 x3 x4 l (cc 3 d) := by
  have f : _ = dfl x0 x1 x2 x3 x4 l (cc 3 d) := v121_at x0 x1 x2 x3 x4 l 3 d
  rw [← f]
  generalize hz : val_main_v121 (F := Ideal) x0 x1 x2 x3 x4 = z
  pointwise [val_main_v175, val_main_v161, val_main_v147, val_main_v174, val_main_v160, val_main_v146, val_main_v134, val_main_v133, val_main_v132, val_main_v131, val_main_v130, val_main_cst_32, val_main_cst_29, val_main_cst_26, val_main_cst_23]
  simp only [hz]

theorem v175_at (l : Fin 4160) (q : Fin 4) (d : Fin 128) : val_main_v175 (F := Ideal) x0 x1 x2 x3 x4 (ix3 l q d) = -dfl x0 x1 x2 x3 x4 l (cc q d) := by
  fin_cases q
  · exact v175_0 x0 x1 x2 x3 x4 l d
  · exact v175_1 x0 x1 x2 x3 x4 l d
  · exact v175_2 x0 x1 x2 x3 x4 l d
  · exact v175_3 x0 x1 x2 x3 x4 l d

/-- The gradient of the mixer's input: the window's quotients summed, less the row's gradient of the features. -/
theorem v188_at (hw : ∀ i, Fin' (x1 i)) (hs : ∀ i, Fin' (x2 i)) (hg : ∀ i, Fin' (x3 i)) (hc : ∀ i, Fin' (x4 i))
    (l : Fin 4160) (q : Fin 4) (d : Fin 128) : val_main_v188 (F := Ideal) x0 x1 x2 x3 x4 (ix2 l (cc q d))
      = ∑ n ∈ Finset.range (2 ^ (q.val + 1)), en x0 x1 x2 x3 x4 q d (l.val + n) - dfl x0 x1 x2 x3 x4 l (cc q d) := by
  have hen : ∀ n, Fin' (en x0 x1 x2 x3 x4 q d n) := fun n => by
    unfold en
    split
    · obtain ⟨r, hr⟩ := df_fin (fl x0 ⟨n, ‹_›⟩) (wl x1) (sl x2) (gl x3) (cl x4 ⟨n, ‹_›⟩) (fun j => hs _) (fun j => hg _) (fun j => hc _) (fun q a b => hw _) (cc q d)
      rw [show dfl x0 x1 x2 x3 x4 _ _ = _ from hr, div_coe]
      · exact Fin'.coe _
      · have : min (n + 1) (2 ^ (q.val + 1)) ≠ 0 := by
          have := Nat.two_pow_pos (q.val + 1)
          omega
        exact_mod_cast this
    · exact Fin'.zero
  have f := v175_at x0 x1 x2 x3 x4 l q d
  have g : val_main_v186 (F := Ideal) x0 x1 x2 x3 x4 (ix3 l q d) = ∑ n ∈ Finset.range (2 ^ (q.val + 1)), en x0 x1 x2 x3 x4 q d (l.val + n) := by
    have h0 : val_main_call1_call0_v0 (F := Ideal) = fun _ => 0 := by
      funext i
      pointwise [val_main_call1_call0_v0, val_main_call1_call0_cst]
    refine Eq.trans ?_ (window (en x0 x1 x2 x3 x4 q d) hen 4160 (2 ^ (q.val + 1)) (fun n hn => dif_neg (by omega)) l.val)
    refine Eq.trans ?_ ((suffix_at (val_main_v185 (F := Ideal) x0 x1 x2 x3 x4) reduceWindows_S4160x4x128_S4160x4x128_w4160s1p0_4159_w1s1p0_0_w1s1p0_0 l q d).trans ?_)
    · unfold val_main_v186 Host.reduceWindowAdd
      rw [h0]
      rfl
    · refine Finset.sum_congr rfl fun n _ => ?_
      split
      · exact v185_at x0 x1 x2 x3 x4 ⟨l.val + n, ‹_›⟩ q d
      · unfold en
        have hp := Nat.two_pow_pos (q.val + 1)
        rw [dif_neg ‹_›, dif_neg (fun h => ‹¬_› (lt_of_le_of_lt (Nat.le_add_right _ _) h)), neg_zero, add_zero]
  rw [sub_eq_add_neg, ← f, ← g, add_comm]
  generalize hz : val_main_v175 (F := Ideal) x0 x1 x2 x3 x4 = z
  generalize hy : val_main_v186 (F := Ideal) x0 x1 x2 x3 x4 = y
  pointwise [val_main_v188, val_main_v187]
  simp only [hz, hy]
  have hd : d.val < 128 := d.isLt
  have h1 : (⟨(cc q d).val / 128, by omega⟩ : Fin 4) = q := Fin.ext (show (q.val * 128 + d.val) / 128 = q.val by omega)
  have h2 : (⟨(cc q d).val % 128, by omega⟩ : Fin 128) = d := Fin.ext (show (q.val * 128 + d.val) % 128 = d.val by omega)
  refine Eq.trans ?_ (congrArg₂ (fun (a : Fin 4) (b : Fin 128) => z (ix3 l a b) + y (ix3 l a b)) h1 h2)
  rfl

end Cert.PoolBwdRefIdeal.Rows
-- ==== Proof.PoolBwd.Entry.lean ====
/-
  The gradient of the pooling mixer: the arrays that the kernel finds when it starts, by entries.
-/
module

public import proofs.«01_k».proof.Proof.Gen.PoolBwdIdeal.Frame
public import proofs.«01_k».proof.Proof.PoolBwd.Ref
public import Idealize.ShloMosaic.Lib.Pipeline.ValueKit
public import Idealize.ShloMosaic.Lib.StableHlo.ReadAt

@[expose] public section

set_option maxRecDepth 16384

noncomputable section

namespace Cert.PoolBwdIdeal.Entry

open Cert.PoolBwdIdeal Cert.PoolBwdIdeal.Gen Idealize.ShloMosaic Idealize.ShloMosaic.TcCoe Idealize.SL.Sem
open Cert.PoolBwdRefIdeal.Read Cert.PoolBwdRefIdeal.Rows Cert.Pool

variable (m : (ℓ : Loc nD τ sig) → Buf (Elt Ideal) ℓ)

/-- Features by row, group and place, as a matrix. -/
def FLAT (x : FVec Ideal S4160x4x128 .f32) : FVec Ideal S4160x512 .bf16 := fun i => x (ix3 (i 0) (gq (i 1)) (gd (i 1)))

theorem flat_eq (x : FVec Ideal S4160x4x128 .f32) :
    truncf .bf16 (shapeCast S4160x512 x shapeCasts_S4160x4x128_S4160x512) bitsLt_bf16_f32 = FLAT x := by
  funext i
  pointwise [FLAT]
  rfl

/-- Two arrays, and four, one after the other: functions of the arrays, so that what stands in them can be rewritten. -/
def cat2 {s₁ s₂ : Shape} (t : Shape) (d : Fin t.rank) (a : FVec Ideal s₁ .f32) (b : FVec Ideal s₂ .f32) (h : Shape.Concatenates [s₁, s₂] t d) : FVec Ideal t .f32 :=
  concatenate t d [⟨s₁, a⟩, ⟨s₂, b⟩] h

def cat4 {s₁ s₂ s₃ s₄ : Shape} (t : Shape) (d : Fin t.rank) (a : FVec Ideal s₁ .f32) (b : FVec Ideal s₂ .f32) (e : FVec Ideal s₃ .f32) (f : FVec Ideal s₄ .f32)
    (h : Shape.Concatenates [s₁, s₂, s₃, s₄] t d) : FVec Ideal t .f32 :=
  concatenate t d [⟨s₁, a⟩, ⟨s₂, b⟩, ⟨s₃, e⟩, ⟨s₄, f⟩] h

theorem cat2_eq {s₁ s₂ t : Shape} (d : Fin t.rank) (a : FVec Ideal s₁ .f32) (b : FVec Ideal s₂ .f32) (h : Shape.Concatenates [s₁, s₂] t d) :
    concatenate t d [⟨s₁, a⟩, ⟨s₂, b⟩] h = cat2 t d a b h := rfl

theorem cat4_eq {s₁ s₂ s₃ s₄ t : Shape} (d : Fin t.rank) (a : FVec Ideal s₁ .f32) (b : FVec Ideal s₂ .f32) (e : FVec Ideal s₃ .f32) (f : FVec Ideal s₄ .f32)
    (h : Shape.Concatenates [s₁, s₂, s₃, s₄] t d) : concatenate t d [⟨s₁, a⟩, ⟨s₂, b⟩, ⟨s₃, e⟩, ⟨s₄, f⟩] h = cat4 t d a b e f h := rfl

/-- What device `c`'s buffers hold when the four groups' features have been computed. -/
def at76 (c : Dev nD) := StableHlo.upto [hostOps0, hostOps0_1, hostOps0_2, hostOps0_3].flatten (fun b => m (c, b)) 76

theorem entry_61 (c : Dev nD) : (at76 m c (Proc.tc.devRef main_v61) : FVec Ideal S4160x1x128 .f32) = val_main_v65 (F := Ideal) (m ((c : Thread nD τ).loc main_arg0)) := by
  unfold at76
  after_reads_simp
  simp only [cat2_eq]
  after_reads_simp
  rfl

theorem entry_62 (c : Dev nD) : (at76 m c (Proc.tc.devRef main_v62) : FVec Ideal S4160x1x128 .f32) = val_main_v66 (F := Ideal) (m ((c : Thread nD τ).loc main_arg0)) := by
  unfold at76
  after_reads_simp
  simp only [cat2_eq]
  after_reads_simp
  rfl

theorem entry_63 (c : Dev nD) : (at76 m c (Proc.tc.devRef main_v63) : FVec Ideal S4160x1x128 .f32) = val_main_v67 (F := Ideal) (m ((c : Thread nD τ).loc main_arg0)) := by
  unfold at76
  after_reads_simp
  simp only [cat2_eq]
  after_reads_simp
  rfl

theorem entry_64 (c : Dev nD) : (at76 m c (Proc.tc.devRef main_v64) : FVec Ideal S4160x1x128 .f32) = val_main_v68 (F := Ideal) (m ((c : Thread nD τ).loc main_arg0)) := by
  unfold at76
  after_reads_simp
  simp only [cat2_eq]
  after_reads_simp
  rfl

theorem entry_f (c : Dev nD) : (V m c main_v67 : FVec Ideal S4160x512 .bf16) = FLAT (val_main_v69 (F := Ideal) (m ((c : Thread nD τ).loc main_arg0))) := by
  have h : (V m c main_v67 : FVec Ideal S4160x512 .bf16) = truncf .bf16 (shapeCast S4160x512 (cat4 S4160x4x128 1
      (at76 m c (Proc.tc.devRef main_v61) : FVec Ideal S4160x1x128 .f32) (at76 m c (Proc.tc.devRef main_v62) : FVec Ideal S4160x1x128 .f32)
      (at76 m c (Proc.tc.devRef main_v63) : FVec Ideal S4160x1x128 .f32) (at76 m c (Proc.tc.devRef main_v64) : FVec Ideal S4160x1x128 .f32)
      concatenates_S4160x1x128_S4160x1x128_S4160x1x128_S4160x1x128_S4160x4x128_d1) shapeCasts_S4160x4x128_S4160x512) bitsLt_bf16_f32 := by
    unfold V
    after_reads_simp
    unfold at76
    generalize StableHlo.upto [hostOps0, hostOps0_1, hostOps0_2, hostOps0_3].flatten (fun b => m (c, b)) 76 = U
    rfl
  rw [h, entry_61, entry_62, entry_63, entry_64]
  exact flat_eq (val_main_v69 (F := Ideal) (m ((c : Thread nD τ).loc main_arg0)))

theorem entry_w (c : Dev nD) : (V m c main_v68 : FVec Ideal S4x128x128 .bf16) = m ((c : Thread nD τ).loc main_arg1) := by
  unfold V
  after_reads_simp
  rfl

theorem entry_s (c : Dev nD) (j : Fin 512) : V m c main_v72 (ix2 0 j) = m ((c : Thread nD τ).loc main_arg2) (ix2 (gq j) (gd j)) := by
  unfold V
  after_reads_simp
  simp -implicitDefEqProofs only [StableHlo.TRef.toBuf, StableHlo.TRef.ofBuf, cast_cast, cast_eq]
  simp only [cat2_eq]
  after_reads_simp
  unfold cat2
  pointwise
  rfl

theorem entry_g (c : Dev nD) (j : Fin 512) : V m c main_v72 (ix2 1 j) = m ((c : Thread nD τ).loc main_arg3) (ix1 j) := by
  unfold V
  after_reads_simp
  simp -implicitDefEqProofs only [StableHlo.TRef.toBuf, StableHlo.TRef.ofBuf, cast_cast, cast_eq]
  simp only [cat2_eq]
  after_reads_simp
  unfold cat2
  pointwise

end Cert.PoolBwdIdeal.Entry
-- ==== Proof.PoolBwd.Payload.lean ====
/-
  The gradient of the pooling mixer: what one point of the kernel computes of its blocks, entry by entry.
-/
module

public import proofs.«01_k».proof.Proof.Gen.PoolBwdIdeal.Value
public import proofs.«01_k».proof.Proof.Real.Pool
public import Idealize.ShloMosaic.Lib.Pipeline.ValueKit
public import Idealize.ShloMosaic.Lib.Pipeline.ReadBack

@[expose] public section

set_option maxRecDepth 16384

noncomputable section

namespace Cert.PoolBwdIdeal.Payload

open Cert.PoolBwdIdeal Cert.PoolBwdIdeal.Gen Idealize.ShloMosaic Idealize.ShloMosaic.TcCoe Idealize.SL.Sem
open Cert.Norm Cert.Pool

/-- Matrix `q` of the four, and row `q` of the eight vectors. -/
abbrev RW (q : ℕ) (h : q < 4) : Rect S4x128x128 := Rect.unit (s := S4x128x128) ![q, 0, 0] S1x128x128.size (by
  intro a
  fin_cases a <;> simp <;> omega)

abbrev RV (q : ℕ) (h : q < 8) : Rect S8x512 := Rect.unit (s := S8x512) ![q, 0] S1x512.size (by
  intro a
  fin_cases a <;> simp <;> omega)

variable (ct : Vec Ideal S320x512 .f32) (u : Vec Ideal S320x512 .bf16) (w : Vec Ideal S4x128x128 .bf16) (v : Vec Ideal S8x512 .f32)

/-- A row of the tile's features, the matrices, the scale, the gain, a row of the output's gradient. -/
abbrev fr (r : Fin 320) (j : Fin 512) : EReal := u (ix2 r j)
abbrev wr (q : Fin 4) (a b : Fin 128) : EReal := w (ix3 q a b)
abbrev sr (j : Fin 512) : EReal := v (ix2 0 j)
abbrev gr (j : Fin 512) : EReal := v (ix2 1 j)
abbrev cr (r : Fin 320) (j : Fin 512) : EReal := ct (ix2 r j)

abbrev T8 : FVec Ideal S320x512 .f32 :=
  k0_pay8 (F := Ideal) u (View.ld w (RW 0 (by decide))) (View.ld w (RW 1 (by decide))) (View.ld w (RW 2 (by decide))) (View.ld w (RW 3 (by decide)))
abbrev T9 : FVec Ideal S320x512 .f32 :=
  k0_pay9 (F := Ideal) (View.ld v (RV 0 (by decide))) u (View.ld w (RW 0 (by decide))) (View.ld w (RW 1 (by decide))) (View.ld w (RW 2 (by decide))) (View.ld w (RW 3 (by decide)))
abbrev T10 : FVec Ideal S320x1 .f32 :=
  k0_pay10 (F := Ideal) (View.ld v (RV 0 (by decide))) u (View.ld w (RW 0 (by decide))) (View.ld w (RW 1 (by decide))) (View.ld w (RW 2 (by decide))) (View.ld w (RW 3 (by decide)))
abbrev T13 : FVec Ideal S320x512 .f32 := k0_pay13 (F := Ideal) (T9 u w v) (T10 u w v) k0_pay11
abbrev T14 : FVec Ideal S320x512 .f32 := k0_pay14 (F := Ideal) (k0_pay6 (View.ld v (RV 1 (by decide)))) (T9 u w v) (T10 u w v) k0_pay11 ct
abbrev T17 : FVec Ideal S320x512 .bf16 := k0_pay17 (F := Ideal) (k0_pay5 (View.ld v (RV 0 (by decide)))) (k0_pay6 (View.ld v (RV 1 (by decide)))) (T9 u w v) (T10 u w v) k0_pay11 ct

theorem t8_at (i : S320x512.Idx) : T8 u w i = PR (fr u (i 0)) (wr w) (i 1) := by
  have h1 : (i 1 : ℕ) < 512 := (i 1).isLt
  pointwise [k0_pay8, k0_pay7, PR]
  split_ifs with h h' h''
  all_goals
    refine Finset.sum_congr rfl fun a _ => congrArg₂ (· * ·) (congrArg u ?_) (congrArg w ?_)
    all_goals
      congr 1
      all_goals exact Fin.ext (by simp [cc, gq, gd]; omega)

theorem t9_at (i : S320x512.Idx) : T9 u w v i = YP (fr u (i 0)) (wr w) (sr v) (i 1) := by
  have f := t8_at u w i
  unfold T8 at f
  show k0_pay9 (F := Ideal) _ _ _ _ _ _ i = _
  unfold k0_pay9 YP
  rw [← f]
  generalize k0_pay8 (F := Ideal) _ _ _ _ _ = z at *
  pointwise [k0_pay5]

theorem r_at (i : S320x1.Idx) : k0_pay12 (F := Ideal) (T10 u w v) k0_pay11 i = Ideal.rsqrt (SQ NN EE (YP (fr u (i 0)) (wr w) (sr v))) := by
  have f : YP (fr u (i 0)) (wr w) (sr v) = fun j : Fin 512 => T9 u w v (ix2 (i 0) j) := funext fun j => (t9_at u w v (ix2 (i 0) j)).symm
  rw [f]
  unfold T10 T9 k0_pay10 SQ
  generalize k0_pay9 (F := Ideal) _ _ _ _ _ _ = z
  pointwise [k0_pay11, k0_pay12]

theorem t13_at (i : S320x512.Idx) : T13 u w v i = XH (fr u (i 0)) (wr w) (sr v) (i 1) := by
  have f := t9_at u w v i
  have h := r_at u w v (ix2 (i 0) 0)
  show k0_pay13 (F := Ideal) _ _ _ i = _
  unfold XH k0_pay13
  refine Eq.trans ?_ (congrArg₂ (· * ·) f h)
  generalize T9 u w v = z
  generalize k0_pay12 (F := Ideal) _ _ = y
  pointwise

theorem t14_at (i : S320x512.Idx) : T14 ct u w v i = DY (fr u (i 0)) (wr w) (sr v) (gr v) (cr ct (i 0)) (i 1) := by
  have f : XH (fr u (i 0)) (wr w) (sr v) = fun j : Fin 512 => T13 u w v (ix2 (i 0) j) := funext fun j => (t13_at u w v (ix2 (i 0) j)).symm
  have h : Ideal.rsqrt (SQ NN EE (YP (fr u (i 0)) (wr w) (sr v))) = k0_pay12 (F := Ideal) (T10 u w v) k0_pay11 (ix2 (i 0) 0) :=
    (r_at u w v (ix2 (i 0) 0)).symm
  show k0_pay14 (F := Ideal) _ _ _ _ _ i = _
  change _ = Ideal.rsqrt (SQ NN EE (YP (fr u (i 0)) (wr w) (sr v))) * (_ - XH (fr u (i 0)) (wr w) (sr v) _
    * Ideal.div (∑ j, cr ct (i 0) j * gr v j * XH (fr u (i 0)) (wr w) (sr v) j) _)
  rw [h, f]
  unfold T13 k0_pay14
  generalize k0_pay12 (F := Ideal) _ _ = y
  generalize k0_pay13 (F := Ideal) _ _ _ = z
  pointwise [k0_pay6]
  rw [show ct i = cr ct (i 0) (i 1) from congrArg ct (by blk_ext)]

theorem t17_at (i : S320x512.Idx) : T17 ct u w v i = DP (fr u (i 0)) (wr w) (sr v) (gr v) (cr ct (i 0)) (i 1) := by
  have f := t14_at ct u w v i
  show k0_pay17 (F := Ideal) _ _ _ _ _ _ i = _
  unfold DP k0_pay17
  rw [← f]
  unfold T14
  generalize k0_pay14 (F := Ideal) _ _ _ _ _ = z
  pointwise [k0_pay5]

/-- A row's gradient of the features. -/
abbrev dfr (r : Fin 320) (j : Fin 512) : EReal := DF (fr u r) (wr w) (sr v) (gr v) (cr ct r) j

theorem dp_row (r : Fin 320) : DP (fr u r) (wr w) (sr v) (gr v) (cr ct r) = fun j : Fin 512 => T17 ct u w v (ix2 r j) :=
  funext fun j => (t17_at ct u w v (ix2 r j)).symm

theorem d0_at (r : Fin 320) (d : Fin 128) : k0_pay22 (F := Ideal) (T17 ct u w v) (View.ld w (RW 0 (by decide))) (ix2 r d) = dfr ct u w v r (cc 0 d) := by
  unfold dfr DF
  rw [dp_row, gq_cc, gd_cc]
  generalize T17 ct u w v = z
  pointwise [k0_pay22]
  refine Finset.sum_congr rfl fun a _ => congrArg₂ (· * ·) (congrArg z ?_) (congrArg w ?_)
  · blk_simp [cc]
    exact congrArg (ix2 r) (Fin.ext (by simp))
  · blk_ext

theorem d1_at (r : Fin 320) (d : Fin 128) : k0_pay27 (F := Ideal) (k0_pay25 (T17 ct u w v)) (k0_pay26 (View.ld w (RW 1 (by decide)))) (ix2 r d) = dfr ct u w v r (cc 1 d) := by
  unfold dfr DF
  rw [dp_row, gq_cc, gd_cc]
  generalize T17 ct u w v = z
  pointwise [k0_pay25, k0_pay26, k0_pay27]
  refine Finset.sum_congr rfl fun a _ => congrArg₂ (· * ·) (congrArg z ?_) (congrArg w ?_)
  · blk_simp [cc]
    exact congrArg (ix2 r) (Fin.ext (by simp))
  · blk_ext

theorem d2_at (r : Fin 320) (d : Fin 128) : k0_pay30 (F := Ideal) (T17 ct u w v) (View.ld w (RW 2 (by decide))) (ix2 r d) = dfr ct u w v r (cc 2 d) := by
  unfold dfr DF
  rw [dp_row, gq_cc, gd_cc]
  generalize T17 ct u w v = z
  pointwise [k0_pay30]
  refine Finset.sum_congr rfl fun a _ => congrArg₂ (· * ·) (congrArg z ?_) (congrArg w ?_)
  · blk_simp [cc]
    exact congrArg (ix2 r) (Fin.ext (by simp))
  · blk_ext

theorem d3_at (r : Fin 320) (d : Fin 128) : k0_pay33 (F := Ideal) (T17 ct u w v) (View.ld w (RW 3 (by decide))) (ix2 r d) = dfr ct u w v r (cc 3 d) := by
  unfold dfr DF
  rw [dp_row, gq_cc, gd_cc]
  generalize T17 ct u w v = z
  pointwise [k0_pay33]
  refine Finset.sum_congr rfl fun a _ => congrArg₂ (· * ·) (congrArg z ?_) (congrArg w ?_)
  · blk_simp [cc]
    exact congrArg (ix2 r) (Fin.ext (by simp))
  · blk_ext

/-- The number of rows up to a row, cut off at the window's length, as the kernel counts it. -/
theorem cnt (t : ℕ) (ht : t < 13) (r : ℕ) (hr : r < 320) (c : ℕ) (hc : c ≤ 16) :
    FloatOps.sitofp (F := Ideal) .f32 (IntOp.minsi (IntOp.addi (IntOp.addi (Scalar.muli (Scalar.subi (12#32) (BitVec.ofNat 32 t)) 320#32) (BitVec.ofNat 32 r)) 1#32)
      (BitVec.ofNat 32 c)) = (((min ((12 - t) * 320 + r + 1) c : ℕ) : ℝ) : EReal) := by
  have e : IntOp.addi (IntOp.addi (Scalar.muli (Scalar.subi (12#32) (BitVec.ofNat 32 t)) 320#32) (BitVec.ofNat 32 r)) 1#32
      = BitVec.ofNat 32 ((12 - t) * 320 + r + 1) := by
    have e1 : Scalar.muli (Scalar.subi (12#32) (BitVec.ofNat 32 t)) 320#32 = BitVec.ofNat 32 ((12 - t) * 320) := by
      interval_cases t <;> rfl
    rw [e1]
    simp only [IntOp.addi]
    apply BitVec.eq_of_toNat_eq
    simp
  rw [e]
  generalize hn : (12 - t) * 320 + r + 1 = n
  have hn' : n ≤ 4160 := by omega
  have h1 : (BitVec.ofNat 32 n).toInt = n := by
    rw [BitVec.toInt_eq_toNat_of_lt (by rw [BitVec.toNat_ofNat]; omega), BitVec.toNat_ofNat]
    omega
  have h2 : (BitVec.ofNat 32 c).toInt = c := by
    rw [BitVec.toInt_eq_toNat_of_lt (by rw [BitVec.toNat_ofNat]; omega), BitVec.toNat_ofNat]
    omega
  have h3 : IntOp.minsi (BitVec.ofNat 32 n) (BitVec.ofNat 32 c) = BitVec.ofNat 32 (min n c) := by
    unfold IntOp.minsi
    have hs : (BitVec.ofNat 32 n).slt (BitVec.ofNat 32 c) = decide (n < c) := by
      rw [BitVec.slt, h1, h2]
      exact decide_eq_decide.mpr (by omega)
    rw [hs]
    by_cases h : n < c
    · rw [if_pos (decide_eq_true h), min_eq_left h.le]
    · rw [if_neg (by simpa using h), min_eq_right (by omega)]
  have h4 : (BitVec.ofNat 32 (min n c)).toInt = (min n c : ℕ) := by
    rw [BitVec.toInt_eq_toNat_of_lt (by rw [BitVec.toNat_ofNat]; omega), BitVec.toNat_ofNat]
    omega
  rw [h3]
  show (((BitVec.ofNat 32 (min n c)).toInt : ℝ) : EReal) = _
  rw [h4, Int.cast_natCast]

theorem cnt_ne (n c : ℕ) (hc : 0 < c) : ((min (n + 1) c : ℕ) : ℝ) ≠ 0 := by
  have : min (n + 1) c ≠ 0 := by omega
  exact_mod_cast this

/-- A row's quotient of the gradient of the features by the number of rows in the window. -/
abbrev er (t : ℕ) (r : Fin 320) (j : Fin 512) (c : ℕ) : EReal :=
  Ideal.div (dfr ct u w v r j) (((min ((12 - t) * 320 + r.val + 1) c : ℕ) : ℝ) : EReal)

theorem e0_at (t : ℕ) (ht : t < 13) (r : Fin 320) (d : Fin 128) :
    k0_pay23 (F := Ideal) (BitVec.ofNat 32 t) (T17 ct u w v) (View.ld w (RW 0 (by decide))) (ix2 r d) = er ct u w v t r (cc 0 d) 2 := by
  have f := d0_at ct u w v r d
  unfold k0_pay23 er
  rw [← f, ← mul_recip _ (cnt_ne _ _ (by decide)), ← cnt t ht r.val r.isLt 2 (by decide)]
  generalize k0_pay22 (F := Ideal) _ _ = z
  pointwise

theorem e1_at (t : ℕ) (ht : t < 13) (r : Fin 320) (d : Fin 128) :
    k0_pay28 (F := Ideal) (BitVec.ofNat 32 t) (k0_pay25 (T17 ct u w v)) (k0_pay26 (View.ld w (RW 1 (by decide)))) (ix2 r d)
      = er ct u w v t r (cc 1 d) 4 := by
  have f := d1_at ct u w v r d
  unfold k0_pay28 er
  rw [← f, ← mul_recip _ (cnt_ne _ _ (by decide)), ← cnt t ht r.val r.isLt 4 (by decide)]
  generalize k0_pay27 (F := Ideal) _ _ = z
  pointwise

/-- The four quotients side by side: the window's length is 2, 4, 8 or 16 by the column's group. -/
abbrev T34 (b : BitVec 32) : FVec Ideal S320x512 .f32 :=
  k0_pay34 (F := Ideal) b (T17 ct u w v) (k0_pay23 b (T17 ct u w v) (View.ld w (RW 0 (by decide))))
    (k0_pay28 b (k0_pay25 (T17 ct u w v)) (k0_pay26 (View.ld w (RW 1 (by decide)))))
    (k0_pay30 (T17 ct u w v) (View.ld w (RW 2 (by decide)))) (k0_pay31 b) (View.ld w (RW 3 (by decide)))

theorem e_at (t : ℕ) (ht : t < 13) (r : Fin 320) (q : Fin 4) (d : Fin 128) :
    T34 ct u w v (BitVec.ofNat 32 t) (ix2 r (cc q d)) = er ct u w v t r (cc q d) (2 ^ (q.val + 1)) := by
  have f0 := e0_at ct u w v t ht r d
  have f1 := e1_at ct u w v t ht r d
  have f2 := d2_at ct u w v r d
  have f3 := d3_at ct u w v r d
  show k0_pay34 (F := Ideal) _ _ _ _ _ _ _ _ = _
  unfold k0_pay34
  generalize k0_pay23 (F := Ideal) _ _ _ = z0 at *
  generalize k0_pay28 (F := Ideal) _ _ _ = z1 at *
  generalize k0_pay30 (F := Ideal) _ _ = z2 at *
  generalize k0_pay33 (F := Ideal) _ _ = z3 at *
  have hd : d.val < 128 := d.isLt
  fin_cases q
  · refine Eq.trans ?_ f0
    pointwise [cc]
  · refine Eq.trans ?_ f1
    pointwise [cc]
  · unfold er
    show _ = Ideal.div (dfr ct u w v r (cc 2 d)) (((min ((12 - t) * 320 + r.val + 1) 8 : ℕ) : ℝ) : EReal)
    rw [← f2, ← mul_recip _ (cnt_ne _ _ (by decide)), ← cnt t ht r.val r.isLt 8 (by decide)]
    pointwise [cc, k0_pay31]
    rw [dif_neg (by omega), dif_neg (by omega), dif_pos (by omega)]
    exact congrArg₂ (· * ·) (congrArg z2 (congrArg (ix2 r) (Fin.ext (by simp; omega)))) rfl
  · unfold er
    show _ = Ideal.div (dfr ct u w v r (cc 3 d)) (((min ((12 - t) * 320 + r.val + 1) 16 : ℕ) : ℝ) : EReal)
    rw [← f3, ← mul_recip _ (cnt_ne _ _ (by decide)), ← cnt t ht r.val r.isLt 16 (by decide)]
    pointwise [cc, k0_pay31]
    rw [dif_neg (by omega), dif_neg (by omega), dif_neg (by omega)]
    exact congrArg₂ (· * ·) (congrArg z3 (congrArg (ix2 r) (Fin.ext (by simp; omega)))) rfl

/-- The block of quotients with the sixteen rows after it. -/
theorem ext_at (b : BitVec 32) (p : FVec Ideal S320x512 .bf16) (a0 a1 a2 : FVec Ideal S320x128 .f32) (n : FVec Ideal S320x1 .f32)
    (w3 : Vec Ideal S1x128x128 .bf16) (f : Vec Ideal S16x512 .f32) (i : Fin 336) (j : Fin 512) :
    k0_pay35 (F := Ideal) b p a0 a1 a2 n w3 f (ix2 i j)
      = if h : i.val < 320 then k0_pay34 (F := Ideal) b p a0 a1 a2 n w3 (ix2 ⟨i.val, h⟩ j) else f (ix2 ⟨i.val - 320, by omega⟩ j) := by
  unfold k0_pay35
  generalize k0_pay34 (F := Ideal) _ _ _ _ _ _ _ = z
  pointwise

theorem fut_at (b : BitVec 32) (p : FVec Ideal S320x512 .bf16) (a0 a1 a2 : FVec Ideal S320x128 .f32) (n : FVec Ideal S320x1 .f32)
    (w3 : Vec Ideal S1x128x128 .bf16) (i : Fin 16) (j : Fin 512) :
    k0_pay36 (F := Ideal) b p a0 a1 a2 n w3 (ix2 i j) = k0_pay34 (F := Ideal) b p a0 a1 a2 n w3 (ix2 ⟨i.val, by omega⟩ j) := by
  unfold k0_pay36
  generalize k0_pay34 (F := Ideal) _ _ _ _ _ _ _ = z
  pointwise

variable (p0 p1 p2 p3 : FVec Ideal S320x128 .f32) (x : FVec Ideal S336x512 .f32) (Y : ℕ → EReal) (r : Fin 320) (d : Fin 128)

theorem dbl1 (z : FVec Ideal S336x128 .f32) (Z : ℕ → EReal) (L : ℕ) (hz : ∀ i : Fin 336, i.val < L → z (ix2 i d) = Z i.val)
    (hL : L ≤ 336) (i : Fin 336) (hi : i.val < L - 1) :
    addf z (dynamicRotate 0 335#32 none z rotates_S336x128_d0) (ix2 i d) = Z i.val + Z (i.val + 1) := by
  rw [← hz i (by omega), ← hz ⟨i.val + 1, by omega⟩ (show i.val + 1 < L by omega)]
  pointwise
  exact congrArg (fun e : Fin 336 => z (ix2 i d) + z (ix2 e d)) (Fin.ext (show (i.val + 336 - 335) % 336 = i.val + 1 by omega))

theorem dbl2 (z : FVec Ideal S336x128 .f32) (Z : ℕ → EReal) (L : ℕ) (hz : ∀ i : Fin 336, i.val < L → z (ix2 i d) = Z i.val)
    (hL : L ≤ 336) (i : Fin 336) (hi : i.val < L - 2) :
    addf z (dynamicRotate 0 334#32 none z rotates_S336x128_d0) (ix2 i d) = Z i.val + Z (i.val + 2) := by
  rw [← hz i (by omega), ← hz ⟨i.val + 2, by omega⟩ (show i.val + 2 < L by omega)]
  pointwise
  exact congrArg (fun e : Fin 336 => z (ix2 i d) + z (ix2 e d)) (Fin.ext (show (i.val + 336 - 334) % 336 = i.val + 2 by omega))

theorem dbl4 (z : FVec Ideal S336x128 .f32) (Z : ℕ → EReal) (L : ℕ) (hz : ∀ i : Fin 336, i.val < L → z (ix2 i d) = Z i.val)
    (hL : L ≤ 336) (i : Fin 336) (hi : i.val < L - 4) :
    addf z (dynamicRotate 0 332#32 none z rotates_S336x128_d0) (ix2 i d) = Z i.val + Z (i.val + 4) := by
  rw [← hz i (by omega), ← hz ⟨i.val + 4, by omega⟩ (show i.val + 4 < L by omega)]
  pointwise
  exact congrArg (fun e : Fin 336 => z (ix2 i d) + z (ix2 e d)) (Fin.ext (show (i.val + 336 - 332) % 336 = i.val + 4 by omega))

theorem dbl8 (z : FVec Ideal S336x128 .f32) (Z : ℕ → EReal) (L : ℕ) (hz : ∀ i : Fin 336, i.val < L → z (ix2 i d) = Z i.val)
    (hL : L ≤ 336) (i : Fin 336) (hi : i.val < L - 8) :
    addf z (dynamicRotate 0 328#32 none z rotates_S336x128_d0) (ix2 i d) = Z i.val + Z (i.val + 8) := by
  rw [← hz i (by omega), ← hz ⟨i.val + 8, by omega⟩ (show i.val + 8 < L by omega)]
  pointwise
  exact congrArg (fun e : Fin 336 => z (ix2 i d) + z (ix2 e d)) (Fin.ext (show (i.val + 336 - 328) % 336 = i.val + 8 by omega))

theorem dv0 (hY : ∀ i : Fin 336, x (ix2 i (cc 0 d)) = Y i.val) :
    k0_pay1 (F := Ideal) p0 p1 p2 p3 x (ix2 r (cc 0 d)) = ∑ n ∈ Finset.range 2, Y (r.val + n) - p0 (ix2 r d) := by
  have hr : r.val < 320 := r.isLt
  have h0 : ∀ i : Fin 336, i.val < 336 → extractStridedSlice S336x128 ![0, 0] x slices_S336x512_o0_0_S336x128 (ix2 i d) = Y i.val := fun i _ => by
    rw [← hY i]
    pointwise
    exact congrArg x (congrArg (ix2 i) (Fin.ext (by simp [cc])))
  have h1 := dbl1 d _ Y (336) h0 (by decide)
  have h := h1 ⟨r.val, by omega⟩ (show r.val < 336 - 1 by omega)
  unfold k0_pay1
  generalize addf (F := Ideal) (s := S336x128) (φ := .f32) _ (dynamicRotate (s := S336x128) 0 328#32 none _ _) = y3
  generalize addf (F := Ideal) (s := S336x128) (φ := .f32) _ (dynamicRotate (s := S336x128) 0 332#32 none _ _) = y2
  generalize addf (F := Ideal) (s := S336x128) (φ := .f32) _ (dynamicRotate (s := S336x128) 0 334#32 none _ _) = y1
  clear h0 h1
  generalize addf (F := Ideal) (s := S336x128) (φ := .f32) _ (dynamicRotate (s := S336x128) 0 335#32 none _ _) = y0 at h ⊢
  have hd : d.val < 128 := d.isLt
  pointwise [cc]
  refine congrArg₂ (· - ·) (h.trans ?_) rfl
  simp only [Finset.sum_range_succ, Finset.sum_range_zero, zero_add, Nat.add_assoc, Nat.reduceAdd, Nat.add_zero]

theorem dv1 (hY : ∀ i : Fin 336, x (ix2 i (cc 1 d)) = Y i.val) :
    k0_pay1 (F := Ideal) p0 p1 p2 p3 x (ix2 r (cc 1 d)) = ∑ n ∈ Finset.range 4, Y (r.val + n) - p1 (ix2 r d) := by
  have hr : r.val < 320 := r.isLt
  have h0 : ∀ i : Fin 336, i.val < 336 → extractStridedSlice S336x128 ![0, 128] x slices_S336x512_o0_128_S336x128 (ix2 i d) = Y i.val := fun i _ => by
    rw [← hY i]
    pointwise
    exact congrArg x (congrArg (ix2 i) (Fin.ext (by simp [cc])))
  have h1 := dbl1 d _ Y (336) h0 (by decide)
  have h2 := dbl2 d _ (fun m => Y m + Y (m + 1)) (336 - 1) h1 (by decide)
  have h := h2 ⟨r.val, by omega⟩ (show r.val < 336 - 1 - 2 by omega)
  unfold k0_pay1
  generalize addf (F := Ideal) (s := S336x128) (φ := .f32) _ (dynamicRotate (s := S336x128) 0 328#32 none _ _) = y3
  generalize addf (F := Ideal) (s := S336x128) (φ := .f32) _ (dynamicRotate (s := S336x128) 0 332#32 none _ _) = y2
  clear h0 h1 h2
  generalize addf (F := Ideal) (s := S336x128) (φ := .f32) _ (dynamicRotate (s := S336x128) 0 334#32 none _ _) = y1 at h ⊢
  generalize addf (F := Ideal) (s := S336x128) (φ := .f32) _ (dynamicRotate (s := S336x128) 0 335#32 none _ _) = y0
  have hd : d.val < 128 := d.isLt
  pointwise [cc]
  refine congrArg₂ (· - ·) (h.trans ?_) rfl
  simp only [Finset.sum_range_succ, Finset.sum_range_zero, zero_add, Nat.add_assoc, Nat.reduceAdd, Nat.add_zero]
  abel

theorem dv2 (hY : ∀ i : Fin 336, x (ix2 i (cc 2 d)) = Y i.val) :
    k0_pay1 (F := Ideal) p0 p1 p2 p3 x (ix2 r (cc 2 d)) = ∑ n ∈ Finset.range 8, Y (r.val + n) - p2 (ix2 r d) := by
  have hr : r.val < 320 := r.isLt
  have h0 : ∀ i : Fin 336, i.val < 336 → extractStridedSlice S336x128 ![0, 256] x slices_S336x512_o0_256_S336x128 (ix2 i d) = Y i.val := fun i _ => by
    rw [← hY i]
    pointwise
    exact congrArg x (congrArg (ix2 i) (Fin.ext (by simp [cc])))
  have h1 := dbl1 d _ Y (336) h0 (by decide)
  have h2 := dbl2 d _ (fun m => Y m + Y (m + 1)) (336 - 1) h1 (by decide)
  have h3 := dbl4 d _ (fun m => Y m + Y (m + 1) + (Y (m + 2) + Y (m + 2 + 1))) (336 - 1 - 2) h2 (by decide)
  have h := h3 ⟨r.val, by omega⟩ (show r.val < 336 - 1 - 2 - 4 by omega)
  unfold k0_pay1
  generalize addf (F := Ideal) (s := S336x128) (φ := .f32) _ (dynamicRotate (s := S336x128) 0 328#32 none _ _) = y3
  clear h0 h1 h2 h3
  generalize addf (F := Ideal) (s := S336x128) (φ := .f32) _ (dynamicRotate (s := S336x128) 0 332#32 none _ _) = y2 at h ⊢
  generalize addf (F := Ideal) (s := S336x128) (φ := .f32) _ (dynamicRotate (s := S336x128) 0 334#32 none _ _) = y1
  generalize addf (F := Ideal) (s := S336x128) (φ := .f32) _ (dynamicRotate (s := S336x128) 0 335#32 none _ _) = y0
  have hd : d.val < 128 := d.isLt
  pointwise [cc]
  rw [dif_neg (by omega), dif_neg (by omega), dif_pos (by omega)]
  refine congrArg₂ (· - ·) ((congrArg (fun e : Fin 128 => y2 (ix2 ⟨r.val, by omega⟩ e)) (Fin.ext (show 256 + d.val - 128 - 128 = d.val by omega))).trans (h.trans ?_))
    (congrArg (fun e : Fin 128 => p2 (ix2 r e)) (Fin.ext (show 256 + d.val - 128 - 128 = d.val by omega)))
  simp only [Finset.sum_range_succ, Finset.sum_range_zero, zero_add, Nat.add_assoc, Nat.reduceAdd, Nat.add_zero]
  abel

theorem dv3 (hY : ∀ i : Fin 336, x (ix2 i (cc 3 d)) = Y i.val) :
    k0_pay1 (F := Ideal) p0 p1 p2 p3 x (ix2 r (cc 3 d)) = ∑ n ∈ Finset.range 16, Y (r.val + n) - p3 (ix2 r d) := by
  have hr : r.val < 320 := r.isLt
  have h0 : ∀ i : Fin 336, i.val < 336 → extractStridedSlice S336x128 ![0, 384] x slices_S336x512_o0_384_S336x128 (ix2 i d) = Y i.val := fun i _ => by
    rw [← hY i]
    pointwise
    exact congrArg x (congrArg (ix2 i) (Fin.ext (by simp [cc])))
  have h1 := dbl1 d _ Y (336) h0 (by decide)
  have h2 := dbl2 d _ (fun m => Y m + Y (m + 1)) (336 - 1) h1 (by decide)
  have h3 := dbl4 d _ (fun m => Y m + Y (m + 1) + (Y (m + 2) + Y (m + 2 + 1))) (336 - 1 - 2) h2 (by decide)
  have h4 := dbl8 d _ (fun m => Y m + Y (m + 1) + (Y (m + 2) + Y (m + 2 + 1)) + (Y (m + 4) + Y (m + 4 + 1) + (Y (m + 4 + 2) + Y (m + 4 + 2 + 1)))) (336 - 1 - 2 - 4) h3 (by decide)
  have h := h4 ⟨r.val, by omega⟩ (show r.val < 336 - 1 - 2 - 4 - 8 by omega)
  unfold k0_pay1
  clear h0 h1 h2 h3 h4
  generalize addf (F := Ideal) (s := S336x128) (φ := .f32) _ (dynamicRotate (s := S336x128) 0 328#32 none _ _) = y3 at h ⊢
  generalize addf (F := Ideal) (s := S336x128) (φ := .f32) _ (dynamicRotate (s := S336x128) 0 332#32 none _ _) = y2
  generalize addf (F := Ideal) (s := S336x128) (φ := .f32) _ (dynamicRotate (s := S336x128) 0 334#32 none _ _) = y1
  generalize addf (F := Ideal) (s := S336x128) (φ := .f32) _ (dynamicRotate (s := S336x128) 0 335#32 none _ _) = y0
  have hd : d.val < 128 := d.isLt
  pointwise [cc]
  rw [dif_neg (by omega), dif_neg (by omega), dif_neg (by omega)]
  refine congrArg₂ (· - ·) ((congrArg (fun e : Fin 128 => y3 (ix2 ⟨r.val, by omega⟩ e)) (Fin.ext (show 384 + d.val - 128 - 128 - 128 = d.val by omega))).trans (h.trans ?_))
    (congrArg (fun e : Fin 128 => p3 (ix2 r e)) (Fin.ext (show 384 + d.val - 128 - 128 - 128 = d.val by omega)))
  simp only [Finset.sum_range_succ, Finset.sum_range_zero, zero_add, Nat.add_assoc, Nat.reduceAdd, Nat.add_zero]
  abel

end Cert.PoolBwdIdeal.Payload
-- ==== Proof.PoolBwd.Link.lean ====
/-
  The gradient of the pooling mixer: the blocks that a point reads are rows of the reference's arrays, and what the point
  computes of them are the reference's rows.
-/
module

public import proofs.«01_k».proof.Proof.PoolBwd.Entry
public import proofs.«01_k».proof.Proof.PoolBwd.Payload

@[expose] public section

set_option maxRecDepth 16384

noncomputable section

namespace Cert.PoolBwdIdeal.Link

open Cert.PoolBwdIdeal Cert.PoolBwdIdeal.Gen Idealize.ShloMosaic Idealize.ShloMosaic.TcCoe Idealize.SL.Sem
open Cert.PoolBwdIdeal.Payload Cert.PoolBwdIdeal.Entry
open Cert.PoolBwdRefIdeal.Read Cert.PoolBwdRefIdeal.Rows Cert.Norm Cert.Pool

variable (m : (ℓ : Loc nD τ sig) → Buf (Elt Ideal) ℓ)

theorem idx : ∀ t : Fin cfg0.N, win0_0.index t = ![12 - t.val, 0] ∧ win0_1.index t = ![12 - t.val, 0] ∧ win0_2.index t = ![0, 0, 0]
    ∧ win0_3.index t = ![0, 0] ∧ win0_4.index t = ![12 - t.val, 0] ∧ win0_5.index t = ![0, 0, 0] ∧ win0_6.index t = ![0, 0] :=
  (by decide +kernel : ∀ t : Fin grid0.N, _)

/-- Row `r` of point `t`'s block, in the whole array: the points take the blocks from the last to the first. -/
def row (t : Fin cfg0.N) (r : Fin 320) : Fin 4160 := ⟨(12 - t.val) * 320 + r.val, by omega⟩

/-- The arguments on device `c`. -/
abbrev A0 (c : Dev nD) : FVec Ideal S4160x512 .f32 := m ((c : Thread nD τ).loc main_arg0)
abbrev A1 (c : Dev nD) : FVec Ideal S4x128x128 .f32 := m ((c : Thread nD τ).loc main_arg1)
abbrev A2 (c : Dev nD) : FVec Ideal S4x128 .f32 := m ((c : Thread nD τ).loc main_arg2)
abbrev A3 (c : Dev nD) : FVec Ideal S512 .f32 := m ((c : Thread nD τ).loc main_arg3)
abbrev A4 (c : Dev nD) : FVec Ideal S4160x512 .f32 := m ((c : Thread nD τ).loc main_arg4)

theorem entry_c (c : Dev nD) : V m c main_arg4 = m ((c : Thread nD τ).loc main_arg4) := by
  unfold V
  after_reads_simp

theorem c_row (c : Dev nD) (t : Fin cfg0.N) (r : Fin 320) : cr (iblk m c 0 t) r = cl (A4 m c) (row t r) := by
  funext j
  have e := congrFun (entry_c m c) (ix2 (row t r) j)
  unfold cr iblk
  generalize V m c = z at e ⊢
  refine Eq.trans ?_ e
  unfold row
  blk_point [idx t]

theorem f_row (c : Dev nD) (t : Fin cfg0.N) (r : Fin 320) : fr (iblk m c 1 t) r = fl (A0 m c) (row t r) := by
  funext j
  have e := congrFun (entry_f m c) (ix2 (row t r) j)
  unfold fr iblk
  generalize V m c = z at e ⊢
  refine Eq.trans ?_ e
  unfold row
  blk_point [idx t]

theorem w_row (c : Dev nD) (t : Fin cfg0.N) : wr (iblk m c 2 t) = wl (A1 m c) := by
  funext q a b
  have e := congrFun (entry_w m c) (ix3 q a b)
  unfold wr iblk
  generalize V m c = z at e ⊢
  refine Eq.trans ?_ e
  blk_point [idx t]

theorem s_row (c : Dev nD) (t : Fin cfg0.N) : sr (iblk m c 3 t) = sl (A2 m c) := by
  funext j
  have e := entry_s m c j
  unfold sr iblk
  generalize V m c = z at e ⊢
  refine Eq.trans ?_ e
  blk_point [idx t]

theorem g_row (c : Dev nD) (t : Fin cfg0.N) : gr (iblk m c 3 t) = gl (A3 m c) := by
  funext j
  have e := entry_g m c j
  unfold gr iblk
  generalize V m c = z at e ⊢
  refine Eq.trans ?_ e
  blk_point [idx t]

theorem df_row (c : Dev nD) (t : Fin cfg0.N) (r : Fin 320) (j : Fin 512) :
    dfr (iblk m c 0 t) (iblk m c 1 t) (iblk m c 2 t) (iblk m c 3 t) r j = dfl (A0 m c) (A1 m c) (A2 m c) (A3 m c) (A4 m c) (row t r) j := by
  unfold dfr dfl
  rw [c_row, f_row, w_row, s_row, g_row]

/-- The point's quotients are the reference's. -/
theorem er_en (c : Dev nD) (t : Fin cfg0.N) (r : Fin 320) (q : Fin 4) (d : Fin 128) :
    er (iblk m c 0 t) (iblk m c 1 t) (iblk m c 2 t) (iblk m c 3 t) t.val r (cc q d) (2 ^ (q.val + 1))
      = en (A0 m c) (A1 m c) (A2 m c) (A3 m c) (A4 m c) q d ((12 - t.val) * 320 + r.val) := by
  unfold er en
  rw [df_row]
  have hr : (12 - t.val) * 320 + r.val < 4160 := (row t r).isLt
  rw [dif_pos hr]
  rfl

/-! ## The features' gradient of one block -/

section Block
variable (ct : Vec Ideal S320x512 .f32) (u : Vec Ideal S320x512 .bf16) (w : Vec Ideal S4x128x128 .bf16) (v : Vec Ideal S8x512 .f32)

/-- The gradient of the mixer's input, from the block and the sixteen rows of quotients after it. -/
abbrev DVK (b : BitVec 32) (f : Vec Ideal S16x512 .f32) : FVec Ideal S320x512 .f32 :=
  k0_pay1 (F := Ideal) (k0_pay22 (T17 ct u w v) (View.ld w (RW 0 (by decide)))) (k0_pay27 (k0_pay25 (T17 ct u w v)) (k0_pay26 (View.ld w (RW 1 (by decide)))))
    (k0_pay30 (T17 ct u w v) (View.ld w (RW 2 (by decide)))) (k0_pay33 (T17 ct u w v) (View.ld w (RW 3 (by decide))))
    (k0_pay35 b (T17 ct u w v) (k0_pay23 b (T17 ct u w v) (View.ld w (RW 0 (by decide))))
      (k0_pay28 b (k0_pay25 (T17 ct u w v)) (k0_pay26 (View.ld w (RW 1 (by decide)))))
      (k0_pay30 (T17 ct u w v) (View.ld w (RW 2 (by decide)))) (k0_pay31 b) (View.ld w (RW 3 (by decide))) f)

/-- The sixteen rows that the point leaves for the next. -/
abbrev FUT (b : BitVec 32) : FVec Ideal S16x512 .f32 :=
  k0_pay36 (F := Ideal) b (T17 ct u w v) (k0_pay23 b (T17 ct u w v) (View.ld w (RW 0 (by decide))))
    (k0_pay28 b (k0_pay25 (T17 ct u w v)) (k0_pay26 (View.ld w (RW 1 (by decide)))))
    (k0_pay30 (T17 ct u w v) (View.ld w (RW 2 (by decide)))) (k0_pay31 b) (View.ld w (RW 3 (by decide)))

theorem dvk_at (t : ℕ) (ht : t < 13) (f : Vec Ideal S16x512 .f32) (Y : ℕ → EReal) (q : Fin 4) (d : Fin 128)
    (h1 : ∀ r : Fin 320, er ct u w v t r (cc q d) (2 ^ (q.val + 1)) = Y r.val) (h2 : ∀ i : Fin 16, f (ix2 i (cc q d)) = Y (320 + i.val))
    (r : Fin 320) : DVK ct u w v (BitVec.ofNat 32 t) f (ix2 r (cc q d))
      = ∑ n ∈ Finset.range (2 ^ (q.val + 1)), Y (r.val + n) - dfr ct u w v r (cc q d) := by
  have hY : ∀ i : Fin 336, k0_pay35 (F := Ideal) (BitVec.ofNat 32 t) (T17 ct u w v) (k0_pay23 (BitVec.ofNat 32 t) (T17 ct u w v) (View.ld w (RW 0 (by decide))))
      (k0_pay28 (BitVec.ofNat 32 t) (k0_pay25 (T17 ct u w v)) (k0_pay26 (View.ld w (RW 1 (by decide)))))
      (k0_pay30 (T17 ct u w v) (View.ld w (RW 2 (by decide)))) (k0_pay31 (BitVec.ofNat 32 t)) (View.ld w (RW 3 (by decide))) f (ix2 i (cc q d)) = Y i.val := fun i => by
    rw [ext_at]
    by_cases hi : i.val < 320
    · rw [dif_pos hi]
      exact (e_at ct u w v t ht ⟨i.val, hi⟩ q d).trans (h1 _)
    · rw [dif_neg hi, h2]
      exact congrArg Y (by show 320 + (i.val - 320) = i.val; omega)
  fin_cases q
  · exact (dv0 _ _ _ _ _ Y r d hY).trans (congrArg₂ (· - ·) rfl (d0_at ct u w v r d))
  · exact (dv1 _ _ _ _ _ Y r d hY).trans (congrArg₂ (· - ·) rfl (d1_at ct u w v r d))
  · exact (dv2 _ _ _ _ _ Y r d hY).trans (congrArg₂ (· - ·) rfl (d2_at ct u w v r d))
  · exact (dv3 _ _ _ _ _ Y r d hY).trans (congrArg₂ (· - ·) rfl (d3_at ct u w v r d))

theorem futk_at (t : ℕ) (ht : t < 13) (q : Fin 4) (d : Fin 128) (i : Fin 16) :
    FUT ct u w v (BitVec.ofNat 32 t) (ix2 i (cc q d)) = er ct u w v t ⟨i.val, by omega⟩ (cc q d) (2 ^ (q.val + 1)) :=
  (fut_at _ _ _ _ _ _ _ i (cc q d)).trans (e_at ct u w v t ht _ q d)
end Block

/-- The grid's coordinate, as the kernel's number. -/
abbrev gb (t : Fin cfg0.N) : BitVec 32 := BitVec.ofNat 32 (grid0.coords t 0).val

theorem gb_eq (t : Fin cfg0.N) : gb t = BitVec.ofNat 32 t.val := congrArg (BitVec.ofNat 32) (by
  revert t
  exact (by decide +kernel : ∀ t : Fin grid0.N, (grid0.coords t 0).val = t.val))

/-- What the scratch holds after a point. -/
theorem after_s (c : Dev nD) (t : Fin cfg0.N) (y : S16x512.Idx) : (outsAt0 m c t.val t.isLt).2.2.2 y
    = FUT (iblk m c 0 t) (iblk m c 1 t) (iblk m c 2 t) (iblk m c 3 t) (gb t) y := by
  by_cases h : t.val % 13 = 0
  · rw [outsAt0_A m c t h]
    frame_out
  · rw [outsAt0_B m c t h]
    frame_out

theorem s_at (c : Dev nD) (t : Fin cfg0.N) (i : Fin 16) (q : Fin 4) (d : Fin 128) : (outsAt0 m c t.val t.isLt).2.2.2 (ix2 i (cc q d))
    = en (A0 m c) (A1 m c) (A2 m c) (A3 m c) (A4 m c) q d ((12 - t.val) * 320 + i.val) := by
  have hN : t.val < 13 := lt_of_lt_of_eq t.isLt N_0
  rw [after_s, gb_eq]
  exact (futk_at _ _ _ _ t.val hN q d i).trans (er_en m c t _ q d)

theorem after4_A (c : Dev nD) (t : Fin cfg0.N) (h : t.val % 13 = 0) (y : S320x512.Idx) : (outsAt0 m c t.val t.isLt).1 y
    = DVK (iblk m c 0 t) (iblk m c 1 t) (iblk m c 2 t) (iblk m c 3 t) (gb t) (k0_pay2 (F := Ideal)) y := by
  rw [outsAt0_A m c t h]
  frame_out

theorem after4_B (c : Dev nD) (t : Fin cfg0.N) (h : ¬ t.val % 13 = 0) (y : S320x512.Idx) : (outsAt0 m c t.val t.isLt).1 y
    = DVK (iblk m c 0 t) (iblk m c 1 t) (iblk m c 2 t) (iblk m c 3 t) (gb t) (outsAt0 m c (t.val - 1) (by omega)).2.2.2 y := by
  rw [outsAt0_B m c t h]
  frame_out
  exact congrArg (fun f => DVK (iblk m c 0 t) (iblk m c 1 t) (iblk m c 2 t) (iblk m c 3 t) (gb t) f y) ((Memref.isWhole_whole _).read_unread _)

theorem dvk_en (c : Dev nD) (t : Fin cfg0.N) (r : Fin 320) (q : Fin 4) (d : Fin 128) (f : Vec Ideal S16x512 .f32)
    (hf : ∀ i : Fin 16, f (ix2 i (cc q d)) = en (A0 m c) (A1 m c) (A2 m c) (A3 m c) (A4 m c) q d ((12 - t.val) * 320 + (320 + i.val))) :
    DVK (iblk m c 0 t) (iblk m c 1 t) (iblk m c 2 t) (iblk m c 3 t) (gb t) f (ix2 r (cc q d))
      = ∑ n ∈ Finset.range (2 ^ (q.val + 1)), en (A0 m c) (A1 m c) (A2 m c) (A3 m c) (A4 m c) q d ((row t r).val + n)
        - dfl (A0 m c) (A1 m c) (A2 m c) (A3 m c) (A4 m c) (row t r) (cc q d) := by
  have hN : t.val < 13 := lt_of_lt_of_eq t.isLt N_0
  rw [gb_eq]
  refine (dvk_at _ _ _ _ t.val hN f (fun n => en (A0 m c) (A1 m c) (A2 m c) (A3 m c) (A4 m c) q d ((12 - t.val) * 320 + n)) q d
    (fun r => er_en m c t r q d) hf r).trans ?_
  refine congrArg₂ (· - ·) (Finset.sum_congr rfl fun n _ => congrArg _ ?_) (df_row m c t r _)
  exact (Nat.add_assoc _ _ _).symm

theorem after4 (c : Dev nD) (t : Fin cfg0.N) (r : Fin 320) (q : Fin 4) (d : Fin 128) : (outsAt0 m c t.val t.isLt).1 (ix2 r (cc q d))
    = ∑ n ∈ Finset.range (2 ^ (q.val + 1)), en (A0 m c) (A1 m c) (A2 m c) (A3 m c) (A4 m c) q d ((row t r).val + n)
      - dfl (A0 m c) (A1 m c) (A2 m c) (A3 m c) (A4 m c) (row t r) (cc q d) := by
  have hN : t.val < 13 := lt_of_lt_of_eq t.isLt N_0
  by_cases h : t.val % 13 = 0
  · refine (after4_A m c t h _).trans (dvk_en m c t r q d _ fun i => ?_)
    unfold en
    rw [dif_neg (by omega)]
    pointwise [k0_pay2]
  · refine (after4_B m c t h _).trans (dvk_en m c t r q d _ fun i => ?_)
    refine (s_at m c ⟨t.val - 1, by omega⟩ i q d).trans (congrArg _ ?_)
    show (12 - (t.val - 1)) * 320 + i.val = (12 - t.val) * 320 + (320 + i.val)
    omega

end Cert.PoolBwdIdeal.Link
-- ==== Proof.PoolBwd.Sums.lean ====
/-
  The gradient of the pooling mixer: what the kernel leaves in its three output arrays, against the reference.
-/
module

public import proofs.«01_k».proof.Proof.PoolBwd.Link
public import Idealize.ShloMosaic.Lib.WritesUnit

@[expose] public section

set_option maxRecDepth 16384

noncomputable section

namespace Cert.PoolBwdIdeal.Sums

open Cert.PoolBwdIdeal Cert.PoolBwdIdeal.Gen Idealize.ShloMosaic Idealize.ShloMosaic.TcCoe Idealize.SL.Sem
open Cert.PoolBwdIdeal.Payload Cert.PoolBwdIdeal.Link
open Cert.PoolBwdRefIdeal.Read Cert.PoolBwdRefIdeal.Rows Cert.Norm Cert.Pool

variable (m : (ℓ : Loc nD τ sig) → Buf (Elt Ideal) ℓ)

section At
variable (c : Dev nD) (s : Fin cfg0.N) (r : Fin 320) (k : Fin 512)

theorem t17_row : T17 (iblk m c 0 s) (iblk m c 1 s) (iblk m c 2 s) (iblk m c 3 s) (ix2 r k)
    = dpl (A0 m c) (A1 m c) (A2 m c) (A3 m c) (A4 m c) (row s r) k := by
  refine (t17_at _ _ _ _ (ix2 r k)).trans ?_
  show DP (fr _ r) _ _ _ (cr _ r) k = _
  unfold dpl
  rw [c_row, f_row, w_row, s_row, g_row]

theorem t14_row : T14 (iblk m c 0 s) (iblk m c 1 s) (iblk m c 2 s) (iblk m c 3 s) (ix2 r k)
    = dyl (A0 m c) (A1 m c) (A2 m c) (A3 m c) (A4 m c) (row s r) k := by
  refine (t14_at _ _ _ _ (ix2 r k)).trans ?_
  show DY (fr _ r) _ _ _ (cr _ r) k = _
  unfold dyl
  rw [c_row, f_row, w_row, s_row, g_row]

theorem t13_row : T13 (iblk m c 1 s) (iblk m c 2 s) (iblk m c 3 s) (ix2 r k)
    = XH (fl (A0 m c) (row s r)) (wl (A1 m c)) (sl (A2 m c)) k := by
  refine (t13_at _ _ _ (ix2 r k)).trans ?_
  show XH (fr _ r) _ _ k = _
  rw [f_row, w_row, s_row]

theorem t8_row : T8 (iblk m c 1 s) (iblk m c 2 s) (ix2 r k) = PR (fl (A0 m c) (row s r)) (wl (A1 m c)) k := by
  refine (t8_at _ _ (ix2 r k)).trans ?_
  show PR (fr _ r) _ k = _
  rw [f_row, w_row]
end At

/-- An entry of a block of the input's gradient. -/
theorem after4_row (c : Dev nD) (hw : ∀ i, Fin' (A1 m c i)) (hs : ∀ i, Fin' (A2 m c i)) (hg : ∀ i, Fin' (A3 m c i)) (hc : ∀ i, Fin' (A4 m c i))
    (t : Fin cfg0.N) (r : Fin 320) (k : Fin 512) : (outsAt0 m c t.val t.isLt).1 (ix2 r k)
    = val_main_v188 (F := Ideal) (A0 m c) (A1 m c) (A2 m c) (A3 m c) (A4 m c) (ix2 (row t r) k) := by
  have key := v188_at (A0 m c) (A1 m c) (A2 m c) (A3 m c) (A4 m c) hw hs hg hc (row t r) (gq k) (gd k)
  have e := after4 m c t r (gq k) (gd k)
  rw [← key, cc_g] at e
  exact e

/-- The gradient of the mixer's input. -/
theorem final4 (c : Dev nD) (hw : ∀ i, Fin' (A1 m c i)) (hs : ∀ i, Fin' (A2 m c i)) (hg : ∀ i, Fin' (A3 m c i)) (hc : ∀ i, Fin' (A4 m c i)) :
    (dats m 0 c).arrAt 4 cfg0.N = val_main_v188 (F := Ideal) (A0 m c) (A1 m c) (A2 m c) (A3 m c) (A4 m c) := by
  refine (dats m 0 c).arrAt_eq_of_covers 4 _ (by decide +kernel) fun t hf y => ?_
  have e := after4_row m c hw hs hg hc t (y 0) (y 1)
  have hy : (ix2 (y 0) (y 1) : S320x512.Idx) = y := by blk_ext
  rw [hy] at e
  blk_simp
  rw [after0_4]
  refine e.trans (congrArg _ ?_)
  unfold row
  blk_ext [idx t]

/-- The parts, block by block from the last, add up to the sum over all the rows. -/
theorem sum_rev (F : Fin 4160 → EReal) : ∑ s : Fin cfg0.N, ∑ r : Fin 320, F (row s r) = ∑ l, F l := by
  refine (Equiv.sum_comp Fin.revPerm (fun s : Fin 13 => ∑ r : Fin 320, F (row s r))).symm.trans ?_
  refine Fin.sum_mul_add_congr fun s k hl => congrArg F (Fin.ext ?_)
  show (12 - (Fin.rev s).val) * 320 + k.val = s.val * 320 + k.val
  rw [Fin.val_rev]
  omega

/-! ## The gradients of the four matrices -/

/-- One block's part of an entry of the four matrices' gradients. -/
def PARTM (u D : FVec Ideal S320x512 .bf16) (j : S4x128x128.Idx) : EReal := ∑ r : Fin 320, u (ix2 r (cc (j 0) (j 1))) * D (ix2 r (cc (j 0) (j 2)))

section Store
variable (u D : FVec Ideal S320x512 .bf16) (a : Vec Ideal S1x128x128 .f32) (x : S1x128x128.Idx) (j : S4x128x128.Idx)

theorem pw0 (h0 : (j 0 : ℕ) = 0) (h1 : (j 1 : ℕ) = x 1) (h2 : (j 2 : ℕ) = x 2) :
    k0_pay21 (F := Ideal) (k0_pay18 a) (k0_pay19 (k0_pay7 u)) (extractStridedSlice S320x128 ![0, 0] D slices_S320x512_o0_0_S320x128) x
      = a x + PARTM u D j := by
  have hx : (x 0 : ℕ) < 1 := (x 0).isLt
  unfold PARTM
  pointwise [k0_pay21, k0_pay18, k0_pay19, k0_pay7]
  refine congrArg₂ (· + ·) (congrArg a (by blk_ext)) (Finset.sum_congr rfl fun r _ => congrArg₂ (· * ·)
    (congrArg (fun e : Fin 512 => u (ix2 r e)) (Fin.ext ?_)) (congrArg (fun e : Fin 512 => D (ix2 r e)) (Fin.ext ?_)))
  all_goals (simp [cc]; omega)

theorem pw1 (h0 : (j 0 : ℕ) = 1) (h1 : (j 1 : ℕ) = x 1) (h2 : (j 2 : ℕ) = x 2) :
    k0_pay24 (F := Ideal) (k0_pay7 u) D a x = a x + PARTM u D j := by
  have hx : (x 0 : ℕ) < 1 := (x 0).isLt
  unfold PARTM
  pointwise [k0_pay24, k0_pay7]
  refine congrArg₂ (· + ·) (congrArg a (by blk_ext)) (Finset.sum_congr rfl fun r _ => congrArg₂ (· * ·)
    (congrArg (fun e : Fin 512 => u (ix2 r e)) (Fin.ext ?_)) (congrArg (fun e : Fin 512 => D (ix2 r e)) (Fin.ext ?_)))
  all_goals (simp [cc]; omega)

theorem pw2 (h0 : (j 0 : ℕ) = 2) (h1 : (j 1 : ℕ) = x 1) (h2 : (j 2 : ℕ) = x 2) :
    k0_pay29 (F := Ideal) (k0_pay7 u) D a x = a x + PARTM u D j := by
  have hx : (x 0 : ℕ) < 1 := (x 0).isLt
  unfold PARTM
  pointwise [k0_pay29, k0_pay7]
  refine congrArg₂ (· + ·) (congrArg a (by blk_ext)) (Finset.sum_congr rfl fun r _ => congrArg₂ (· * ·)
    (congrArg (fun e : Fin 512 => u (ix2 r e)) (Fin.ext ?_)) (congrArg (fun e : Fin 512 => D (ix2 r e)) (Fin.ext ?_)))
  all_goals (simp [cc]; omega)

theorem pw3 (h0 : (j 0 : ℕ) = 3) (h1 : (j 1 : ℕ) = x 1) (h2 : (j 2 : ℕ) = x 2) :
    k0_pay32 (F := Ideal) (k0_pay7 u) D a x = a x + PARTM u D j := by
  have hx : (x 0 : ℕ) < 1 := (x 0).isLt
  unfold PARTM
  pointwise [k0_pay32, k0_pay7]
  refine congrArg₂ (· + ·) (congrArg a (by blk_ext)) (Finset.sum_congr rfl fun r _ => congrArg₂ (· * ·)
    (congrArg (fun e : Fin 512 => u (ix2 r e)) (Fin.ext ?_)) (congrArg (fun e : Fin 512 => D (ix2 r e)) (Fin.ext ?_)))
  all_goals (simp [cc]; omega)
end Store

/-- The block's gradient of the projected rows. -/
abbrev DPB (c : Dev nD) (t : Fin cfg0.N) : FVec Ideal S320x512 .bf16 := T17 (iblk m c 0 t) (iblk m c 1 t) (iblk m c 2 t) (iblk m c 3 t)

theorem stepB5 (c : Dev nD) (t : Fin cfg0.N) (h : ¬ t.val % 13 = 0) (j : S4x128x128.Idx) : (outsAt0 m c t.val t.isLt).2.1 j
    = (outsAt0 m c (t.val - 1) (by omega)).2.1 j + PARTM (iblk m c 1 t) (DPB m c t) j := by
  rw [outsAt0_B m c t h]
  frame_out
  canon_tiles x h
  · refine (pw3 _ _ _ x j (by omega) h1 h2).trans (congrArg₂ (· + ·) ?_ rfl)
    generalize (outsAt0 m c (t.val - 1) _).2.1 = a
    pointwise
    blk_ext
  · refine (pw2 _ _ _ x j (by omega) h1 h2).trans (congrArg₂ (· + ·) ?_ rfl)
    generalize (outsAt0 m c (t.val - 1) _).2.1 = a
    pointwise
    blk_ext
  · refine (pw1 _ _ _ x j (by omega) h1 h2).trans (congrArg₂ (· + ·) ?_ rfl)
    generalize (outsAt0 m c (t.val - 1) _).2.1 = a
    pointwise
    blk_ext
  · refine (pw0 _ _ _ x j (by omega) h1 h2).trans (congrArg₂ (· + ·) ?_ rfl)
    generalize (outsAt0 m c (t.val - 1) _).2.1 = a
    pointwise
    blk_ext

theorem stepA5 (c : Dev nD) (t : Fin cfg0.N) (h : t.val % 13 = 0) (j : S4x128x128.Idx) : (outsAt0 m c t.val t.isLt).2.1 j
    = 0 + PARTM (iblk m c 1 t) (DPB m c t) j := by
  rw [outsAt0_A m c t h]
  frame_out
  repeat first | rw [View.readCov_fill _ _ _ _ _ (by decide)] | rw [View.readCov_skip _ _ _ _ _ rfl]
  obtain_idx x : S1x128x128 := [0, (j 1 : ℕ), (j 2 : ℕ)] with hx
  have hj : (j 0 : ℕ) < 4 := (j 0).isLt
  obtain hj | hj | hj | hj : (j 0 : ℕ) = 3 ∨ (j 0 : ℕ) = 2 ∨ (j 0 : ℕ) = 1 ∨ (j 0 : ℕ) = 0 := by omega
  · have e : j = (RW 3 (by decide)).emb x := by blk_ext
    refine (congrArg _ e).trans ((View.canon_cons_emb ..).trans ?_)
    refine (pw3 _ _ _ x j hj (by omega) (by omega)).trans (congrArg₂ (· + ·) ?_ rfl)
    pointwise [k0_pay3]
  · have e : j = (RW 2 (by decide)).emb x := by blk_ext
    rw [View.canon_cons_of_not_mem _ _ (by
      mem_blk
      intro hm
      have h0 : 3 ≤ (j 0 : ℕ) := (hm 0).1
      omega)]
    refine (congrArg _ e).trans ((View.canon_cons_emb ..).trans ?_)
    refine (pw2 _ _ _ x j hj (by omega) (by omega)).trans (congrArg₂ (· + ·) ?_ rfl)
    pointwise [k0_pay3]
  · have e : j = (RW 1 (by decide)).emb x := by blk_ext
    rw [View.canon_cons_of_not_mem _ _ (by
      mem_blk
      intro hm
      have h0 : 3 ≤ (j 0 : ℕ) := (hm 0).1
      omega)]
    rw [View.canon_cons_of_not_mem _ _ (by
      mem_blk
      intro hm
      have h0 : 2 ≤ (j 0 : ℕ) := (hm 0).1
      omega)]
    refine (congrArg _ e).trans ((View.canon_cons_emb ..).trans ?_)
    refine (pw1 _ _ _ x j hj (by omega) (by omega)).trans (congrArg₂ (· + ·) ?_ rfl)
    pointwise [k0_pay3]
  · have e : j = (RW 0 (by decide)).emb x := by blk_ext
    rw [View.canon_cons_of_not_mem _ _ (by
      mem_blk
      intro hm
      have h0 : 3 ≤ (j 0 : ℕ) := (hm 0).1
      omega)]
    rw [View.canon_cons_of_not_mem _ _ (by
      mem_blk
      intro hm
      have h0 : 2 ≤ (j 0 : ℕ) := (hm 0).1
      omega)]
    rw [View.canon_cons_of_not_mem _ _ (by
      mem_blk
      intro hm
      have h0 : 1 ≤ (j 0 : ℕ) := (hm 0).1
      omega)]
    refine (congrArg _ e).trans ((View.canon_cons_emb ..).trans ?_)
    refine (pw0 _ _ _ x j hj (by omega) (by omega)).trans (congrArg₂ (· + ·) ?_ rfl)
    pointwise [k0_pay3]

/-- The blocks' parts together are the reference's entry. -/
theorem sum5 (c : Dev nD) (j : S4x128x128.Idx) : ∑ s : Fin cfg0.N, PARTM (iblk m c 1 s) (DPB m c s) j
    = val_main_v123 (F := Ideal) (A0 m c) (A1 m c) (A2 m c) (A3 m c) (A4 m c) j := by
  have key := v123_at (A0 m c) (A1 m c) (A2 m c) (A3 m c) (A4 m c) (j 0) (j 1) (j 2)
  have hj : (ix3 (j 0) (j 1) (j 2) : S4x128x128.Idx) = j := by blk_ext
  rw [← sum_rev] at key
  refine Eq.trans ?_ (key.symm.trans (congrArg _ hj))
  refine Finset.sum_congr rfl fun s _ => Finset.sum_congr rfl fun r _ => congrArg₂ (· * ·) (congrFun (f_row m c s r) _) ?_
  exact t17_row m c s r (cc (j 0) (j 2))

/-- The four matrices' gradients. -/
theorem final5 (c : Dev nD) : (dats m 0 c).arrAt 5 cfg0.N = val_main_v123 (F := Ideal) (A0 m c) (A1 m c) (A2 m c) (A3 m c) (A4 m c) := by
  refine (dats m 0 c).arrAt_eq_of_after_last 5 t0_12 (by decide +kernel) _ fun j => ?_
  blk_simp
  rw [after0_5, Pipeline.eq_sum_fin_of_reset_step_apply_last (fun n h => (outsAt0 m c n h).2.1) 13 (fun _ => 0) _
    (stepA5 m c) (stepB5 m c) (le_of_eq N_0) t0_12 rfl j, zero_add]
  exact sum5 m c j

/-! ## The gradients of the scale and of the gain -/

section Vec
variable (ct : Vec Ideal S320x512 .f32) (u : Vec Ideal S320x512 .bf16) (w : Vec Ideal S4x128x128 .bf16) (v : Vec Ideal S8x512 .f32)

/-- One block's part of an entry of the two vectors' gradients. -/
def PARTV (j : S8x512.Idx) : EReal :=
  if (j 0 : ℕ) = 0 then ∑ r : Fin 320, T14 ct u w v (ix2 r (j 1)) * T8 u w (ix2 r (j 1))
  else if (j 0 : ℕ) = 1 then ∑ r : Fin 320, ct (ix2 r (j 1)) * T13 u w v (ix2 r (j 1)) else 0

theorem pv0 (a : Vec Ideal S1x512 .f32) (x : S1x512.Idx) (j : S8x512.Idx) (h0 : (j 0 : ℕ) = 0) (h1 : (j 1 : ℕ) = x 1) :
    k0_pay15 (F := Ideal) (k0_pay6 (View.ld v (RV 1 (by decide)))) (T8 u w) (T9 u w v) (T10 u w v) k0_pay11 ct a x = a x + PARTV ct u w v j := by
  have hx : (x 0 : ℕ) < 1 := (x 0).isLt
  unfold PARTV k0_pay15
  rw [if_pos h0]
  unfold T14
  generalize k0_pay14 (F := Ideal) _ _ _ _ _ = z
  generalize T8 u w = y
  pointwise
  refine congrArg₂ (· + ·) (congrArg a (by blk_ext)) (Finset.sum_congr rfl fun r _ => ?_)
  exact congrArg (fun e : Fin 512 => z (ix2 r e) * y (ix2 r e)) (Fin.ext h1.symm)

theorem pv1 (a : Vec Ideal S1x512 .f32) (x : S1x512.Idx) (j : S8x512.Idx) (h0 : (j 0 : ℕ) = 1) (h1 : (j 1 : ℕ) = x 1) :
    k0_pay16 (F := Ideal) (T9 u w v) (T10 u w v) k0_pay11 ct a x = a x + PARTV ct u w v j := by
  have hx : (x 0 : ℕ) < 1 := (x 0).isLt
  unfold PARTV k0_pay16
  rw [if_neg (by omega), if_pos h0]
  unfold T13
  generalize k0_pay13 (F := Ideal) _ _ _ = z
  pointwise
  refine congrArg₂ (· + ·) (congrArg a (by blk_ext)) (Finset.sum_congr rfl fun r _ => ?_)
  exact congrArg (fun e : Fin 512 => ct (ix2 r e) * z (ix2 r e)) (Fin.ext h1.symm)

theorem pv_rest (j : S8x512.Idx) (h0 : 2 ≤ (j 0 : ℕ)) : PARTV ct u w v j = 0 := by
  unfold PARTV
  rw [if_neg (by omega), if_neg (by omega)]
end Vec

theorem stepB6 (c : Dev nD) (t : Fin cfg0.N) (h : ¬ t.val % 13 = 0) (j : S8x512.Idx) : (outsAt0 m c t.val t.isLt).2.2.1 j
    = (outsAt0 m c (t.val - 1) (by omega)).2.2.1 j + PARTV (iblk m c 0 t) (iblk m c 1 t) (iblk m c 2 t) (iblk m c 3 t) j := by
  rw [outsAt0_B m c t h]
  frame_out
  obtain_idx x : S1x512 := [0, (j 1 : ℕ)] with hx
  by_cases h1 : (j 0 : ℕ) = 1
  · refine (View.read_writes_cons_unit_of_mem _ _ _ _ _ j x rfl (fun a => by fin_cases a <;> simp <;> omega)).trans ?_
    refine (pv1 _ _ _ _ _ x j h1 (by omega)).trans (congrArg₂ (· + ·) ?_ rfl)
    generalize (outsAt0 m c (t.val - 1) _).2.2.1 = a
    pointwise
    blk_ext
  · refine (View.read_writes_cons_unit_of_not_mem _ _ _ _ _ j rfl 0 (by simp; omega)).trans ?_
    by_cases h0 : (j 0 : ℕ) = 0
    · refine (View.read_writes_cons_unit_of_mem _ _ _ _ _ j x rfl (fun a => by fin_cases a <;> simp <;> omega)).trans ?_
      refine (pv0 _ _ _ _ _ x j h0 (by omega)).trans (congrArg₂ (· + ·) ?_ rfl)
      generalize (outsAt0 m c (t.val - 1) _).2.2.1 = a
      pointwise
      blk_ext
    · refine (View.read_writes_cons_unit_of_not_mem _ _ _ _ _ j rfl 0 (by simp; omega)).trans ?_
      rw [pv_rest _ _ _ _ j (by omega), add_zero]
      exact congrFun (Memref.IsWhole.read_unread _ _) j

theorem stepA6 (c : Dev nD) (t : Fin cfg0.N) (h : t.val % 13 = 0) (j : S8x512.Idx) : (outsAt0 m c t.val t.isLt).2.2.1 j
    = 0 + PARTV (iblk m c 0 t) (iblk m c 1 t) (iblk m c 2 t) (iblk m c 3 t) j := by
  rw [outsAt0_A m c t h]
  frame_out
  repeat first | rw [View.readCov_fill _ _ _ _ _ (by decide)] | rw [View.readCov_skip _ _ _ _ _ rfl]
  obtain_idx x : S1x512 := [0, (j 1 : ℕ)] with hx
  by_cases h1 : (j 0 : ℕ) = 1
  · have e : j = (RV 1 (by decide)).emb x := by blk_ext
    refine (congrArg _ e).trans ((View.canon_cons_emb ..).trans ?_)
    refine (pv1 _ _ _ _ _ x j h1 (by omega)).trans (congrArg₂ (· + ·) ?_ rfl)
    pointwise [k0_pay4]
  · rw [View.canon_cons_of_not_mem _ _ (by
      mem_blk
      intro hm
      have h2 : 1 ≤ (j 0 : ℕ) ∧ (j 0 : ℕ) < 1 + 1 := hm 0
      omega)]
    by_cases h0 : (j 0 : ℕ) = 0
    · have e : j = (RV 0 (by decide)).emb x := by blk_ext
      refine (congrArg _ e).trans ((View.canon_cons_emb ..).trans ?_)
      refine (pv0 _ _ _ _ _ x j h0 (by omega)).trans (congrArg₂ (· + ·) ?_ rfl)
      pointwise [k0_pay4]
    · rw [View.canon_cons_of_not_mem _ _ (by
        mem_blk
        intro hm
        have h2 : 0 ≤ (j 0 : ℕ) ∧ (j 0 : ℕ) < 0 + 1 := hm 0
        omega), pv_rest _ _ _ _ j (by omega)]
      rw [View.canon_cons_unit_lit _ _ _ (by decide)]
      pointwise [k0_pay4]

theorem v192_sum (c : Dev nD) (i : Fin 8) (k : Fin 512) : val_main_v192 (F := Ideal) (A0 m c) (A1 m c) (A2 m c) (A3 m c) (A4 m c) (ix2 i k)
    = if i.val = 0 then ∑ s : Fin cfg0.N, ∑ r : Fin 320, dyl (A0 m c) (A1 m c) (A2 m c) (A3 m c) (A4 m c) (row s r) k * PR (fl (A0 m c) (row s r)) (wl (A1 m c)) k
      else if i.val = 1 then ∑ s : Fin cfg0.N, ∑ r : Fin 320, cl (A4 m c) (row s r) k * XH (fl (A0 m c) (row s r)) (wl (A1 m c)) (sl (A2 m c)) k else 0 := by
  have e0 := v118_at (A0 m c) (A1 m c) (A2 m c) (A3 m c) (A4 m c) (gq k) (gd k)
  have e1 := v97_at (A0 m c) (A1 m c) (A2 m c) (A4 m c) k
  rw [cc_g, ← sum_rev] at e0
  rw [← sum_rev] at e1
  rw [v192_at, e0, e1]

/-- The blocks' parts together are the reference's entry. -/
theorem sum6 (c : Dev nD) (j : S8x512.Idx) : ∑ s : Fin cfg0.N, PARTV (iblk m c 0 s) (iblk m c 1 s) (iblk m c 2 s) (iblk m c 3 s) j
    = val_main_v192 (F := Ideal) (A0 m c) (A1 m c) (A2 m c) (A3 m c) (A4 m c) j := by
  have key := v192_sum m c (j 0) (j 1)
  have hj : (ix2 (j 0) (j 1) : S8x512.Idx) = j := by blk_ext
  refine Eq.trans ?_ (key.symm.trans (congrArg _ hj))
  unfold PARTV
  by_cases h0 : (j 0 : ℕ) = 0
  · simp only [if_pos h0]
    refine Finset.sum_congr rfl fun s _ => Finset.sum_congr rfl fun r _ => congrArg₂ (· * ·)
      (t14_row m c s r (j 1)) (t8_row m c s r (j 1))
  · by_cases h1 : (j 0 : ℕ) = 1
    · simp only [if_neg h0, if_pos h1]
      refine Finset.sum_congr rfl fun s _ => Finset.sum_congr rfl fun r _ => congrArg₂ (· * ·) (congrFun (c_row m c s r) _)
        (t13_row m c s r (j 1))
    · simp only [if_neg h0, if_neg h1]
      exact Finset.sum_const_zero

/-- The scale's gradient and the gain's, in the first two of eight rows. -/
theorem final6 (c : Dev nD) : (dats m 0 c).arrAt 6 cfg0.N = val_main_v192 (F := Ideal) (A0 m c) (A1 m c) (A2 m c) (A3 m c) (A4 m c) := by
  refine (dats m 0 c).arrAt_eq_of_after_last 6 t0_12 (by decide +kernel) _ fun j => ?_
  blk_simp
  rw [after0_6, Pipeline.eq_sum_fin_of_reset_step_apply_last (fun n h => (outsAt0 m c n h).2.2.1) 13 (fun _ => 0) _
    (stepA6 m c) (stepB6 m c) (le_of_eq N_0) t0_12 rfl j, zero_add]
  exact sum6 m c j

end Cert.PoolBwdIdeal.Sums
-- ==== Proof.PoolBwd.Equation.lean ====
/-
  The gradient of the pooling mixer: the kernel's run ends with the reference's three arrays.
-/
module

public import proofs.«01_k».proof.Proof.PoolBwd.Sums
public import proofs.«01_k».proof.Proof.Gen.PoolBwdRefIdeal.Run
public import proofs.«01_k».proof.Defs

@[expose] public section

set_option maxRecDepth 16384

noncomputable section

namespace Cert.PoolBwdIdeal.Equation

open Cert.PoolBwdIdeal Cert.PoolBwdIdeal.Gen Idealize.ShloMosaic Idealize.ShloMosaic.TcCoe Idealize.SL.Sem
open Cert.PoolBwdRefIdeal.Read Cert.PoolBwdIdeal.Link Cert.PoolBwdIdeal.Sums Cert.Norm

/-- Started on the same arguments, the matrices, the scale, the gain and the output's gradient finite, the kernel and the reference
    end with the same three gradients. -/
theorem algebraic [Cert.Pre_pool_bwd_finite.Facts] : Cert.algebraic_PoolBwdIdeal_PoolBwdRefIdeal_pre_pool_bwd_finite := by
  intro m g m' g' hp ha
  have hf : ∀ c : Dev nD, (∀ i, Fin' (A1 m c i)) ∧ (∀ i, Fin' (A2 m c i)) ∧ (∀ i, Fin' (A3 m c i)) ∧ ∀ i, Fin' (A4 m c i) := fun c => by
    obtain ⟨p1, p2, p3, p4⟩ := hp c
    exact ⟨fun i => fin_of_lt _ (congrFun p1 i), fun i => fin_of_lt _ (congrFun p2 i), fun i => fin_of_lt _ (congrFun p3 i),
      fun i => fin_of_lt _ (congrFun p4 i)⟩
  refine ⟨fun c => val_main_v188 (F := Ideal) (A0 m c) (A1 m c) (A2 m c) (A3 m c) (A4 m c),
    fun c => val_main_v123 (F := Ideal) (A0 m c) (A1 m c) (A2 m c) (A3 m c) (A4 m c),
    fun c => val_main_v192 (F := Ideal) (A0 m c) (A1 m c) (A2 m c) (A3 m c) (A4 m c), ?_, ?_⟩
  · refine (θ_run _ _ _).mono (fun r h c => ?_) (Cert.PoolBwdIdeal.Value.run_blocks m g)
    obtain ⟨f1, f2, f3, f4⟩ := hf c
    obtain ⟨h0, h1, h2, hr⟩ := h c
    exact ⟨h0.trans (final4 m c f1 f2 f3 f4), h1.trans (final5 m c), h2.trans (final6 m c), hr⟩
  · refine (θ_run _ _ _).mono (fun r h c => ?_) (Cert.PoolBwdRefIdeal.Value.run (F := Ideal) m' g')
    obtain ⟨e0, e1, e2, e3, e4⟩ := ha c
    obtain ⟨h0, h1, h2, hr⟩ := h c
    refine ⟨h0.trans ((val_main_v188_eq (StableHlo.launchContents m' c)).trans ?_), h1.trans ((val_main_v123_eq (StableHlo.launchContents m' c)).trans ?_),
      h2.trans ((val_main_v192_eq (StableHlo.launchContents m' c)).trans ?_), hr⟩
    · show val_main_v188 (F := Ideal) _ _ _ _ _ = _
      exact congr (congr (congr (congr (congrArg _ e0) e1) e2) e3) e4
    · exact congr (congr (congr (congr (congrArg _ e0) e1) e2) e3) e4
    · exact congr (congr (congr (congr (congrArg _ e0) e1) e2) e3) e4

end Cert.PoolBwdIdeal.Equation
-- ==== Proof.Real.Silu.lean ====
/-
  The gate of the feed-forward layer on the extended reals: the sigmoid by the hyperbolic tangent, and the gradient of
  `a σ(a)` in the two forms of the programs.
-/
module

public import proofs.«01_k».proof.Proof.Real.Norm

@[expose] public section

noncomputable section

namespace Cert.Silu

open Idealize.ShloMosaic Cert.Norm

theorem half : Ideal.ofBits .f32 0x3F000000#32 = ((1 / 2 : ℝ) : EReal) := by
  simp [Ideal.ofBits, Ideal.ieee, -EReal.coe_mul]; norm_num

/-- The sigmoid as the kernels write it. -/
def SIG (a : EReal) : EReal :=
  Ideal.ofBits .f32 0x3F000000#32 * Ideal.tanh (Ideal.ofBits .f32 0x3F000000#32 * a) + Ideal.ofBits .f32 0x3F000000#32

/-- The gradient of the gate's argument as the kernels write it, of the gradient `d` of the gate's value. -/
def GATE (d a : EReal) : EReal := d * (SIG a + a * SIG a * (1 - SIG a))

theorem sig_real (r : ℝ) : (1 / 2 : ℝ) * Real.tanh (1 / 2 * r) + 1 / 2 = (1 + Real.exp (-r))⁻¹ := by
  have h : Real.exp (-r) = Real.exp (-(1 / 2 * r)) * Real.exp (-(1 / 2 * r)) := by
    rw [← Real.exp_add]; congr 1; ring
  have he : Real.exp (-(1 / 2 * r)) = (Real.exp (1 / 2 * r))⁻¹ := Real.exp_neg _
  have hp : 0 < Real.exp (1 / 2 * r) := Real.exp_pos _
  rw [Real.tanh_eq_sinh_div_cosh, Real.sinh_eq, Real.cosh_eq, h, he]
  generalize Real.exp (1 / 2 * r) = x at hp
  have h2 : 0 < x * x + 1 := by positivity
  field_simp
  ring

/-- The two sigmoids agree, at the infinities too. -/
theorem sig_eq (a : EReal) : SIG a = Ideal.logistic a := by
  unfold SIG
  rw [half]
  induction a using EReal.rec with
  | bot =>
    rw [EReal.coe_mul_bot_of_pos (by norm_num), Ideal.tanh_bot, Ideal.logistic_bot]
    have h : (-1 : EReal) = ((-1 : ℝ) : EReal) := by rw [EReal.coe_neg, EReal.coe_one]
    rw [h, ← EReal.coe_mul, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add, sig_real]

/-- The gradient as differentiation writes it, for a real `d`. -/
theorem gate_eq {d : EReal} (hd : Fin' d) (a : EReal) :
    GATE d a = d * Ideal.logistic a + a * d * (Ideal.logistic a * (1 - Ideal.logistic a)) := by
  obtain ⟨d, rfl⟩ := hd
  unfold GATE
  rw [sig_eq]
  induction a using EReal.rec with
  | bot => simp
  | top =>
    have h : (1 : EReal) - 1 = 0 := by rw [← EReal.coe_one, ← EReal.coe_sub, sub_self, EReal.coe_zero]
    simp [h]
  | coe r =>
    rw [Ideal.logistic_coe]
    norm_cast
    ring

end Cert.Silu
-- ==== Proof.BwdFfn.Payload.lean ====
/-
  The backward pass of the feed-forward layer: what one point of the kernel computes of its blocks, shard by shard.
-/
module

public import proofs.«01_k».proof.Proof.Gen.BwdFfnIdeal.Frame
public import proofs.«01_k».proof.Proof.Real.Silu
public import Idealize.ShloMosaic.Lib.Pipeline.ValueKit
public import Idealize.ShloMosaic.Lib.Pipeline.ReadBack

@[expose] public section

set_option maxRecDepth 16384

noncomputable section

namespace Cert.BwdFfnIdeal.Payload

open Cert.BwdFfnIdeal Cert.BwdFfnIdeal.Gen Idealize.ShloMosaic Idealize.ShloMosaic.TcCoe Idealize.SL.Sem
open Cert.Norm Cert.Silu

/-! ## One shard -/

/-- The gradient of the gated product: the row of `u` with the row of the output weight. -/
def D (u : Vec Ideal S320x1024 .bf16) (w : Vec Ideal S1x704x1024 .bf16) (r : Fin 320) (j : Fin 704) : EReal :=
  ∑ k : Fin 1024, u (ix2 r k) * w (ix3 0 j k)

/-- The gradient of the gate's argument. -/
def DA (u : Vec Ideal S320x1024 .bf16) (w : Vec Ideal S1x704x1024 .bf16) (a b : Vec Ideal S1x320x704 .bf16) (r : Fin 320) (j : Fin 704) : EReal :=
  GATE (D u w r j * b (ix3 0 r j)) (a (ix3 0 r j))

/-- The gradient of the gated factor. -/
def DB (u : Vec Ideal S320x1024 .bf16) (w : Vec Ideal S1x704x1024 .bf16) (a : Vec Ideal S1x320x704 .bf16) (r : Fin 320) (j : Fin 704) : EReal :=
  D u w r j * (a (ix3 0 r j) * SIG (a (ix3 0 r j)))

/-- The shard's part of the gradient of the normalised row. -/
def PART (u : Vec Ideal S320x1024 .bf16) (w : Vec Ideal S1x704x1024 .bf16) (a b : Vec Ideal S1x320x704 .bf16) (wg wu : Vec Ideal S1x704x1024 .bf16)
    (r : Fin 320) (k : Fin 1024) : EReal :=
  (∑ j : Fin 704, DA u w a b r j * wg (ix3 0 j k)) + ∑ j : Fin 704, DB u w a r j * wu (ix3 0 j k)

variable (u : Vec Ideal S320x1024 .bf16) (w wg wu : Vec Ideal S1x704x1024 .bf16) (a b : Vec Ideal S1x320x704 .bf16)

/-! ### The first shard -/

theorem pay8_at (i : S320x704.Idx) : k0_pay8 (F := Ideal) u w a b i = DA u w a b (i 0) (i 1) := by
  pointwise [k0_pay8, k0_pay7, k0_pay6, k0_pay5, k0_pay4, k0_pay3, DA, D, GATE, SIG]

theorem pay9_at (i : S320x704.Idx) : k0_pay9 (F := Ideal) u w a i = DB u w a (i 0) (i 1) := by
  pointwise [k0_pay9, k0_pay7, k0_pay6, k0_pay5, k0_pay4, k0_pay3, DB, D, SIG]

theorem pay10_at (i : S1x320x704.Idx) : k0_pay10 (F := Ideal) u w a b i = DA u w a b (i 1) (i 2) := by
  have f := pay8_at u w a b (ix2 (i 1) (i 2))
  unfold k0_pay10
  generalize k0_pay8 (F := Ideal) u w a b = z at *
  pointwise
  exact f

theorem pay11_at (i : S1x320x704.Idx) : k0_pay11 (F := Ideal) (k0_pay9 u w a) i = DB u w a (i 1) (i 2) := by
  have f := pay9_at u w a (ix2 (i 1) (i 2))
  generalize k0_pay9 (F := Ideal) u w a = z at *
  pointwise [k0_pay11]
  exact f

theorem pay12_at (i : S320x1024.Idx) : k0_pay12 (F := Ideal) (k0_pay8 u w a b) (k0_pay9 u w a) wg wu i = PART u w a b wg wu (i 0) (i 1) := by
  have f : ∀ j : Fin 704, _ := fun j => pay8_at u w a b (ix2 (i 0) j)
  have g : ∀ j : Fin 704, _ := fun j => pay9_at u w a (ix2 (i 0) j)
  generalize k0_pay8 (F := Ideal) u w a b = y at *
  generalize k0_pay9 (F := Ideal) u w a = z at *
  pointwise [k0_pay12, PART]
  simp only [f, g]
  rfl

/-! ### The second shard -/

theorem pay19_at (i : S320x704.Idx) : k0_pay19 (F := Ideal) (k0_pay15 a) (k0_pay16 a) (k0_pay17 (k0_pay3 u) w b) (k0_pay18 a) i
    = DA u w a b (i 0) (i 1) := by
  pointwise [k0_pay19, k0_pay18, k0_pay17, k0_pay16, k0_pay15, k0_pay14, k0_pay13, k0_pay3, DA, D, GATE, SIG]

theorem pay20_at (i : S320x704.Idx) : k0_pay20 (F := Ideal) (k0_pay13 (k0_pay3 u) w) (k0_pay16 a) i = DB u w a (i 0) (i 1) := by
  pointwise [k0_pay20, k0_pay16, k0_pay15, k0_pay14, k0_pay13, k0_pay3, DB, D, SIG]

theorem pay21_at (i : S1x320x704.Idx) : k0_pay21 (F := Ideal) (k0_pay15 a) (k0_pay16 a) (k0_pay17 (k0_pay3 u) w b) (k0_pay18 a) i
    = DA u w a b (i 1) (i 2) := by
  have f := pay19_at u w a b (ix2 (i 1) (i 2))
  unfold k0_pay21
  generalize k0_pay19 (F := Ideal) _ _ _ _ = z at *
  pointwise
  exact f

theorem pay22_at (i : S1x320x704.Idx) : k0_pay22 (F := Ideal) (k0_pay13 (k0_pay3 u) w) (k0_pay16 a) i = DB u w a (i 1) (i 2) := by
  have f := pay20_at u w a (ix2 (i 1) (i 2))
  unfold k0_pay22
  generalize k0_pay20 (F := Ideal) _ _ = z at *
  pointwise
  exact f

theorem pay23_at (acc : Vec Ideal S320x1024 .f32) (i : S320x1024.Idx) :
    k0_pay23 (F := Ideal) (k0_pay13 (k0_pay3 u) w) (k0_pay15 a) (k0_pay16 a) (k0_pay17 (k0_pay3 u) w b) (k0_pay18 a) wg wu acc i
      = acc i + PART u w a b wg wu (i 0) (i 1) := by
  have f : ∀ j : Fin 704, _ := fun j => pay19_at u w a b (ix2 (i 0) j)
  have g : ∀ j : Fin 704, _ := fun j => pay20_at u w a (ix2 (i 0) j)
  unfold k0_pay23
  generalize k0_pay19 (F := Ideal) _ _ _ _ = y at *
  generalize k0_pay20 (F := Ideal) _ _ = z at *
  pointwise [PART]
  simp only [f, g]
  rfl

/-! ### The third shard -/

theorem pay28_at (i : S320x704.Idx) : k0_pay28 (F := Ideal) (k0_pay24 (k0_pay3 u) w) (k0_pay25 a) b i = DA u w a b (i 0) (i 1) := by
  pointwise [k0_pay28, k0_pay27, k0_pay26, k0_pay25, k0_pay24, k0_pay3, DA, D, GATE, SIG]

theorem pay29_at (i : S320x704.Idx) : k0_pay29 (F := Ideal) (k0_pay24 (k0_pay3 u) w) (k0_pay25 a) i = DB u w a (i 0) (i 1) := by
  pointwise [k0_pay29, k0_pay27, k0_pay26, k0_pay25, k0_pay24, k0_pay3, DB, D, SIG]

theorem pay30_at (i : S1x320x704.Idx) : k0_pay30 (F := Ideal) (k0_pay24 (k0_pay3 u) w) (k0_pay25 a) b i = DA u w a b (i 1) (i 2) := by
  have f := pay28_at u w a b (ix2 (i 1) (i 2))
  unfold k0_pay30
  generalize k0_pay28 (F := Ideal) _ _ _ = z at *
  pointwise
  exact f

theorem pay31_at (i : S1x320x704.Idx) : k0_pay31 (F := Ideal) (k0_pay24 (k0_pay3 u) w) (k0_pay25 a) i = DB u w a (i 1) (i 2) := by
  have f := pay29_at u w a (ix2 (i 1) (i 2))
  unfold k0_pay31
  generalize k0_pay29 (F := Ideal) _ _ = z at *
  pointwise
  exact f

theorem pay33_at (acc : Vec Ideal S320x1024 .f32) (i : S320x1024.Idx) :
    k0_pay33 (F := Ideal) (k0_pay32 (k0_pay24 (k0_pay3 u) w) (k0_pay25 a) b wg wu acc) i
      = acc i + PART u w a b wg wu (i 0) (i 1) := by
  have f : ∀ j : Fin 704, _ := fun j => pay28_at u w a b (ix2 (i 0) j)
  have g : ∀ j : Fin 704, _ := fun j => pay29_at u w a (ix2 (i 0) j)
  unfold k0_pay32
  generalize k0_pay28 (F := Ideal) _ _ _ = y at *
  generalize k0_pay29 (F := Ideal) _ _ = z at *
  pointwise [k0_pay33, PART]
  simp only [f, g]
  rfl

/-! ### The fourth shard -/

theorem pay38_at (i : S320x704.Idx) : k0_pay38 (F := Ideal) (k0_pay3 u) w a b i = DA u w a b (i 0) (i 1) := by
  pointwise [k0_pay38, k0_pay37, k0_pay36, k0_pay35, k0_pay34, k0_pay3, DA, D, GATE, SIG]

theorem pay39_at (i : S320x704.Idx) : k0_pay39 (F := Ideal) (k0_pay3 u) w a i = DB u w a (i 0) (i 1) := by
  pointwise [k0_pay39, k0_pay37, k0_pay36, k0_pay35, k0_pay34, k0_pay3, DB, D, SIG]

theorem pay40_at (i : S1x320x704.Idx) : k0_pay40 (F := Ideal) (k0_pay3 u) w a b i = DA u w a b (i 1) (i 2) := by
  have f := pay38_at u w a b (ix2 (i 1) (i 2))
  unfold k0_pay40
  generalize k0_pay38 (F := Ideal) _ _ _ _ = z at *
  pointwise
  exact f

theorem pay41_at (i : S1x320x704.Idx) : k0_pay41 (F := Ideal) (k0_pay3 u) w a i = DB u w a (i 1) (i 2) := by
  have f := pay39_at u w a (ix2 (i 1) (i 2))
  unfold k0_pay41
  generalize k0_pay39 (F := Ideal) _ _ _ = z at *
  pointwise
  exact f

theorem pay42_at (acc : Vec Ideal S320x1024 .f32) (i : S320x1024.Idx) :
    k0_pay42 (F := Ideal) (k0_pay38 (k0_pay3 u) w a b) (k0_pay39 (k0_pay3 u) w a) wg wu acc i
      = acc i + PART u w a b wg wu (i 0) (i 1) := by
  have f : ∀ j : Fin 704, _ := fun j => pay38_at u w a b (ix2 (i 0) j)
  have g : ∀ j : Fin 704, _ := fun j => pay39_at u w a (ix2 (i 0) j)
  generalize k0_pay38 (F := Ideal) _ _ _ _ = y at *
  generalize k0_pay39 (F := Ideal) _ _ _ = z at *
  pointwise [k0_pay42, PART]
  simp only [f, g]
  rfl

end Cert.BwdFfnIdeal.Payload
-- ==== Proof.BwdFfn.Tile.lean ====
/-
  The backward pass of the feed-forward layer: what each point leaves in its blocks, of the blocks it finds.
-/
module

public import proofs.«01_k».proof.Proof.BwdFfn.Payload
public import Idealize.ShloMosaic.Lib.Pipeline.ValueKit.Held

@[expose] public section

set_option maxRecDepth 16384

noncomputable section

namespace Cert.BwdFfnIdeal.Tile

open Cert.BwdFfnIdeal Cert.BwdFfnIdeal.Gen Idealize.ShloMosaic Idealize.ShloMosaic.TcCoe Idealize.SL.Sem
open Cert.Norm Cert.Silu Cert.BwdFfnIdeal.Payload

variable (m : (ℓ : Loc nD τ sig) → Buf (Elt Ideal) ℓ)

/-! ## The weights stay on the chip -/

/-- One copy over the whole scratch leaves the copied array. -/
theorem copied {s : Shape} {e : EltTy} (X : s.Idx → Elt Ideal e) :
    View.canon [(⟨Rect.whole s, X⟩ : View.Piece (Elt Ideal) s e)] = X := by
  funext y
  have h : (Rect.whole s).emb y = y := by
    funext a
    exact Fin.ext (by simp [Rect.emb, Rect.whole])
  have := View.canon_cons_emb (Val := Elt Ideal) (Rect.whole s) X [] y
  rwa [h] at this

/-- A load of what that copy left is a load of the copied array. -/
theorem load_copied {sp : Space} {s : Shape} {e : EltTy} (v : View sig .tc sp s e) (X : s.Idx → Elt Ideal e) (r : Rect s) :
    v.readCov [(⟨Rect.whole s, X⟩ : View.Piece (Elt Ideal) s e)] r.toLoadRect = View.ld X r := by
  rw [View.readCov_eq_canon_ld _ _ _ (fun y => ⟨_, List.mem_cons_self, by
    rw [Rect.set_whole]
    exact Finset.mem_univ _⟩), copied]

theorem held0 (c : Dev nD) (t : Fin cfg0.N) : (outsAt0 m c t.val t.isLt).2.2.2.2.1 = V m c main_v24 := by
  refine Pipeline.eq_of_write_hold (fun n h => (outsAt0 m c n h).2.2.2.2.1) 13 (fun _ => V m c main_v24) (fun t h => ?_) (fun t h => ?_) t
  · rw [outsAt0_A m c t h]
    frame_out
    exact copied _
  · rw [outsAt0_B m c t h]
    dsimp only
    unfold sout0_B_0
    rfl

theorem held1 (c : Dev nD) (t : Fin cfg0.N) : (outsAt0 m c t.val t.isLt).2.2.2.2.2.1 = V m c main_v26 := by
  refine Pipeline.eq_of_write_hold (fun n h => (outsAt0 m c n h).2.2.2.2.2.1) 13 (fun _ => V m c main_v26) (fun t h => ?_) (fun t h => ?_) t
  · rw [outsAt0_A m c t h]
    frame_out
    exact copied _
  · rw [outsAt0_B m c t h]
    dsimp only
    unfold sout0_B_1
    rfl

theorem held2 (c : Dev nD) (t : Fin cfg0.N) : (outsAt0 m c t.val t.isLt).2.2.2.2.2.2 = V m c main_v28 := by
  refine Pipeline.eq_of_write_hold (fun n h => (outsAt0 m c n h).2.2.2.2.2.2) 13 (fun _ => V m c main_v28) (fun t h => ?_) (fun t h => ?_) t
  · rw [outsAt0_A m c t h]
    frame_out
    exact copied _
  · rw [outsAt0_B m c t h]
    dsimp only
    unfold sout0_B_2
    rfl

/-! ## The point's stores -/

/-- Shard `q` of a weight, and of a block of the two products. -/
abbrev RW (q : ℕ) (h : q < 4) : Rect S4x704x1024 := Rect.unit (s := S4x704x1024) ![q, 0, 0] S1x704x1024.size (by
  intro a
  fin_cases a <;> simp <;> omega)

abbrev RA (q : ℕ) (h : q < 4) : Rect S4x320x704 := Rect.unit (s := S4x320x704) ![q, 0, 0] S1x320x704.size (by
  intro a
  fin_cases a <;> simp <;> omega)

/-- What a point leaves of the gradient of the gate's argument. -/
def OUTA (u : Vec Ideal S320x1024 .bf16) (w : Vec Ideal S4x704x1024 .bf16) (a b : Vec Ideal S4x320x704 .bf16) (y : S4x320x704.Idx) : EReal :=
  GATE ((∑ k : Fin 1024, u (ix2 (y 1) k) * w (ix3 (y 0) (y 2) k)) * b y) (a y)

def OUTB (u : Vec Ideal S320x1024 .bf16) (w : Vec Ideal S4x704x1024 .bf16) (a : Vec Ideal S4x320x704 .bf16) (y : S4x320x704.Idx) : EReal :=
  (∑ k : Fin 1024, u (ix2 (y 1) k) * w (ix3 (y 0) (y 2) k)) * (a y * SIG (a y))

theorem outA_of (u : Vec Ideal S320x1024 .bf16) (w : Vec Ideal S4x704x1024 .bf16) (a b : Vec Ideal S4x320x704 .bf16) (q : ℕ) (h : q < 4)
    (x : S1x320x704.Idx) (y : S4x320x704.Idx) (h0 : (y 0 : ℕ) = q) (h1 : (y 1 : ℕ) = x 1) (h2 : (y 2 : ℕ) = x 2) :
    DA u (View.ld w (RW q h)) (View.ld a (RA q h)) (View.ld b (RA q h)) (x 1) (x 2) = OUTA u w a b y := by
  obtain rfl : y = ix3 ⟨q, h⟩ (x 1) (x 2) := by blk_ext
  pointwise [DA, D, OUTA]

theorem stores6 (u : Vec Ideal S320x1024 .bf16) (w : Vec Ideal S4x704x1024 .bf16) (a b : Vec Ideal S4x320x704 .bf16) (y : S4x320x704.Idx) :
    View.canon (Val := Elt Ideal) (s := S4x320x704) (e := .bf16)
      [⟨RA 3 (by decide), k0_pay40 (F := Ideal) (k0_pay3 u) (View.ld w (RW 3 (by decide))) (View.ld a (RA 3 (by decide))) (View.ld b (RA 3 (by decide)))⟩,
        ⟨RA 2 (by decide), k0_pay30 (k0_pay24 (k0_pay3 u) (View.ld w (RW 2 (by decide)))) (k0_pay25 (View.ld a (RA 2 (by decide)))) (View.ld b (RA 2 (by decide)))⟩,
        ⟨RA 1 (by decide), k0_pay21 (k0_pay15 (View.ld a (RA 1 (by decide)))) (k0_pay16 (View.ld a (RA 1 (by decide))))
          (k0_pay17 (k0_pay3 u) (View.ld w (RW 1 (by decide))) (View.ld b (RA 1 (by decide)))) (k0_pay18 (View.ld a (RA 1 (by decide))))⟩,
        ⟨RA 0 (by decide), k0_pay10 u (View.ld w (RW 0 (by decide))) (View.ld a (RA 0 (by decide))) (View.ld b (RA 0 (by decide)))⟩] y
      = OUTA u w a b y := by
  canon_tiles x h
  · rw [pay40_at]
    refine outA_of u w a b 3 (by decide) x _ ?_ ?_ ?_ <;> omega
  · rw [pay30_at]
    refine outA_of u w a b 2 (by decide) x _ ?_ ?_ ?_ <;> omega
  · rw [pay21_at]
    refine outA_of u w a b 1 (by decide) x _ ?_ ?_ ?_ <;> omega
  · rw [pay10_at]
    refine outA_of u w a b 0 (by decide) x _ ?_ ?_ ?_ <;> omega

theorem outB_of (u : Vec Ideal S320x1024 .bf16) (w : Vec Ideal S4x704x1024 .bf16) (a : Vec Ideal S4x320x704 .bf16) (q : ℕ) (h : q < 4)
    (x : S1x320x704.Idx) (y : S4x320x704.Idx) (h0 : (y 0 : ℕ) = q) (h1 : (y 1 : ℕ) = x 1) (h2 : (y 2 : ℕ) = x 2) :
    DB u (View.ld w (RW q h)) (View.ld a (RA q h)) (x 1) (x 2) = OUTB u w a y := by
  obtain rfl : y = ix3 ⟨q, h⟩ (x 1) (x 2) := by blk_ext
  pointwise [DB, D, OUTB]

theorem stores7 (u : Vec Ideal S320x1024 .bf16) (w : Vec Ideal S4x704x1024 .bf16) (a : Vec Ideal S4x320x704 .bf16) (y : S4x320x704.Idx) :
    View.canon (Val := Elt Ideal) (s := S4x320x704) (e := .bf16)
      [⟨RA 3 (by decide), k0_pay41 (F := Ideal) (k0_pay3 u) (View.ld w (RW 3 (by decide))) (View.ld a (RA 3 (by decide)))⟩,
        ⟨RA 2 (by decide), k0_pay31 (k0_pay24 (k0_pay3 u) (View.ld w (RW 2 (by decide)))) (k0_pay25 (View.ld a (RA 2 (by decide))))⟩,
        ⟨RA 1 (by decide), k0_pay22 (k0_pay13 (k0_pay3 u) (View.ld w (RW 1 (by decide)))) (k0_pay16 (View.ld a (RA 1 (by decide))))⟩,
        ⟨RA 0 (by decide), k0_pay11 (k0_pay9 u (View.ld w (RW 0 (by decide))) (View.ld a (RA 0 (by decide))))⟩] y
      = OUTB u w a y := by
  canon_tiles x h
  · rw [pay41_at]
    refine outB_of u w a 3 (by decide) x _ ?_ ?_ ?_ <;> omega
  · rw [pay31_at]
    refine outB_of u w a 2 (by decide) x _ ?_ ?_ ?_ <;> omega
  · rw [pay22_at]
    refine outB_of u w a 1 (by decide) x _ ?_ ?_ ?_ <;> omega
  · rw [pay11_at]
    refine outB_of u w a 0 (by decide) x _ ?_ ?_ ?_ <;> omega

/-! ## The gradient of the normalised row -/

/-- What the point's fourth shard leaves in the sum over the shards. -/
abbrev ACC (u : Vec Ideal S320x1024 .bf16) (w wg wu : Vec Ideal S4x704x1024 .bf16) (a b : Vec Ideal S4x320x704 .bf16) : FVec Ideal S320x1024 .f32 :=
  k0_pay42 (F := Ideal) (k0_pay38 (k0_pay3 u) (View.ld w (RW 3 (by decide))) (View.ld a (RA 3 (by decide))) (View.ld b (RA 3 (by decide)))) (k0_pay39 (k0_pay3 u) (View.ld w (RW 3 (by decide))) (View.ld a (RA 3 (by decide))))
    (View.ld wg (RW 3 (by decide))) (View.ld wu (RW 3 (by decide)))
    (k0_pay33 (k0_pay32 (k0_pay24 (k0_pay3 u) (View.ld w (RW 2 (by decide)))) (k0_pay25 (View.ld a (RA 2 (by decide)))) (View.ld b (RA 2 (by decide))) (View.ld wg (RW 2 (by decide))) (View.ld wu (RW 2 (by decide)))
      (k0_pay23 (k0_pay13 (k0_pay3 u) (View.ld w (RW 1 (by decide)))) (k0_pay15 (View.ld a (RA 1 (by decide)))) (k0_pay16 (View.ld a (RA 1 (by decide))))
        (k0_pay17 (k0_pay3 u) (View.ld w (RW 1 (by decide))) (View.ld b (RA 1 (by decide)))) (k0_pay18 (View.ld a (RA 1 (by decide)))) (View.ld wg (RW 1 (by decide))) (View.ld wu (RW 1 (by decide)))
        (k0_pay12 (k0_pay8 u (View.ld w (RW 0 (by decide))) (View.ld a (RA 0 (by decide))) (View.ld b (RA 0 (by decide)))) (k0_pay9 u (View.ld w (RW 0 (by decide))) (View.ld a (RA 0 (by decide)))) (View.ld wg (RW 0 (by decide))) (View.ld wu (RW 0 (by decide)))))))

/-- One shard's part. -/
def PARTQ (u : Vec Ideal S320x1024 .bf16) (w wg wu : Vec Ideal S4x704x1024 .bf16) (a b : Vec Ideal S4x320x704 .bf16) (q : Fin 4) (r : Fin 320) (k : Fin 1024) : EReal :=
  (∑ j : Fin 704, OUTA u w a b (ix3 q r j) * wg (ix3 q j k)) + ∑ j : Fin 704, OUTB u w a (ix3 q r j) * wu (ix3 q j k)

theorem part_of (u : Vec Ideal S320x1024 .bf16) (w wg wu : Vec Ideal S4x704x1024 .bf16) (a b : Vec Ideal S4x320x704 .bf16) (q : ℕ) (h : q < 4) (r : Fin 320) (k : Fin 1024) :
    PART u (View.ld w (RW q h)) (View.ld a (RA q h)) (View.ld b (RA q h)) (View.ld wg (RW q h)) (View.ld wu (RW q h)) r k
      = PARTQ u w wg wu a b ⟨q, h⟩ r k := by
  have f : ∀ j : Fin 704, _ := fun j => outA_of u w a b q h (ix3 0 r j) (ix3 ⟨q, h⟩ r j) rfl rfl rfl
  have g : ∀ j : Fin 704, _ := fun j => outB_of u w a q h (ix3 0 r j) (ix3 ⟨q, h⟩ r j) rfl rfl rfl
  have e : ∀ (v : Vec Ideal S4x704x1024 .bf16) (j : Fin 704), View.ld v (RW q h) (ix3 0 j k) = v (ix3 ⟨q, h⟩ j k) := fun v j => by
    pointwise
  unfold PART PARTQ
  refine congrArg₂ (· + ·) (Finset.sum_congr rfl fun j _ => ?_) (Finset.sum_congr rfl fun j _ => ?_)
  · rw [← f j, ← e wg j]
    rfl
  · rw [← g j, ← e wu j]
    rfl

/-- The sum over the shards. -/
theorem acc_at (u : Vec Ideal S320x1024 .bf16) (w wg wu : Vec Ideal S4x704x1024 .bf16) (a b : Vec Ideal S4x320x704 .bf16) (i : S320x1024.Idx) :
    ACC u w wg wu a b i = ∑ q : Fin 4, PARTQ u w wg wu a b q (i 0) (i 1) := by
  rw [Fin.sum_univ_four]
  unfold ACC
  rw [pay42_at, pay33_at, pay23_at, pay12_at]
  exact congrArg₂ (· + ·) (congrArg₂ (· + ·) (congrArg₂ (· + ·) (part_of u w wg wu a b 0 (by decide) (i 0) (i 1))
    (part_of u w wg wu a b 1 (by decide) (i 0) (i 1))) (part_of u w wg wu a b 2 (by decide) (i 0) (i 1)))
    (part_of u w wg wu a b 3 (by decide) (i 0) (i 1))

/-! ## The point's blocks after its body -/

section

variable (c : Dev nD) (t : Fin cfg0.N)

theorem after6 (y : S4x320x704.Idx) : (outsAt0 m c t.val t.isLt).1 y = OUTA (iblk m c 1 t) (V m c main_v28) (iblk m c 2 t) (iblk m c 3 t) y := by
  rw [← stores6]
  by_cases h : t.val % 13 = 0
  · rw [outsAt0_A m c t h]
    frame_out
    simp only [load_copied]
    rfl
  · rw [outsAt0_B m c t h]
    have e2 := held2 m c ⟨t.val - 1, by omega⟩
    dsimp only at e2
    dsimp only
    rewrite [e2]
    frame_out
    simp only [read_unread_whole]

theorem after7 (y : S4x320x704.Idx) : (outsAt0 m c t.val t.isLt).2.1 y = OUTB (iblk m c 1 t) (V m c main_v28) (iblk m c 2 t) y := by
  rw [← stores7]
  by_cases h : t.val % 13 = 0
  · rw [outsAt0_A m c t h]
    frame_out
    simp only [load_copied]
    rfl
  · rw [outsAt0_B m c t h]
    have e2 := held2 m c ⟨t.val - 1, by omega⟩
    dsimp only at e2
    dsimp only
    rewrite [e2]
    frame_out
    simp only [read_unread_whole]

/-- The point's gradient of the normalised rows. -/
abbrev dn (c : Dev nD) (t : Fin cfg0.N) : FVec Ideal S320x1024 .f32 :=
  ACC (iblk m c 1 t) (V m c main_v28) (V m c main_v24) (V m c main_v26) (iblk m c 2 t) (iblk m c 3 t)

theorem after8 (y : S320x1024.Idx) : (outsAt0 m c t.val t.isLt).2.2.1 y
    = k0_pay1 (F := Ideal) (k0_pay43 (iblk m c 4 t)) (k0_pay44 (iblk m c 4 t)) (dn m c t) (iblk m c 0 t) (iblk m c 5 t) y := by
  by_cases h : t.val % 13 = 0
  · rw [outsAt0_A m c t h]
    frame_out
    simp only [load_copied]
    rfl
  · rw [outsAt0_B m c t h]
    have e0 := held0 m c ⟨t.val - 1, by omega⟩
    have e1 := held1 m c ⟨t.val - 1, by omega⟩
    have e2 := held2 m c ⟨t.val - 1, by omega⟩
    dsimp only at e0 e1 e2
    dsimp only
    rewrite [e0, e1, e2]
    frame_out
    simp only [read_unread_whole]

theorem stepB9 (h : ¬ t.val % 13 = 0) (y : S1x1024.Idx) : (outsAt0 m c t.val t.isLt).2.2.2.1 y
    = k0_pay45 (F := Ideal) (iblk m c 4 t) (dn m c t) (outsAt0 m c (t.val - 1) (by omega)).2.2.2.1 y := by
  rw [outsAt0_B m c t h]
  have e0 := held0 m c ⟨t.val - 1, by omega⟩
  have e1 := held1 m c ⟨t.val - 1, by omega⟩
  have e2 := held2 m c ⟨t.val - 1, by omega⟩
  dsimp only at e0 e1 e2
  dsimp only
  rewrite [e0, e1, e2]
  frame_out
  simp only [read_unread_whole]

theorem stepA9 (h : t.val % 13 = 0) (y : S1x1024.Idx) : (outsAt0 m c t.val t.isLt).2.2.2.1 y
    = k0_pay45 (F := Ideal) (iblk m c 4 t) (dn m c t) (k0_pay2 (F := Ideal)) y := by
  rw [outsAt0_A m c t h]
  frame_out
  simp only [load_copied]
  rfl

end

end Cert.BwdFfnIdeal.Tile
-- ==== Proof.BwdFfn.Entry.lean ====
/-
  The backward pass of the feed-forward layer: the arrays that the kernel finds when it starts, by entries.
-/
module

public import proofs.«01_k».proof.Proof.Gen.BwdFfnIdeal.Frame
public import proofs.«01_k».proof.Proof.Gen.BwdFfnRefIdeal.Read
public import Idealize.ShloMosaic.Lib.Pipeline.ValueKit
public import Idealize.ShloMosaic.Lib.StableHlo.ReadAt

@[expose] public section

set_option maxRecDepth 16384

noncomputable section

namespace Cert.BwdFfnIdeal.Entry

open Cert.BwdFfnIdeal Cert.BwdFfnIdeal.Gen Idealize.ShloMosaic Idealize.ShloMosaic.TcCoe Idealize.SL.Sem
open Cert.BwdFfnRefIdeal.Read

variable (m : (ℓ : Loc nD τ sig) → Buf (Elt Ideal) ℓ)

/-- The column that entry `j` of shard `q` stands for. -/
abbrev col (q : Fin 4) (j : Fin 704) : Fin 2816 := ⟨q.val * 704 + j.val, by omega⟩

/-- A matrix whose columns are cut into four shards. -/
def COLS (x : FVec Ideal S4160x2816 .f32) : FVec Ideal S4x4160x704 .bf16 := fun i => x (ix2 (i 1) (col (i 0) (i 2)))

theorem cols_eq (x : FVec Ideal S4160x2816 .f32) :
    truncf .bf16 (transpose S4x4160x704 [1, 0, 2] (shapeCast S4160x4x704 x shapeCasts_S4160x2816_S4160x4x704)
      transposes_S4160x4x704_S4x4160x704_1_0_2) bitsLt_bf16_f32 = COLS x := by
  funext i
  pointwise [COLS]

theorem entry_a (c : Dev nD) : (V m c main_v15 : FVec Ideal S4x4160x704 .bf16)
    = COLS (val_main_v12 (F := Ideal) (m ((c : Thread nD τ).loc main_arg0)) (m ((c : Thread nD τ).loc main_arg1)) (m ((c : Thread nD τ).loc main_arg2))) := by
  unfold V
  after_reads_simp
  exact cols_eq (val_main_v12 (F := Ideal) _ _ _)

theorem entry_b (c : Dev nD) : (V m c main_v19 : FVec Ideal S4x4160x704 .bf16)
    = COLS (val_main_v13 (F := Ideal) (m ((c : Thread nD τ).loc main_arg0)) (m ((c : Thread nD τ).loc main_arg1)) (m ((c : Thread nD τ).loc main_arg3))) := by
  unfold V
  after_reads_simp
  exact cols_eq (val_main_v13 (F := Ideal) _ _ _)

theorem entry_dh2 (c : Dev nD) : (V m c main_v20 : FVec Ideal S4160x1024 .bf16) = m ((c : Thread nD τ).loc main_arg5) := by
  unfold V
  after_reads_simp
  rfl

theorem entry_wg (c : Dev nD) (i : S4x704x1024.Idx) : V m c main_v24 i = m ((c : Thread nD τ).loc main_arg2) (ix2 (i 2) (col (i 0) (i 1))) := by
  unfold V
  after_reads_simp
  pointwise

theorem entry_wu (c : Dev nD) (i : S4x704x1024.Idx) : V m c main_v26 i = m ((c : Thread nD τ).loc main_arg3) (ix2 (i 2) (col (i 0) (i 1))) := by
  unfold V
  after_reads_simp
  pointwise

theorem entry_wd (c : Dev nD) (i : S4x704x1024.Idx) : V m c main_v28 i = m ((c : Thread nD τ).loc main_arg4) (ix2 (col (i 0) (i 1)) (i 2)) := by
  unfold V
  after_reads_simp
  pointwise

end Cert.BwdFfnIdeal.Entry
-- ==== Proof.BwdFfn.Ref.lean ====
/-
  The backward pass of the feed-forward layer: the reference's arrays, by entries.
-/
module

public import proofs.«01_k».proof.Proof.Gen.BwdFfnRefIdeal.Read
public import proofs.«01_k».proof.Proof.Real.Silu

@[expose] public section

set_option maxRecDepth 16384

noncomputable section

namespace Cert.BwdFfnIdeal.Ref

open Cert.BwdFfnRefIdeal Idealize.ShloMosaic Idealize.ShloMosaic.TcCoe Idealize.SL.Sem
open Cert.BwdFfnRefIdeal.Read Cert.Norm Cert.Silu

abbrev NN : EReal := Ideal.ofBits .f32 0x44800000#32
abbrev EE : EReal := Ideal.ofBits .f32 0x358637BD#32

/-- Row `r` of an array of rows. -/
def ROW (h : FVec Ideal S4160x1024 .f32) (r : Fin 4160) (k : Fin 1024) : EReal := h (ix2 r k)

variable (x0 : FVec Ideal S4160x1024 .f32) (x1 : FVec Ideal S1x1024 .f32) (x2 x3 : FVec Ideal S1024x2816 .f32)
  (x4 : FVec Ideal S2816x1024 .f32) (x5 : FVec Ideal S4160x1024 .f32)

/-- The gradient of the gate's argument, and of the gated factor. -/
def GA (e : S4160x2816.Idx) : EReal :=
  GATE (val_main_v17 (F := Ideal) x4 x5 e * val_main_v13 (F := Ideal) x0 x1 x3 e) (val_main_v12 (F := Ideal) x0 x1 x2 e)

def GB (e : S4160x2816.Idx) : EReal :=
  val_main_v17 (F := Ideal) x4 x5 e * (val_main_v12 (F := Ideal) x0 x1 x2 e * SIG (val_main_v12 (F := Ideal) x0 x1 x2 e))

theorem sig_at (e : S4160x2816.Idx) : val_main_v14_2 (F := Ideal) x0 x1 x2 e = Ideal.logistic (val_main_v12 (F := Ideal) x0 x1 x2 e) := by
  generalize hA : val_main_v12 (F := Ideal) x0 x1 x2 = A
  rw [val_main_v14_2_apply, val_main_call0_v3_apply, val_main_call0_v1_apply, val_main_call0_v0_apply, hA]
  pointwise [val_main_call0_v4, val_main_call0_cst_0, val_main_call0_v2, val_main_call0_cst]
  rfl

theorem v18_at (e : S4160x2816.Idx) : val_main_v18 (F := Ideal) x0 x1 x2 x4 x5 e = GB x0 x1 x2 x4 x5 e := by
  unfold GB
  rw [val_main_v18_apply, val_main_v14_0_apply, sig_at, sig_eq]
  exact mul_comm _ _

theorem v20_at (e : S4160x2816.Idx) (h : Fin' (val_main_v17 (F := Ideal) x4 x5 e * val_main_v13 (F := Ideal) x0 x1 x3 e)) :
    val_main_v20 (F := Ideal) x0 x1 x2 x3 x4 x5 e = GA x0 x1 x2 x3 x4 x5 e := by
  unfold GA
  rw [gate_eq h, val_main_v20_apply, val_main_call1_v1_apply, val_main_call1_v2_apply, val_main_call1_v0_apply, val_main_v19_apply,
    val_main_v14_1_apply, val_main_call0_v7_apply, sig_at]
  have h1 : val_main_call0_v6 (F := Ideal) e = 1 := by
    pointwise [val_main_call0_v6, val_main_call0_cst_1]
  rw [h1]
  rfl

/-! ## The second copy -/

theorem v42_eq : val_main_v42 (F := Ideal) x5 = x5 := by
  funext e
  pointwise [val_main_v42]

theorem v43_eq : val_main_v43 (F := Ideal) x4 x5 = val_main_v17 x4 x5 := by
  unfold val_main_v43
  rw [v42_eq]
  rfl

theorem v44_eq : val_main_v44 (F := Ideal) x0 x1 x2 x4 x5 = val_main_v18 x0 x1 x2 x4 x5 := by
  unfold val_main_v44
  rw [v43_eq]
  rfl

theorem v47_eq : val_main_v47 (F := Ideal) x0 x1 x2 x3 x4 x5 = val_main_v20 x0 x1 x2 x3 x4 x5 := by
  unfold val_main_v47 val_main_call3_v1 val_main_call3_v2 val_main_call3_v0 val_main_v45
  rw [v43_eq]
  rfl

/-! ## The finite factor -/

section Fin
variable (h1 : ∀ i, Fin' (x1 i)) (h3 : ∀ i, Fin' (x3 i)) (h4 : ∀ i, Fin' (x4 i)) (h5 : ∀ i, Fin' (x5 i))
include h1 in
/-- The normalised row times a finite gain is finite, whatever the row. -/
theorem v11_fin (e : S4160x1024.Idx) : Fin' (val_main_v11 (F := Ideal) x0 x1 e) := by
  have h : val_main_v11 (F := Ideal) x0 x1 e = ROW x0 (e 0) (e 1) * Ideal.rsqrt (SQ NN EE (ROW x0 (e 0))) * x1 (ix2 0 (e 1)) := by
    pointwise [val_main_v11, val_main_v10, val_main_v9, val_main_v8, val_main_v7, val_main_v6, val_main_v5, val_main_cst_1, val_main_v4,
      val_main_v3, val_main_cst_0, val_main_v2, val_main_v1, val_main_cst, val_main_v0, SQ, ROW]
  obtain ⟨e', he', he⟩ := eps_pos
  rw [h]
  exact Fin'.mul (norm_fin n1024 he (by norm_num) he' _ _) (h1 _)

include h1 h3 in
theorem v13_fin (e : S4160x2816.Idx) : Fin' (val_main_v13 (F := Ideal) x0 x1 x3 e) := by
  rw [val_main_v13_apply]
  exact Fin'.sum _ _ fun k => Fin'.mul (v11_fin x0 x1 h1 _) (h3 _)

include h4 h5 in
theorem v17_fin (e : S4160x2816.Idx) : Fin' (val_main_v17 (F := Ideal) x4 x5 e) := by
  rw [val_main_v17_apply]
  exact Fin'.sum _ _ fun k => Fin'.mul (h5 _) (h4 _)

include h1 h3 h4 h5 in
theorem v20_eq : val_main_v20 (F := Ideal) x0 x1 x2 x3 x4 x5 = GA x0 x1 x2 x3 x4 x5 :=
  funext fun e => v20_at x0 x1 x2 x3 x4 x5 e (Fin'.mul (v17_fin x4 x5 h4 h5 e) (v13_fin x0 x1 x3 h1 h3 e))
end Fin

theorem v18_eq : val_main_v18 (F := Ideal) x0 x1 x2 x4 x5 = GB x0 x1 x2 x4 x5 :=
  funext fun e => v18_at x0 x1 x2 x4 x5 e

/-! ## The gradient of the normalised input -/

/-- At row `r`, column `k`, from the two gradients `a` and `b`: the two products with the weights' rows. -/
def DN (a b : S4160x2816.Idx → EReal) (x2 x3 : FVec Ideal S1024x2816 .f32) (r : Fin 4160) (k : Fin 1024) : EReal :=
  (∑ n : Fin 2816, a (ix2 r n) * x2 (ix2 k n)) + ∑ n : Fin 2816, b (ix2 r n) * x3 (ix2 k n)

/-- The same times the gain. -/
def DX (a b : S4160x2816.Idx → EReal) (x2 x3 : FVec Ideal S1024x2816 .f32) (g : FVec Ideal S1x1024 .f32) (r : Fin 4160) (k : Fin 1024) : EReal :=
  DN a b x2 x3 r k * g (ix2 0 k)

theorem v49_at (e : S4160x1024.Idx) : val_main_v49 (F := Ideal) x0 x1 x2 x3 x4 x5 e
    = DN (val_main_v20 (F := Ideal) x0 x1 x2 x3 x4 x5) (val_main_v18 (F := Ideal) x0 x1 x2 x4 x5) x2 x3 (e 0) (e 1) := by
  rw [val_main_v49_apply, val_main_v46_apply, val_main_v48_apply, v44_eq, v47_eq]
  generalize val_main_v20 (F := Ideal) x0 x1 x2 x3 x4 x5 = a
  generalize val_main_v18 (F := Ideal) x0 x1 x2 x4 x5 = b
  unfold DN
  refine (add_comm _ _).trans ?_
  congr 1
  all_goals refine Finset.sum_congr rfl fun j _ => ?_
  all_goals blk_point []

theorem v28_at (e : S4160x1.Idx) : val_main_v28 (F := Ideal) x0 e = Ideal.rsqrt (SQ NN EE (ROW x0 (e 0))) := by
  pointwise [val_main_v28, val_main_v27, val_main_v26, val_main_cst_4, val_main_v25, val_main_v24, val_main_cst_3, val_main_v23,
    val_main_v22, val_main_cst_2, val_main_v21, SQ, ROW]

theorem v27_at (e : S4160x1.Idx) : val_main_v27 (F := Ideal) x0 e = SQ NN EE (ROW x0 (e 0)) := by
  pointwise [val_main_v27, val_main_v26, val_main_cst_4, val_main_v25, val_main_v24, val_main_cst_3, val_main_v23,
    val_main_v22, val_main_cst_2, val_main_v21, SQ, ROW]

theorem v33_at (e : S4160x1024.Idx) :
    val_main_v33 (F := Ideal) x0 e = ROW x0 (e 0) (e 1) * Ideal.rsqrt (SQ NN EE (ROW x0 (e 0))) := by
  have e2 := v28_at x0 (ix2 (e 0) (0 : Fin 1))
  have f0 : x0 e = ROW x0 (e 0) (e 1) := congrArg x0 (by blk_ext)
  generalize hz : val_main_v28 (F := Ideal) x0 = z at *
  have h32 : val_main_v32 (F := Ideal) x0 = fun j => z (idx_main_v32 j) := by
    funext j
    rw [val_main_v32_apply, hz]
  rw [val_main_v33_apply, h32, f0]
  refine congrArg (ROW x0 (e 0) (e 1) * ·) (Eq.trans (congrArg z ?_) e2)
  blk_ext

theorem v69_at (e : S4160x1024.Idx) :
    val_main_v69 (F := Ideal) x0 x1 x2 x3 x4 x5 e
      = VJP NN EE (Ideal.ofBits .f32 0xBF000000#32) (x5 e) (ROW x0 (e 0))
          (DX (val_main_v20 (F := Ideal) x0 x1 x2 x3 x4 x5) (val_main_v18 (F := Ideal) x0 x1 x2 x4 x5) x2 x3 x1 (e 0)) (e 1) := by
  have e1 : ∀ q : Fin 1024, val_main_v49 (F := Ideal) x0 x1 x2 x3 x4 x5 (ix2 (e 0) q) = _ := fun q => v49_at x0 x1 x2 x3 x4 x5 (ix2 (e 0) q)
  have f1 := v49_at x0 x1 x2 x3 x4 x5 e
  have e2 := v28_at x0 (ix2 (e 0) (0 : Fin 1))
  have e3 := v27_at x0 (ix2 (e 0) (0 : Fin 1))
  generalize hz : val_main_v49 (F := Ideal) x0 x1 x2 x3 x4 x5 = z at *
  have h54 : val_main_v54 (F := Ideal) x0 x1 x2 x3 x4 x5 = fun i => z i * val_main_v53 (F := Ideal) x1 i := by
    funext i
    rw [val_main_v54_apply, hz]
    rfl
  generalize val_main_v20 (F := Ideal) x0 x1 x2 x3 x4 x5 = a at *
  generalize val_main_v18 (F := Ideal) x0 x1 x2 x4 x5 = b at *
  pointwise [val_main_v69, val_main_v68, val_main_v67, val_main_v66, val_main_v65, val_main_v64, val_main_cst_9, val_main_v63,
    val_main_v62, val_main_cst_8, val_main_v61, val_main_v60, val_main_v59, val_main_v58, val_main_v57, val_main_v56, val_main_cst_7,
    val_main_v55, h54, val_main_v53, val_main_v31, val_main_v30, val_main_cst_5, val_main_v29, VJP, DSQ, DX]
  have f0 : x0 e = ROW x0 (e 0) (e 1) := congrArg x0 (by blk_ext)
  simp only [Fin.sum_univ_one, e1, f1, e2, e3, f0]
  rfl

/-- The reference's gradient of the input in the kernel's form. -/
theorem v69_bwd (e : S4160x1024.Idx) :
    val_main_v69 (F := Ideal) x0 x1 x2 x3 x4 x5 e = ROW x5 (e 0) (e 1) + BWD NN EE (ROW x0 (e 0))
      (DX (val_main_v20 (F := Ideal) x0 x1 x2 x3 x4 x5) (val_main_v18 (F := Ideal) x0 x1 x2 x4 x5) x2 x3 x1 (e 0)) (e 1) := by
  obtain ⟨e', he', he⟩ := eps_pos
  rw [v69_at]
  refine (vjp_eq n1024 he (by norm_num) he' neg_half _ _ _ _).trans ?_
  congr 1
  unfold ROW
  blk_point []

end Cert.BwdFfnIdeal.Ref
-- ==== Proof.BwdFfn.Sums.lean ====
/-
  The backward pass of the feed-forward layer: what the kernel leaves in its four output arrays, against the reference.
-/
module

public import proofs.«01_k».proof.Proof.BwdFfn.Tile
public import proofs.«01_k».proof.Proof.BwdFfn.Entry
public import proofs.«01_k».proof.Proof.BwdFfn.Ref

@[expose] public section

set_option maxRecDepth 16384

noncomputable section

namespace Cert.BwdFfnIdeal.Sums

open Cert.BwdFfnIdeal Cert.BwdFfnIdeal.Gen Idealize.ShloMosaic Idealize.ShloMosaic.TcCoe Idealize.SL.Sem
open Cert.BwdFfnRefIdeal.Read Cert.Norm Cert.Silu Cert.BwdFfnIdeal.Tile Cert.BwdFfnIdeal.Entry Cert.BwdFfnIdeal.Ref

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, t.val, 0]
    ∧ win0_3.index t = ![0, t.val, 0] ∧ win0_4.index t = ![t.val, 0] ∧ win0_5.index t = ![0, 0] ∧ win0_6.index t = ![0, t.val, 0]
    ∧ win0_7.index t = ![0, t.val, 0] ∧ win0_8.index t = ![t.val, 0] ∧ win0_9.index t = ![0, 0] :=
  (by decide +kernel : ∀ t : Fin grid0.N, _)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)

/-- The two gradients and the sums of their products with the weights' rows, for the arguments. -/
abbrev ga : S4160x2816.Idx → EReal := GA (A0 m c) (A1 m c) (A2 m c) (A3 m c) (A4 m c) (A5 m c)
abbrev gb : S4160x2816.Idx → EReal := GB (A0 m c) (A1 m c) (A2 m c) (A4 m c) (A5 m c)
abbrev dnr (r : Fin 4160) (k : Fin 1024) : EReal := Ref.DN (ga m c) (gb m c) (A2 m c) (A3 m c) r k
abbrev dxr (r : Fin 4160) (k : Fin 1024) : EReal := Ref.DX (ga m c) (gb m c) (A2 m c) (A3 m c) (A1 m c) r k

variable (t : Fin cfg0.N)

/-- Row `r'` of a tile. -/
def row (r' : Fin 320) : Fin 4160 := ⟨t.val * 320 + r', by have h : t.val < 13 := t.isLt.trans_eq N_0; omega⟩

/-! ## The parts of a tile -/

theorem a_at (q : Fin 4) (r' : Fin 320) (j : Fin 704) :
    iblk m c 2 t (ix3 q r' j) = val_main_v12 (F := Ideal) (A0 m c) (A1 m c) (A2 m c) (ix2 (row t r') (col q j)) := by
  have e : iblk m c 2 t (ix3 q r' j) = V m c main_v15 (ix3 q (row t r') j) := by
    unfold row
    blk_point [iblk, idx t]
  rw [e, entry_a]
  rfl

theorem b_at (q : Fin 4) (r' : Fin 320) (j : Fin 704) :
    iblk m c 3 t (ix3 q r' j) = val_main_v13 (F := Ideal) (A0 m c) (A1 m c) (A3 m c) (ix2 (row t r') (col q j)) := by
  have e : iblk m c 3 t (ix3 q r' j) = V m c main_v19 (ix3 q (row t r') j) := by
    unfold row
    blk_point [iblk, idx t]
  rw [e, entry_b]
  rfl

/-- An entry of a tile's product with the down-projection's transpose. -/
def DSUM (u : Vec Ideal S320x1024 .bf16) (w : Vec Ideal S4x704x1024 .bf16) (q : Fin 4) (r : Fin 320) (j : Fin 704) : EReal :=
  ∑ k : Fin 1024, u (ix2 r k) * w (ix3 q j k)

theorem d_at (q : Fin 4) (r' : Fin 320) (j : Fin 704) :
    DSUM (iblk m c 1 t) (V m c main_v28) q r' j = val_main_v17 (F := Ideal) (A4 m c) (A5 m c) (ix2 (row t r') (col q j)) := by
  rw [val_main_v17_apply]
  unfold DSUM
  refine Finset.sum_congr rfl fun k _ => congrArg₂ (· * ·) ?_ ?_
  · have e : iblk m c 1 t (ix2 r' k) = V m c main_v20 (ix2 (row t r') k) := by
      unfold row
      blk_point [iblk, idx t]
    rw [e, entry_dh2]
    blk_point []
  · rw [entry_wd]
    show A4 m c (ix2 (col q j) k) = _
    blk_point []

theorem outA_eq (u : Vec Ideal S320x1024 .bf16) (w : Vec Ideal S4x704x1024 .bf16) (a b : Vec Ideal S4x320x704 .bf16) (q : Fin 4) (r : Fin 320)
    (j : Fin 704) {d x y : EReal} (hd : DSUM u w q r j = d) (hx : a (ix3 q r j) = x) (hy : b (ix3 q r j) = y) :
    OUTA u w a b (ix3 q r j) = GATE (d * y) x := by
  subst hd hx hy
  rfl

theorem outB_eq (u : Vec Ideal S320x1024 .bf16) (w : Vec Ideal S4x704x1024 .bf16) (a : Vec Ideal S4x320x704 .bf16) (q : Fin 4) (r : Fin 320)
    (j : Fin 704) {d x : EReal} (hd : DSUM u w q r j = d) (hx : a (ix3 q r j) = x) :
    OUTB u w a (ix3 q r j) = d * (x * SIG x) := by
  subst hd hx
  rfl

theorem outA_at (q : Fin 4) (r' : Fin 320) (j : Fin 704) :
    OUTA (iblk m c 1 t) (V m c main_v28) (iblk m c 2 t) (iblk m c 3 t) (ix3 q r' j) = ga m c (ix2 (row t r') (col q j)) :=
  outA_eq _ _ _ _ _ _ _ (d_at m c t q r' j) (a_at m c t q r' j) (b_at m c t q r' j)

theorem outB_at (q : Fin 4) (r' : Fin 320) (j : Fin 704) :
    OUTB (iblk m c 1 t) (V m c main_v28) (iblk m c 2 t) (ix3 q r' j) = gb m c (ix2 (row t r') (col q j)) :=
  outB_eq _ _ _ _ _ _ (d_at m c t q r' j) (a_at m c t q r' j)

/-- Four groups of columns together are the whole sum. -/
theorem acc_eq (u : Vec Ideal S320x1024 .bf16) (w wg wu : Vec Ideal S4x704x1024 .bf16) (a b : Vec Ideal S4x320x704 .bf16) (i : S320x1024.Idx)
    (f g x y : Fin 2816 → EReal) (hf : ∀ q j, OUTA u w a b (ix3 q (i 0) j) = f (col q j)) (hg : ∀ q j, OUTB u w a (ix3 q (i 0) j) = g (col q j))
    (hx : ∀ q j, wg (ix3 q j (i 1)) = x (col q j)) (hy : ∀ q j, wu (ix3 q j (i 1)) = y (col q j)) :
    ACC u w wg wu a b i = (∑ n, f n * x n) + ∑ n, g n * y n := by
  rw [acc_at]
  have h : ∀ q, PARTQ u w wg wu a b q (i 0) (i 1) = (∑ j, f (col q j) * x (col q j)) + ∑ j, g (col q j) * y (col q j) := fun q =>
    congrArg₂ (· + ·) (Finset.sum_congr rfl fun j _ => congrArg₂ (· * ·) (hf q j) (hx q j))
      (Finset.sum_congr rfl fun j _ => congrArg₂ (· * ·) (hg q j) (hy q j))
  simp only [h]
  rw [Finset.sum_add_distrib]
  exact congrArg₂ (· + ·) (Fin.sum_mul_add_congr fun s k hl => rfl) (Fin.sum_mul_add_congr fun s k hl => rfl)

/-- The tile's gradient of the normalised input. -/
theorem dn_at (i : S320x1024.Idx) : dn m c t i = dnr m c (row t (i 0)) (i 1) :=
  acc_eq _ _ _ _ _ _ i (fun n => ga m c (ix2 (row t (i 0)) n)) (fun n => gb m c (ix2 (row t (i 0)) n))
    (fun n => A2 m c (ix2 (i 1) n)) (fun n => A3 m c (ix2 (i 1) n))
    (fun q j => outA_at m c t q (i 0) j) (fun q j => outB_at m c t q (i 0) j) (fun q j => entry_wg m c _) (fun q j => entry_wu m c _)

theorem r_at (i : S320x1.Idx) : k0_pay43 (F := Ideal) (iblk m c 4 t) i = Ideal.rsqrt (SQ NN EE (ROW (A0 m c) (row t (i 0)))) := by
  pointwise [k0_pay43, SQ, ROW]
  unfold row
  blk_point [iblk, V, idx t]

theorem xhat_at (i : S320x1024.Idx) : k0_pay44 (F := Ideal) (iblk m c 4 t) i
    = ROW (A0 m c) (row t (i 0)) (i 1) * Ideal.rsqrt (SQ NN EE (ROW (A0 m c) (row t (i 0)))) := by
  pointwise [k0_pay44, k0_pay43, SQ, ROW]
  unfold row
  blk_point [iblk, V, idx t]

/-! ## The gradient of the input -/

theorem core8 (i : S320x1024.Idx) :
    k0_pay1 (F := Ideal) (k0_pay43 (iblk m c 4 t)) (k0_pay44 (iblk m c 4 t)) (dn m c t) (iblk m c 0 t) (iblk m c 5 t) i
      = ROW (A5 m c) (row t (i 0)) (i 1) + BWD NN EE (ROW (A0 m c) (row t (i 0))) (dxr m c (row t (i 0))) (i 1) := by
  have e1 : ∀ q : Fin 1024, dn m c t (ix2 (i 0) q) = _ := fun q => dn_at m c t (ix2 (i 0) q)
  have e2 : ∀ q : Fin 1024, k0_pay44 (F := Ideal) (iblk m c 4 t) (ix2 (i 0) q) = _ := fun q => xhat_at m c t (ix2 (i 0) q)
  have e3 := r_at m c t (ix2 (i 0) 0)
  have f1 := dn_at m c t i
  have f2 := xhat_at m c t i
  have e4 : ∀ q : Fin 1024, iblk m c 5 t (ix2 0 q) = A1 m c (ix2 0 q) := fun q => by
    blk_point [iblk, V, idx t]
  have e5 : iblk m c 0 t i = ROW (A5 m c) (row t (i 0)) (i 1) := by
    unfold ROW row
    blk_point [iblk, V, idx t]
  generalize dn m c t = d at *
  generalize k0_pay43 (F := Ideal) (iblk m c 4 t) = z at *
  generalize k0_pay44 (F := Ideal) (iblk m c 4 t) = w at *
  generalize iblk m c 5 t = g at *
  generalize iblk m c 0 t = p at *
  pointwise [k0_pay1, BWD, Ref.DX]
  simp only [e5, e3, e4, f1, f2, e1, e2]
  rw [show g (ix2 0 (i 1)) = _ from e4 (i 1)]
  rfl

/-- The same at a row and a column of the whole array. -/
theorem core8' (i : S320x1024.Idx) (r : Fin 4160) (k : Fin 1024) (hr : (r : ℕ) = t.val * 320 + i 0) (hk : (k : ℕ) = i 1) :
    k0_pay1 (F := Ideal) (k0_pay43 (iblk m c 4 t)) (k0_pay44 (iblk m c 4 t)) (dn m c t) (iblk m c 0 t) (iblk m c 5 t) i
      = ROW (A5 m c) r k + BWD NN EE (ROW (A0 m c) r) (dxr m c r) k := by
  obtain rfl : r = row t (i 0) := Fin.ext hr
  obtain rfl : k = i 1 := Fin.ext hk
  exact core8 m c t i

theorem core6 (i : S4x320x704.Idx) (e : S4x4160x704.Idx) (h0 : (e 0 : ℕ) = i 0) (h1 : (e 1 : ℕ) = t.val * 320 + i 1) (h2 : (e 2 : ℕ) = i 2) :
    OUTA (iblk m c 1 t) (V m c main_v28) (iblk m c 2 t) (iblk m c 3 t) i = ga m c (ix2 (e 1) (col (e 0) (e 2))) := by
  obtain rfl : e = ix3 (i 0) (row t (i 1)) (i 2) := by
    unfold row
    blk_ext
  obtain ⟨q, r, j, rfl⟩ : ∃ q r j, i = ix3 q r j := ⟨i 0, i 1, i 2, by blk_ext⟩
  exact outA_at m c t q r j

theorem core7 (i : S4x320x704.Idx) (e : S4x4160x704.Idx) (h0 : (e 0 : ℕ) = i 0) (h1 : (e 1 : ℕ) = t.val * 320 + i 1) (h2 : (e 2 : ℕ) = i 2) :
    OUTB (iblk m c 1 t) (V m c main_v28) (iblk m c 2 t) i = gb m c (ix2 (e 1) (col (e 0) (e 2))) := by
  obtain rfl : e = ix3 (i 0) (row t (i 1)) (i 2) := by
    unfold row
    blk_ext
  obtain ⟨q, r, j, rfl⟩ : ∃ q r j, i = ix3 q r j := ⟨i 0, i 1, i 2, by blk_ext⟩
  exact outB_at m c t q r j

/-! ## The gradient of the gain -/

def PARTG (s : Fin cfg0.N) (j : S1x1024.Idx) : EReal := ∑ r : Fin 320, dn m c s (ix2 r (j 1)) * k0_pay44 (F := Ideal) (iblk m c 4 s) (ix2 r (j 1))

theorem pay45 (h : Vec Ideal S320x1024 .f32) (d : FVec Ideal S320x1024 .f32) (acc : Vec Ideal S1x1024 .f32) (j : S1x1024.Idx) :
    k0_pay45 h d acc j = acc j + ∑ r : Fin 320, d (ix2 r (j 1)) * k0_pay44 (F := Ideal) h (ix2 r (j 1)) := by
  generalize hX : k0_pay44 (F := Ideal) h = X
  unfold k0_pay45
  rw [hX]
  pointwise

theorem stepB (h : ¬ t.val % 13 = 0) (j : S1x1024.Idx) : (outsAt0 m c t.val t.isLt).2.2.2.1 j
    = (outsAt0 m c (t.val - 1) (by omega)).2.2.2.1 j + PARTG m c t j := by
  rw [stepB9 m c t h, pay45]
  rfl

theorem stepA (h : t.val % 13 = 0) (j : S1x1024.Idx) : (outsAt0 m c t.val t.isLt).2.2.2.1 j = 0 + PARTG m c t j := by
  rw [stepA9 m c t h, pay45]
  congr 1
  pointwise [k0_pay2]

/-! ## The four arrays -/

/-- The reference's first result is the gradient of the gate's argument, its columns cut into four groups. -/
theorem v72_at (x0 : FVec Ideal S4160x1024 .f32) (x1 : FVec Ideal S1x1024 .f32) (x2 x3 : FVec Ideal S1024x2816 .f32)
    (x4 : FVec Ideal S2816x1024 .f32) (x5 : FVec Ideal S4160x1024 .f32) (i : S4x4160x704.Idx) :
    val_main_v72 (F := Ideal) x0 x1 x2 x3 x4 x5 i = val_main_v20 (F := Ideal) x0 x1 x2 x3 x4 x5 (ix2 (i 1) (col (i 0) (i 2))) := by
  generalize hz : val_main_v20 (F := Ideal) x0 x1 x2 x3 x4 x5 = z
  have h70 : val_main_v70 (F := Ideal) x0 x1 x2 x3 x4 x5 = fun j => z (idx_main_v70 j) := by
    funext j
    rw [val_main_v70_apply, hz]
  rw [val_main_v72_apply, val_main_v71_apply, h70]
  have h0 : (i 0 : ℕ) < 4 := (i 0).isLt
  have h1 : (i 1 : ℕ) < 4160 := (i 1).isLt
  have h2 : (i 2 : ℕ) < 704 := (i 2).isLt
  refine congrArg z ?_
  blk_ext

theorem v75_at (x0 : FVec Ideal S4160x1024 .f32) (x1 : FVec Ideal S1x1024 .f32) (x2 : FVec Ideal S1024x2816 .f32)
    (x4 : FVec Ideal S2816x1024 .f32) (x5 : FVec Ideal S4160x1024 .f32) (i : S4x4160x704.Idx) :
    val_main_v75 (F := Ideal) x0 x1 x2 x4 x5 i = val_main_v18 (F := Ideal) x0 x1 x2 x4 x5 (ix2 (i 1) (col (i 0) (i 2))) := by
  generalize hz : val_main_v18 (F := Ideal) x0 x1 x2 x4 x5 = z
  have h73 : val_main_v73 (F := Ideal) x0 x1 x2 x4 x5 = fun j => z (idx_main_v73 j) := by
    funext j
    rw [val_main_v73_apply, hz]
  rw [val_main_v75_apply, val_main_v74_apply, h73]
  have h0 : (i 0 : ℕ) < 4 := (i 0).isLt
  have h1 : (i 1 : ℕ) < 4160 := (i 1).isLt
  have h2 : (i 2 : ℕ) < 704 := (i 2).isLt
  refine congrArg z ?_
  blk_ext

/-- The gradient of the gated factor. -/
theorem final7 : (dats m 0 c).arrAt 7 cfg0.N = val_main_v75 (F := Ideal) (A0 m c) (A1 m c) (A2 m c) (A4 m c) (A5 m c) := by
  refine (dats m 0 c).arrAt_eq_of_covers 7 _ (by decide +kernel) fun t hf y => ?_
  blk_simp
  rw [after0_7, after7, v75_at, v18_eq]
  refine core7 m c t y _ ?_ ?_ ?_
  all_goals (blk_simp [idx t] <;> try omega)

section Fin
variable (h1 : ∀ i, Fin' (A1 m c i)) (h3 : ∀ i, Fin' (A3 m c i)) (h4 : ∀ i, Fin' (A4 m c i)) (h5 : ∀ i, Fin' (A5 m c i))
include h1 h3 h4 h5

/-- The gradient of the gate's argument. -/
theorem final6 : (dats m 0 c).arrAt 6 cfg0.N = val_main_v72 (F := Ideal) (A0 m c) (A1 m c) (A2 m c) (A3 m c) (A4 m c) (A5 m c) := by
  refine (dats m 0 c).arrAt_eq_of_covers 6 _ (by decide +kernel) fun t hf y => ?_
  blk_simp
  rw [after0_6, after6, v72_at, v20_eq _ _ _ _ _ _ h1 h3 h4 h5]
  refine core6 m c t y _ ?_ ?_ ?_
  all_goals (blk_simp [idx t] <;> try omega)

/-- The gradient of the layer's input. -/
theorem final8 : (dats m 0 c).arrAt 8 cfg0.N = val_main_v69 (F := Ideal) (A0 m c) (A1 m c) (A2 m c) (A3 m c) (A4 m c) (A5 m c) := by
  refine (dats m 0 c).arrAt_eq_of_covers 8 _ (by decide +kernel) fun t hf y => ?_
  blk_simp
  rw [after0_8, after8, v69_bwd, v20_eq _ _ _ _ _ _ h1 h3 h4 h5, v18_eq]
  refine core8' m c t y _ _ ?_ ?_
  all_goals (blk_simp [idx t] <;> try omega)

/-- The gradient of the gain. -/
theorem final9 : (dats m 0 c).arrAt 9 cfg0.N = val_main_v52 (F := Ideal) (A0 m c) (A1 m c) (A2 m c) (A3 m c) (A4 m c) (A5 m c) := by
  refine (dats m 0 c).arrAt_eq_of_after_last 9 t0_12 (by decide +kernel) _ fun j => ?_
  blk_simp
  rw [after0_9, Pipeline.eq_sum_fin_of_reset_step_apply_last (fun n h => (outsAt0 m c n h).2.2.2.1) 13 (fun _ => 0) _
    (stepA m c) (stepB m c) (le_of_eq N_0) t0_12 rfl j, zero_add]
  rw [val_main_v52_apply, val_main_v51_apply]
  unfold PARTG
  have h50 : val_main_v50 (F := Ideal) (A0 m c) (A1 m c) (A2 m c) (A3 m c) (A4 m c) (A5 m c) = fun e =>
      ROW (A0 m c) (e 0) (e 1) * Ideal.rsqrt (SQ NN EE (ROW (A0 m c) (e 0))) * dnr m c (e 0) (e 1) := by
    funext e
    rw [val_main_v50_apply, v49_at, v33_at, v20_eq _ _ _ _ _ _ h1 h3 h4 h5, v18_eq]
    rfl
  rw [h50]
  have hc : ∀ i, val_main_cst_6 (F := Ideal) i = 0 := fun i => by
    pointwise [val_main_cst_6]
  rw [hc, zero_add]
  refine Fin.sum_mul_add_congr fun s k hl => ?_
  rw [dn_at, xhat_at, mul_comm]
  have e0 : (idx_main_v51 (idx_main_v52 j) ⟨s.val * 320 + k.val, hl⟩) = ix2 (row s k) (j 1) := by
    have h0 : (j 0 : ℕ) < 1 := (j 0).isLt
    have h1 : (j 1 : ℕ) < 1024 := (j 1).isLt
    unfold row
    blk_ext
  rw [e0]
  rfl
end Fin

end Cert.BwdFfnIdeal.Sums
-- ==== Proof.BwdFfn.Equation.lean ====
/-
  The backward pass of the feed-forward layer: the kernel's run ends with the reference's four arrays.
-/
module

public import proofs.«01_k».proof.Proof.BwdFfn.Sums
public import proofs.«01_k».proof.Proof.Gen.BwdFfnRefIdeal.Run
public import proofs.«01_k».proof.Defs

@[expose] public section

set_option maxRecDepth 16384

noncomputable section

namespace Cert.BwdFfnIdeal.Equation

open Cert.BwdFfnIdeal Cert.BwdFfnIdeal.Gen Idealize.ShloMosaic Idealize.ShloMosaic.TcCoe Idealize.SL.Sem
open Cert.BwdFfnRefIdeal.Read Cert.BwdFfnIdeal.Sums Cert.Norm

/-- The run's four output arrays, as the pipeline leaves them, beside the arguments it leaves alone. -/
theorem run_arrays (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c : Thread nD τ).loc main_v29_0) = (dats m 0 c).arrAt 6 cfg0.N
        ∧ r.2.mem ((c : Thread nD τ).loc main_v29_1) = (dats m 0 c).arrAt 7 cfg0.N
        ∧ r.2.mem ((c : Thread nD τ).loc main_v29_2) = (dats m 0 c).arrAt 8 cfg0.N
        ∧ r.2.mem ((c : Thread nD τ).loc main_v29_3) = (dats m 0 c).arrAt 9 cfg0.N)
      ∧ ∀ c : Dev nD, r.2.mem ((c : Thread nD τ).loc main_arg0) = A0 m c ∧ r.2.mem ((c : Thread nD τ).loc main_arg1) = A1 m c
        ∧ r.2.mem ((c : Thread nD τ).loc main_arg2) = A2 m c ∧ r.2.mem ((c : Thread nD τ).loc main_arg3) = A3 m c
        ∧ r.2.mem ((c : Thread nD τ).loc main_arg4) = A4 m c ∧ r.2.mem ((c : Thread nD τ).loc main_arg5) = A5 m c) :=
  θ_run_and ((θ_run defs _ _).mono (fun _ h c => ⟨(h c).1 6, (h c).1 7, (h c).1 8, (h c).1 9⟩) (run_main m ρ)) (unchanged m ρ)

/-- Started on the same arguments, the gain, two of the weights and the output's gradient finite, the kernel and the reference
    end with the same four gradients. -/
theorem algebraic [Cert.Pre_bwd_ffn_finite.Facts] : Cert.algebraic_BwdFfnIdeal_BwdFfnRefIdeal_pre_bwd_ffn_finite := by
  intro m g m' g' hp ha
  have hf : ∀ c : Dev nD, (∀ i, Fin' (A1 m c i)) ∧ (∀ i, Fin' (A3 m c i)) ∧ (∀ i, Fin' (A4 m c i)) ∧ ∀ i, Fin' (A5 m c i) := fun c => by
    obtain ⟨p1, p3, p4, p5⟩ := hp c
    exact ⟨fun i => fin_of_lt _ (congrFun p1 i), fun i => fin_of_lt _ (congrFun p3 i), fun i => fin_of_lt _ (congrFun p4 i),
      fun i => fin_of_lt _ (congrFun p5 i)⟩
  refine ⟨fun c => val_main_v72 (F := Ideal) (A0 m c) (A1 m c) (A2 m c) (A3 m c) (A4 m c) (A5 m c),
    fun c => val_main_v75 (F := Ideal) (A0 m c) (A1 m c) (A2 m c) (A4 m c) (A5 m c),
    fun c => val_main_v69 (F := Ideal) (A0 m c) (A1 m c) (A2 m c) (A3 m c) (A4 m c) (A5 m c),
    fun c => val_main_v52 (F := Ideal) (A0 m c) (A1 m c) (A2 m c) (A3 m c) (A4 m c) (A5 m c), ?_, ?_⟩
  · refine (θ_run _ _ _).mono (fun r h c => ?_) (run_arrays m g)
    obtain ⟨f1, f3, f4, f5⟩ := hf c
    obtain ⟨h0, h1, h2, h3⟩ := h.1 c
    exact ⟨h0.trans (final6 m c f1 f3 f4 f5), h1.trans (final7 m c), h2.trans (final8 m c f1 f3 f4 f5),
      h3.trans (final9 m c f1 f3 f4 f5), h.2 c⟩
  · refine (θ_run _ _ _).mono (fun r h c => ?_) (Cert.BwdFfnRefIdeal.Value.run (F := Ideal) m' g')
    obtain ⟨e0, e1, e2, e3, e4, e5⟩ := ha c
    obtain ⟨h0, h1, h2, h3, hr⟩ := h c
    refine ⟨h0.trans ((val_main_v72_eq m' c).trans ?_), h1.trans ((val_main_v75_eq _ _ _ _ _).trans ?_),
      h2.trans ((val_main_v69_eq m' c).trans ?_), h3.trans ((val_main_v52_eq m' c).trans ?_), hr⟩
    · rw [e0, e1, e2, e3, e4, e5]
    · rw [e0, e1, e2, e4, e5]
    · rw [e0, e1, e2, e3, e4, e5]
    · rw [e0, e1, e2, e3, e4, e5]

end Cert.BwdFfnIdeal.Equation
-- ==== Proof.GradFfn.Sums.lean ====
/-
  What the weight-gradient kernel leaves in its three output arrays: each entry is one sum over all rows, which the
  kernel takes row block by row block in the output's staging buffer.
-/
module

public import proofs.«01_k».proof.Proof.Gen.GradFfnIdeal.Value
public import Idealize.ShloMosaic.Lib.Pipeline.ValueKit

@[expose] public section

set_option maxRecDepth 16384

noncomputable section

namespace Cert.GradFfnIdeal.Sums

open Cert.GradFfnIdeal Cert.GradFfnIdeal.Gen Idealize.ShloMosaic Idealize.ShloMosaic.TcCoe Idealize.SL.Sem
open Idealize.ShloMosaic.Pipeline (Dat)

variable (m : (ℓ : Loc nD τ sig) → Buf (Elt Ideal) ℓ)

/-- A product of a stacked block, transposed, with a plain block: entry `(q, j, k)` is the sum over the rows of
    `x (q, r, j) * y (r, k)`. -/
def PROD (x : FVec Ideal S4x4160x704 .bf16) (y : FVec Ideal S4160x1024 .bf16) : FVec Ideal S4x704x1024 .f32 :=
  fun i => ∑ r : Fin 4160, x (ix3 (i 0) r (i 1)) * y (ix2 r (i 2))

theorem idx : ∀ t : Fin cfg0.N, win0_0.index t = ![t.val % 4, 0] ∧ win0_1.index t = ![t.val / 4, t.val % 4, 0]
    ∧ win0_2.index t = ![t.val / 4, t.val % 4, 0] ∧ win0_3.index t = ![t.val / 4, t.val % 4, 0]
    ∧ win0_4.index t = ![t.val % 4, 0] ∧ win0_5.index t = ![t.val / 4, 0, 0]
    ∧ win0_6.index t = ![t.val / 4, 0, 0] ∧ win0_7.index t = ![t.val / 4, 0, 0] :=
  (by decide +kernel : ∀ t : Fin grid0.N, _)

theorem pay5 (v0 : Vec Ideal S1040x1024 .bf16) (v2 : Vec Ideal S1x1040x704 .bf16) (j : S1x704x1024.Idx) :
    k0_pay5 v0 v2 j = 0 + ∑ r : Fin 1040, v2 (ix3 0 r (j 1)) * v0 (ix2 r (j 2)) := by
  pointwise [k0_pay5, k0_pay2, k0_pay1]

theorem pay8 (v0 : Vec Ideal S1040x1024 .bf16) (v2 : Vec Ideal S1x1040x704 .bf16) (acc : Vec Ideal S1x704x1024 .f32) (j : S1x704x1024.Idx) :
    k0_pay8 v0 v2 acc j = acc j + ∑ r : Fin 1040, v2 (ix3 0 r (j 1)) * v0 (ix2 r (j 2)) := by
  idx_vars j
  obtain rfl : j0 = 0 := Subsingleton.elim _ _
  pointwise [k0_pay8, k0_pay2, k0_pay1]

/-- The first output is the product of `da`'s shards with `n2`. -/
theorem final5 (c : Dev nD) : (dats m 0 c).arrAt 5 cfg0.N = PROD (V m c main_v28) (V m c main_v27) := by
  refine (dats m 0 c).arrAt_eq_of_covers 5 _ (by decide +kernel) fun t hf y => ?_
  blk_simp
  rw [after0_5, Pipeline.eq_sum_fin_of_reset_step_apply_of_flush (fun n h => (outsAt0 m c n h).1) 4 (fun _ => 0) _
    (fun t h j => by rw [outsAt0_A m c t h (by omega)]; frame_out; rw [pay5])
    (fun t h j => by rw [outsAt0_B m c t h (by omega)]; frame_out; rw [pay8])
    t ((flush0_5 t).mp hf) _, zero_add]
  unfold PROD
  refine Fin.sum_mul_add_congr fun s k hl => ?_
  blk_point [iblk, idx t, idx ⟨_, Pipeline.run_point_lt_of_flush t ((flush0_5 t).mp hf) s⟩]

theorem pay6 (v0 : Vec Ideal S1040x1024 .bf16) (v5 : Vec Ideal S1x1040x704 .bf16) (j : S1x704x1024.Idx) :
    k0_pay6 v0 v5 j = 0 + ∑ r : Fin 1040, v5 (ix3 0 r (j 1)) * v0 (ix2 r (j 2)) := by
  pointwise [k0_pay6, k0_pay3, k0_pay1]

theorem pay9 (v0 : Vec Ideal S1040x1024 .bf16) (v5 : Vec Ideal S1x1040x704 .bf16) (acc : Vec Ideal S1x704x1024 .f32) (j : S1x704x1024.Idx) :
    k0_pay9 v0 v5 acc j = acc j + ∑ r : Fin 1040, v5 (ix3 0 r (j 1)) * v0 (ix2 r (j 2)) := by
  idx_vars j
  obtain rfl : j0 = 0 := Subsingleton.elim _ _
  pointwise [k0_pay9, k0_pay3, k0_pay1]

theorem pay7 (v8 : Vec Ideal S1x1040x704 .bf16) (v10 : Vec Ideal S1040x1024 .bf16) (j : S1x704x1024.Idx) :
    k0_pay7 v8 v10 j = 0 + ∑ r : Fin 1040, v8 (ix3 0 r (j 1)) * v10 (ix2 r (j 2)) := by
  pointwise [k0_pay7, k0_pay4]

theorem pay10 (v8 : Vec Ideal S1x1040x704 .bf16) (v10 : Vec Ideal S1040x1024 .bf16) (acc : Vec Ideal S1x704x1024 .f32) (j : S1x704x1024.Idx) :
    k0_pay10 v8 v10 acc j = acc j + ∑ r : Fin 1040, v8 (ix3 0 r (j 1)) * v10 (ix2 r (j 2)) := by
  idx_vars j
  obtain rfl : j0 = 0 := Subsingleton.elim _ _
  pointwise [k0_pay10, k0_pay4]

/-- The second output is the product of `db`'s shards with `n2`. -/
theorem final6 (c : Dev nD) : (dats m 0 c).arrAt 6 cfg0.N = PROD (V m c main_v29) (V m c main_v27) := by
  refine (dats m 0 c).arrAt_eq_of_covers 6 _ (by decide +kernel) fun t hf y => ?_
  blk_simp
  rw [after0_6, Pipeline.eq_sum_fin_of_reset_step_apply_of_flush (fun n h => (outsAt0 m c n h).2.1) 4 (fun _ => 0) _
    (fun t h j => by rw [outsAt0_A m c t h (by omega)]; frame_out; rw [pay6])
    (fun t h j => by rw [outsAt0_B m c t h (by omega)]; frame_out; rw [pay9])
    t ((flush0_6 t).mp hf) _, zero_add]
  unfold PROD
  refine Fin.sum_mul_add_congr fun s k hl => ?_
  blk_point [iblk, idx t, idx ⟨_, Pipeline.run_point_lt_of_flush t ((flush0_6 t).mp hf) s⟩]

/-- The third output is the product of `ff`'s shards with `dh2`. -/
theorem final7 (c : Dev nD) : (dats m 0 c).arrAt 7 cfg0.N = PROD (V m c main_v30) (V m c main_v31) := by
  refine (dats m 0 c).arrAt_eq_of_covers 7 _ (by decide +kernel) fun t hf y => ?_
  blk_simp
  rw [after0_7, Pipeline.eq_sum_fin_of_reset_step_apply_of_flush (fun n h => (outsAt0 m c n h).2.2) 4 (fun _ => 0) _
    (fun t h j => by rw [outsAt0_A m c t h (by omega)]; frame_out; rw [pay7])
    (fun t h j => by rw [outsAt0_B m c t h (by omega)]; frame_out; rw [pay10])
    t ((flush0_7 t).mp hf) _, zero_add]
  unfold PROD
  refine Fin.sum_mul_add_congr fun s k hl => ?_
  blk_point [iblk, idx t, idx ⟨_, Pipeline.run_point_lt_of_flush t ((flush0_7 t).mp hf) s⟩]

end Cert.GradFfnIdeal.Sums
-- ==== Proof.GradFfn.Entry.lean ====
/-
  The arrays that the kernel finds when it starts are the reference's, laid out in shards of `D_FF`.
-/
module

public import proofs.«01_k».proof.Proof.Gen.GradFfnIdeal.Value
public import proofs.«01_k».proof.Proof.Gen.GradFfnRefIdeal.Read
public import Idealize.ShloMosaic.Lib.Pipeline.ValueKit
public import Idealize.ShloMosaic.Lib.StableHlo.ReadAt

@[expose] public section

set_option maxRecDepth 16384

noncomputable section

namespace Cert.GradFfnIdeal.Entry

open Cert.GradFfnIdeal Cert.GradFfnIdeal.Gen Idealize.ShloMosaic Idealize.ShloMosaic.TcCoe Idealize.SL.Sem
open Cert.GradFfnRefIdeal.Read

variable (m : (ℓ : Loc nD τ sig) → Buf (Elt Ideal) ℓ)

/-- A matrix with its 2816 columns cut into four shards, the shard first. -/
def SHARD (x : FVec Ideal S4160x2816 .f32) : FVec Ideal S4x4160x704 .bf16 :=
  fun i => x (ix2 (i 1) ⟨(i 0).val * 704 + (i 2).val, by have := (i 0).isLt; have := (i 2).isLt; simp at *; omega⟩)

/-- The host's reshape, transpose and cast are that layout. -/
theorem shard_eq (x : FVec Ideal S4160x2816 .f32) :
    truncf .bf16 (transpose S4x4160x704 [1, 0, 2] (shapeCast S4160x4x704 x shapeCasts_S4160x2816_S4160x4x704)
      transposes_S4160x4x704_S4x4160x704_1_0_2) bitsLt_bf16_f32 = SHARD x := by
  funext i
  pointwise [SHARD]

/-- The product with the transposed weight is the product along the weight's second axis. -/
theorem dff_eq (x4 : FVec Ideal S2816x1024 .f32) (x5 : FVec Ideal S4160x1024 .f32) :
    Host.dotGeneral dot_S4160x1024_S1024x2816_S4160x2816_1_0_0_1_n_n none x5
      (transpose S1024x2816 [1, 0] x4 transposes_S2816x1024_S1024x2816_1_0) = val_main_v20 (F := Ideal) x4 x5 := by
  funext i
  rw [val_main_v20_apply]
  pointwise
  blk_point []

theorem entry_n2 (c : Dev nD) : (V m c main_v27 : FVec Ideal S4160x1024 .bf16)
    = val_main_v11 (F := Ideal) (m ((c : Thread nD τ).loc main_arg0)) (m ((c : Thread nD τ).loc main_arg1)) := by
  unfold V
  after_reads_simp
  rfl

theorem entry_da (c : Dev nD) : (V m c main_v28 : FVec Ideal S4x4160x704 .bf16)
    = SHARD (val_main_v25 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))) := by
  unfold V
  after_reads_simp
  rw [dff_eq]
  exact shard_eq (val_main_v25 (F := Ideal) _ _ _ _ _ _)

theorem entry_db (c : Dev nD) : (V m c main_v29 : FVec Ideal S4x4160x704 .bf16)
    = SHARD (val_main_v21 (F := Ideal) (m ((c : Thread nD τ).loc main_arg0)) (m ((c : Thread nD τ).loc main_arg1))
      (m ((c : Thread nD τ).loc main_arg2)) (m ((c : Thread nD τ).loc main_arg4)) (m ((c : Thread nD τ).loc main_arg5))) := by
  unfold V
  after_reads_simp
  rw [dff_eq]
  exact shard_eq (val_main_v21 (F := Ideal) _ _ _ _ _)

theorem entry_ff (c : Dev nD) : (V m c main_v30 : FVec Ideal S4x4160x704 .bf16)
    = SHARD (val_main_v15 (F := Ideal) (m ((c : Thread nD τ).loc main_arg0)) (m ((c : Thread nD τ).loc main_arg1))
      (m ((c : Thread nD τ).loc main_arg2)) (m ((c : Thread nD τ).loc main_arg3))) := by
  unfold V
  after_reads_simp
  exact shard_eq (val_main_v15 (F := Ideal) _ _ _ _)

theorem entry_dh2 (c : Dev nD) : (V m c main_v31 : FVec Ideal S4160x1024 .bf16) = m ((c : Thread nD τ).loc main_arg5) := by
  unfold V
  after_reads_simp
  rfl

end Cert.GradFfnIdeal.Entry
-- ==== Proof.GradFfn.Equation.lean ====
/-
  The weight gradients of the SwiGLU: the kernel's three outputs are the reference's.
-/
module

public import proofs.«01_k».proof.Proof.GradFfn.Sums
public import proofs.«01_k».proof.Proof.GradFfn.Entry
public import proofs.«01_k».proof.Defs

@[expose] public section

set_option maxRecDepth 16384

noncomputable section

namespace Cert.GradFfnIdeal.Equation

open Cert.GradFfnIdeal Cert.GradFfnIdeal.Gen Idealize.ShloMosaic Idealize.ShloMosaic.TcCoe Idealize.SL.Sem
open Cert.GradFfnRefIdeal.Read Cert.GradFfnIdeal.Sums Cert.GradFfnIdeal.Entry

variable (x0 : FVec Ideal S4160x1024 .f32) (x1 : FVec Ideal S1x1024 .f32) (x2 x3 : FVec Ideal S1024x2816 .f32)
  (x4 : FVec Ideal S2816x1024 .f32) (x5 : FVec Ideal S4160x1024 .f32)

/-- The gate's gradient, shard by shard, is the reference's product cut into shards. -/
theorem dwg_eq : PROD (SHARD (val_main_v25 (F := Ideal) x0 x1 x2 x3 x4 x5)) (val_main_v11 (F := Ideal) x0 x1)
    = val_main_v30 (F := Ideal) x0 x1 x2 x3 x4 x5 := by
  funext i
  rw [val_main_v30_apply, val_main_v28_apply, val_main_v27_apply, val_main_v26_apply]
  generalize val_main_v25 (F := Ideal) x0 x1 x2 x3 x4 x5 = a
  generalize val_main_v11 (F := Ideal) x0 x1 = b
  unfold PROD SHARD
  blk_point []

/-- The same for the up-projection's gradient. -/
theorem dwu_eq : PROD (SHARD (val_main_v21 (F := Ideal) x0 x1 x2 x4 x5)) (val_main_v11 (F := Ideal) x0 x1)
    = val_main_v31 (F := Ideal) x0 x1 x2 x4 x5 := by
  funext i
  rw [val_main_v31_apply, val_main_v29_apply, val_main_v24_apply, val_main_v23_apply]
  generalize val_main_v21 (F := Ideal) x0 x1 x2 x4 x5 = a
  generalize val_main_v11 (F := Ideal) x0 x1 = b
  unfold PROD SHARD
  blk_point []

/-- The same for the down-projection's gradient. -/
theorem dwd_eq : PROD (SHARD (val_main_v15 (F := Ideal) x0 x1 x2 x3)) x5
    = val_main_v32 (F := Ideal) x0 x1 x2 x3 x5 := by
  funext i
  rw [val_main_v32_apply, val_main_v19_apply, val_main_v18_apply]
  generalize val_main_v15 (F := Ideal) x0 x1 x2 x3 = a
  refine Eq.trans ?_ (Finset.sum_congr rfl fun r _ => mul_comm _ _)
  unfold PROD SHARD
  blk_point []

/-- Started on the same arguments, the kernel and the reference end with the same three gradients. -/
theorem algebraic : Cert.algebraic_GradFfnIdeal_GradFfnRefIdeal := by
  intro m g m' g' _ ha
  refine ⟨fun c => val_main_v30 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)),
    fun c => val_main_v31 (F := Ideal) (m ((c : Thread nD τ).loc main_arg0)) (m ((c : Thread nD τ).loc main_arg1))
      (m ((c : Thread nD τ).loc main_arg2)) (m ((c : Thread nD τ).loc main_arg4)) (m ((c : Thread nD τ).loc main_arg5)),
    fun c => val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg5)),
    ?_, ?_⟩
  · refine (θ_run _ _ _).mono (fun r h c => ?_) (Cert.GradFfnIdeal.Value.run_blocks (F := Ideal) m g)
    obtain ⟨h0, h1, h2, hr⟩ := h c
    refine ⟨h0.trans ?_, h1.trans ?_, h2.trans ?_, hr⟩
    · rw [final5, entry_da, entry_n2, dwg_eq]
    · rw [final6, entry_db, entry_n2, dwu_eq]
    · rw [final7, entry_ff, entry_dh2, dwd_eq]
  · refine (θ_run _ _ _).mono (fun r h c => ?_) (Cert.GradFfnRefIdeal.Value.run (F := Ideal) m' g')
    obtain ⟨e0, e1, e2, e3, e4, e5⟩ := ha c
    obtain ⟨h0, h1, h2, hr⟩ := h c
    refine ⟨h0.trans ((val_main_v30_eq m' c).trans ?_), h1.trans ((val_main_v31_eq _ _ _ _ _).trans ?_),
      h2.trans ((val_main_v32_eq _ _ _ _ _).trans ?_), hr⟩
    · rw [e0, e1, e2, e3, e4, e5]
    · rw [e0, e1, e2, e4, e5]
    · rw [e0, e1, e2, e3, e5]

end Cert.GradFfnIdeal.Equation
-- ==== Proof.BwdOut.Sums.lean ====
/-
  The backward pass of the out-projection: what the kernel leaves in its three output arrays, against the reference.
-/
module

public import proofs.«01_k».proof.Proof.Gen.BwdOutIdeal.Value
public import proofs.«01_k».proof.Proof.Gen.BwdOutRefIdeal.Read
public import Idealize.ShloMosaic.Lib.Pipeline.ValueKit
public import Idealize.ShloMosaic.Lib.Pipeline.ReadBack

@[expose] public section

set_option maxRecDepth 16384

noncomputable section

namespace Cert.BwdOutIdeal.Sums

open Cert.BwdOutIdeal Cert.BwdOutIdeal.Gen Idealize.ShloMosaic Idealize.ShloMosaic.TcCoe Idealize.SL.Sem
open Cert.BwdOutRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, t.val, 0] ∧ win0_5.index t = ![t.val, 0]
    ∧ win0_6.index t = ![0, 0] :=
  (by decide +kernel : ∀ t : Fin grid0.N, _)

/-! ## The gradient of the inputs: one product per tile -/

/-- The gradient at row `r` and column `n`: `dh1` times the weight's row `n`. -/
def DIN (d : FVec Ideal S4160x1024 .f32) (w : FVec Ideal S1024x1024 .f32) (r : Fin 4160) (n : Fin 1024) : EReal :=
  ∑ k : Fin 1024, d (ix2 r k) * w (ix2 n k)

theorem dms_ref (x2 : FVec Ideal S1024x1024 .f32) (x3 : FVec Ideal S4160x1024 .f32) (e : S4x4160x128.Idx) :
    val_main_v8 (F := Ideal) x2 x3 e = DIN x3 x2 (e 1) ⟨(e 0).val * 128 + (e 2).val, by
      have := (e 0).isLt; have := (e 2).isLt; simp at *; omega⟩ := by
  rw [val_main_v8_apply, val_main_v7_apply, val_main_v5_apply, val_main_v4_apply]
  unfold DIN
  blk_point []

theorem dmp_ref (x2 : FVec Ideal S1024x1024 .f32) (x3 : FVec Ideal S4160x1024 .f32) (e : S4160x512.Idx) :
    val_main_v6 (F := Ideal) x2 x3 e = DIN x3 x2 (e 0) ⟨512 + (e 1).val, by
      have := (e 1).isLt; simp at *; omega⟩ := by
  rw [val_main_v6_apply, val_main_v4_apply]
  unfold DIN
  blk_point []

/-- The tile's product with the weight's first half is the gradient of the first 512 columns. -/
theorem core4 (c : Dev nD) (t : Fin cfg0.N) (i : S832x512.Idx) (r : Fin 4160) (n : Fin 1024)
    (hr : (r : ℕ) = t.val * 832 + i 0) (hn : (n : ℕ) = i 1) :
    k0_pay5 (F := Ideal) (iblk m c 0 t) (View.ld (iblk m c 3 t) (Rect.unit (s := S1024x1024) ![0, 0] S512x1024.size inb_S1024x1024_S512x1024_0_0)) i
      = DIN (m ((c : Thread nD τ).loc main_arg3)) (m ((c : Thread nD τ).loc main_arg2)) r n := by
  pointwise [k0_pay5, k0_pay4, DIN]
  blk_point [iblk, V, idx t]

/-- The tile's product with the weight's second half is the gradient of the last 512 columns. -/
theorem core5 (c : Dev nD) (t : Fin cfg0.N) (i : S832x512.Idx) (r : Fin 4160) (n : Fin 1024)
    (hr : (r : ℕ) = t.val * 832 + i 0) (hn : (n : ℕ) = 512 + i 1) :
    k0_pay10 (F := Ideal) (iblk m c 0 t) (View.ld (iblk m c 3 t) (Rect.unit (s := S1024x1024) ![512, 0] S512x1024.size inb_S1024x1024_S512x1024_512_0)) i
      = DIN (m ((c : Thread nD τ).loc main_arg3)) (m ((c : Thread nD τ).loc main_arg2)) r n := by
  pointwise [k0_pay10, k0_pay4, DIN]
  blk_point [iblk, V, idx t]

theorem after5 (c : Dev nD) (t : Fin cfg0.N) (y : S832x512.Idx) : (outsAt0 m c t.val t.isLt).2.1 y
    = k0_pay10 (F := Ideal) (iblk m c 0 t) (View.ld (iblk m c 3 t) (Rect.unit (s := S1024x1024) ![512, 0] S512x1024.size inb_S1024x1024_S512x1024_512_0)) y := by
  by_cases h : t.val % 5 = 0
  · rw [outsAt0_A m c t h]
    frame_out
    rfl
  · rw [outsAt0_B m c t h]
    frame_out
    rfl

/-- The pool mixer's part of the gradient. -/
theorem final5 (c : Dev nD) : (dats m 0 c).arrAt 5 cfg0.N
    = val_main_v6 (F := Ideal) (m ((c : Thread nD τ).loc main_arg2)) (m ((c : Thread nD τ).loc main_arg3)) := by
  refine (dats m 0 c).arrAt_eq_of_covers 5 _ (by decide +kernel) fun t hf y => ?_
  blk_simp
  rw [after0_5, after5, dmp_ref]
  refine core5 m c t y _ _ ?_ ?_
  all_goals (blk_simp [idx t] <;> try omega)

theorem tiles4 (c : Dev nD) (t : Fin cfg0.N) (y : S4x832x128.Idx) (i : S832x512.Idx) (hi0 : (i 0 : ℕ) = y 1)
    (hi1 : (i 1 : ℕ) = (y 0 : ℕ) * 128 + (y 2 : ℕ)) : (outsAt0 m c t.val t.isLt).1 y
    = k0_pay5 (F := Ideal) (iblk m c 0 t) (View.ld (iblk m c 3 t) (Rect.unit (s := S1024x1024) ![0, 0] S512x1024.size inb_S1024x1024_S512x1024_0_0)) i := by
  by_cases hc : t.val % 5 = 0
  · rw [outsAt0_A m c t hc]
    frame_out
    canon_tiles x h
    all_goals (open_payloads; pointwise; blk_ext)
  · rw [outsAt0_B m c t hc]
    frame_out
    canon_tiles x h
    all_goals (open_payloads; pointwise; blk_ext)

/-- The S5 mixer's part of the gradient, in four lane groups. -/
theorem final4 (c : Dev nD) : (dats m 0 c).arrAt 4 cfg0.N
    = val_main_v8 (F := Ideal) (m ((c : Thread nD τ).loc main_arg2)) (m ((c : Thread nD τ).loc main_arg3)) := by
  refine (dats m 0 c).arrAt_eq_of_covers 4 _ (by decide +kernel) fun t hf y => ?_
  blk_simp
  obtain_idx i : S832x512 := [(y 1 : ℕ), (y 0 : ℕ) * 128 + (y 2 : ℕ)] with hi
  rw [after0_4, tiles4 m c t y i hi0 hi1, dms_ref]
  refine core4 m c t i _ _ ?_ ?_
  all_goals (blk_simp [idx t, hi0, hi1] <;> try omega)

/-! ## The gradient of the weight: a sum over the row blocks -/

/-- One row block's part: the two mixers' outputs side by side, transposed, times `dh1`. -/
def PART (b1 b2 : FVec Ideal S832x512 .bf16) (d : FVec Ideal S832x1024 .f32) (j : S1024x1024.Idx) : EReal :=
  ∑ r : Fin 832, (if h : (j 0 : ℕ) < 512 then b1 (ix2 r ⟨(j 0 : ℕ), h⟩)
    else b2 (ix2 r ⟨(j 0 : ℕ) - 512, by have := (j 0).isLt; simp at this; omega⟩)) * d (ix2 r (j 1))

theorem pay1 (d : Vec Ideal S832x1024 .f32) (acc : Vec Ideal S512x1024 .f32) (b : Vec Ideal S832x512 .bf16) (x : S512x1024.Idx) :
    k0_pay1 (k0_pay4 d) acc b x = acc x + ∑ r : Fin 832, b (ix2 r (x 0)) * d (ix2 r (x 1)) := by
  pointwise [k0_pay1, k0_pay4]

theorem pay2 (d : Vec Ideal S832x1024 .f32) (acc : Vec Ideal S512x1024 .f32) (b : Vec Ideal S832x512 .bf16) (x : S512x1024.Idx) :
    k0_pay2 (k0_pay4 d) acc b x = acc x + ∑ r : Fin 832, b (ix2 r (x 0)) * d (ix2 r (x 1)) := by
  pointwise [k0_pay2, k0_pay4]

/-- The upper half's store is the part at its own entries. -/
theorem part_lo (acc : EReal) (b1 b2 : FVec Ideal S832x512 .bf16) (d : FVec Ideal S832x1024 .f32) (x : S512x1024.Idx) (j : S1024x1024.Idx)
    (h0 : (j 0 : ℕ) = x 0) (h1 : (j 1 : ℕ) = x 1) :
    acc + ∑ r : Fin 832, b1 (ix2 r (x 0)) * d (ix2 r (x 1)) = acc + PART b1 b2 d j := by
  have hx : (x 0 : ℕ) < 512 := (x 0).isLt
  unfold PART
  congr 1
  refine Finset.sum_congr rfl fun r _ => ?_
  rw [dif_pos (by omega)]
  blk_point []

theorem part_hi (acc : EReal) (b1 b2 : FVec Ideal S832x512 .bf16) (d : FVec Ideal S832x1024 .f32) (x : S512x1024.Idx) (j : S1024x1024.Idx)
    (h0 : (j 0 : ℕ) = 512 + x 0) (h1 : (j 1 : ℕ) = x 1) :
    acc + ∑ r : Fin 832, b2 (ix2 r (x 0)) * d (ix2 r (x 1)) = acc + PART b1 b2 d j := by
  unfold PART
  congr 1
  refine Finset.sum_congr rfl fun r _ => ?_
  rw [dif_neg (by omega)]
  blk_point []

theorem stepB (c : Dev nD) (t : Fin cfg0.N) (h : ¬ t.val % 5 = 0) (j : S1024x1024.Idx) : (outsAt0 m c t.val t.isLt).2.2 j
    = (outsAt0 m c (t.val - 1) (by omega)).2.2 j + PART (iblk m c 1 t) (iblk m c 2 t) (iblk m c 0 t) j := by
  rw [outsAt0_B m c t h]
  frame_out
  canon_tiles x h
  · rw [pay2, ← part_hi _ _ _ _ x j h0 h1]
    congr 1
    generalize (outsAt0 m c (t.val - 1) _).2.2 = a
    pointwise
    blk_ext
  · rw [pay1, ← part_lo _ _ _ _ x j h0 h1]
    congr 1
    generalize (outsAt0 m c (t.val - 1) _).2.2 = a
    pointwise
    blk_ext

theorem stepA (c : Dev nD) (t : Fin cfg0.N) (h : t.val % 5 = 0) (j : S1024x1024.Idx) : (outsAt0 m c t.val t.isLt).2.2 j
    = 0 + PART (iblk m c 1 t) (iblk m c 2 t) (iblk m c 0 t) j := by
  rw [outsAt0_A m c t h]
  frame_out
  rw [View.readCov_skip _ _ _ _ _ rfl, View.readCov_fill _ _ _ _ _ (by decide), View.readCov_fill _ _ _ _ _ (by decide)]
  by_cases hj : (j 0 : ℕ) < 512
  · obtain_idx x : S512x1024 := [(j 0 : ℕ), (j 1 : ℕ)] with hx
    rw [View.canon_cons_of_not_mem _ _ (by
      mem_blk
      intro hm
      have h0 : 512 ≤ (j 0 : ℕ) := (hm 0).1
      omega)]
    have e : j = (Rect.unit (s := S1024x1024) ![0, 0] S512x1024.size inb_S1024x1024_S512x1024_0_0).emb x := by blk_ext
    rw [e, View.canon_cons_emb, pay1, ← part_lo _ _ _ _ x _ (by blk_simp <;> omega) (by blk_simp <;> omega)]
    congr 1
    pointwise [k0_pay3]
  · obtain_idx x : S512x1024 := [(j 0 : ℕ) - 512, (j 1 : ℕ)] with hx
    have e : j = (Rect.unit (s := S1024x1024) ![512, 0] S512x1024.size inb_S1024x1024_S512x1024_512_0).emb x := by blk_ext
    rw [e, View.canon_cons_emb, pay2, ← part_hi _ _ _ _ x _ (by blk_simp <;> omega) (by blk_simp <;> omega)]
    congr 1
    pointwise [k0_pay3]

/-- The weight's gradient. -/
theorem final6 (c : Dev nD) : (dats m 0 c).arrAt 6 cfg0.N
    = val_main_v3 (F := Ideal) (m ((c : Thread nD τ).loc main_arg0)) (m ((c : Thread nD τ).loc main_arg1)) (m ((c : Thread nD τ).loc main_arg3)) := by
  refine (dats m 0 c).arrAt_eq_of_after_last 6 t0_4 (by decide +kernel) _ fun j => ?_
  blk_simp
  rw [after0_6, Pipeline.eq_sum_fin_of_reset_step_apply_last (fun n h => (outsAt0 m c n h).2.2) 5 (fun _ => 0) _
    (stepA m c) (stepB m c) (le_of_eq N_0) t0_4 rfl j, zero_add]
  rw [val_main_v3_apply, val_main_v2_apply]
  unfold PART
  refine Fin.sum_mul_add_congr fun s k hl => ?_
  rw [mul_comm]
  pointwise [val_main_v0]
  blk_point [iblk, V, idx s]
  all_goals (exfalso; omega)

end Cert.BwdOutIdeal.Sums
-- ==== Proof.BwdOut.Equation.lean ====
/-
  The backward pass of the out-projection: the kernel's run ends with the reference's three arrays.
-/
module

public import proofs.«01_k».proof.Proof.BwdOut.Sums
public import proofs.«01_k».proof.Defs

@[expose] public section

set_option maxRecDepth 16384

noncomputable section

namespace Cert.BwdOutIdeal.Equation

open Cert.BwdOutIdeal Cert.BwdOutIdeal.Gen Idealize.ShloMosaic Idealize.ShloMosaic.TcCoe Idealize.SL.Sem
open Cert.BwdOutRefIdeal.Read Cert.BwdOutIdeal.Sums

/-- Started on the same arguments, the kernel and the reference end with the same three gradients. -/
theorem algebraic : Cert.algebraic_BwdOutIdeal_BwdOutRefIdeal := by
  intro m g m' g' _ ha
  refine ⟨fun c => val_main_v8 (F := Ideal) (m ((c : Thread nD τ).loc main_arg2)) (m ((c : Thread nD τ).loc main_arg3)),
    fun c => val_main_v6 (F := Ideal) (m ((c : Thread nD τ).loc main_arg2)) (m ((c : Thread nD τ).loc main_arg3)),
    fun c => val_main_v3 (F := Ideal) (m ((c : Thread nD τ).loc main_arg0)) (m ((c : Thread nD τ).loc main_arg1))
      (m ((c : Thread nD τ).loc main_arg3)), ?_, ?_⟩
  · refine (θ_run _ _ _).mono (fun r h c => ?_) (Cert.BwdOutIdeal.Value.run_blocks (F := Ideal) m g)
    obtain ⟨h0, h1, h2, hr⟩ := h c
    exact ⟨h0.trans (final4 m c), h1.trans (final5 m c), h2.trans (final6 m c), hr⟩
  · refine (θ_run _ _ _).mono (fun r h c => ?_) (Cert.BwdOutRefIdeal.Value.run (F := Ideal) m' g')
    obtain ⟨e0, e1, e2, e3⟩ := ha c
    obtain ⟨h0, h1, h2, hr⟩ := h c
    refine ⟨h0.trans ((val_main_v8_eq _ _).trans ?_), h1.trans ((val_main_v6_eq _ _).trans ?_),
      h2.trans ((val_main_v3_eq _ _ _).trans ?_), hr⟩
    · rw [e2, e3]
    · rw [e2, e3]
    · rw [e0, e1, e3]

end Cert.BwdOutIdeal.Equation
-- ==== Proof.BwdIn.Sums.lean ====
/-
  The backward pass of the in-projection and its norm: what the kernel leaves in its three output arrays, against the
  reference.
-/
module

public import proofs.«01_k».proof.Proof.Gen.BwdInIdeal.Value
public import proofs.«01_k».proof.Proof.Gen.BwdInRefIdeal.Read
public import proofs.«01_k».proof.Proof.Real.Norm
public import Idealize.ShloMosaic.Lib.Pipeline.ReadBack

@[expose] public section

set_option maxRecDepth 16384

noncomputable section

namespace Cert.BwdInIdeal.Sums

open Cert.BwdInIdeal Cert.BwdInIdeal.Gen Idealize.ShloMosaic Idealize.ShloMosaic.TcCoe Idealize.SL.Sem
open Cert.BwdInRefIdeal.Read Cert.Norm

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] :=
  (by decide +kernel : ∀ t : Fin grid0.N, _)

/-! ## The parts -/

/-- The gradient of the normalised input at row `r`, column `k`: the two halves of the product with the weight's row. -/
def DN (u v : FVec Ideal S4160x512 .f32) (w : FVec Ideal S1024x1024 .f32) (r : Fin 4160) (k : Fin 1024) : EReal :=
  (∑ j : Fin 512, u (ix2 r j) * w (ix2 k ⟨(j : ℕ), by omega⟩)) + ∑ j : Fin 512, v (ix2 r j) * w (ix2 k ⟨512 + (j : ℕ), by omega⟩)

/-- The same times the gain: the gradient of the input divided by its root mean square. -/
def DX (u v : FVec Ideal S4160x512 .f32) (w : FVec Ideal S1024x1024 .f32) (g : FVec Ideal S1x1024 .f32) (r : Fin 4160) (k : Fin 1024) : EReal :=
  DN u v w r k * g (ix2 0 k)

/-- Row `r` of the input. -/
def ROW (h : FVec Ideal S4160x1024 .f32) (r : Fin 4160) (k : Fin 1024) : EReal := h (ix2 r k)

/-- A row's number of entries, and the number under the root. -/
abbrev NN : EReal := Ideal.ofBits .f32 0x44800000#32
abbrev EE : EReal := Ideal.ofBits .f32 0x358637BD#32

abbrev LO : Rect S1024x1024 := Rect.unit (s := S1024x1024) ![0, 0] S1024x512.size inb_S1024x1024_S1024x512_0_0
abbrev HI : Rect S1024x1024 := Rect.unit (s := S1024x1024) ![0, 512] S1024x512.size inb_S1024x1024_S1024x512_0_512

/-- The tile's gradient of the normalised input. -/
abbrev dn1 (c : Dev nD) (t : Fin cfg0.N) : FVec Ideal S832x1024 .f32 :=
  k0_pay8 (F := Ideal) (iblk m c 0 t) (iblk m c 1 t) (View.ld (iblk m c 5 t) LO) (View.ld (iblk m c 5 t) HI)

theorem dn1_at (c : Dev nD) (t : Fin cfg0.N) (i : S832x1024.Idx) (r : Fin 4160) (k : Fin 1024)
    (hr : (r : ℕ) = t.val * 832 + i 0) (hk : (k : ℕ) = i 1) :
    dn1 m c t i = DN (m ((c : Thread nD τ).loc main_arg3)) (m ((c : Thread nD τ).loc main_arg4)) (m ((c : Thread nD τ).loc main_arg2)) r k := by
  pointwise [k0_pay8, k0_pay6, k0_pay7, DN]
  blk_point [iblk, V, idx t]

/-- The tile's reciprocal roots. -/
theorem r_at (c : Dev nD) (t : Fin cfg0.N) (i : S832x1.Idx) (r : Fin 4160) (hr : (r : ℕ) = t.val * 832 + i 0) :
    k0_pay9 (F := Ideal) (iblk m c 2 t) i = Ideal.rsqrt (SQ NN EE (ROW (m ((c : Thread nD τ).loc main_arg0)) r)) := by
  pointwise [k0_pay9, SQ, ROW]
  blk_point [iblk, V, idx t]

/-- The tile's normalised input, before the gain. -/
theorem xhat_at (c : Dev nD) (t : Fin cfg0.N) (i : S832x1024.Idx) (r : Fin 4160) (k : Fin 1024)
    (hr : (r : ℕ) = t.val * 832 + i 0) (hk : (k : ℕ) = i 1) :
    k0_pay10 (F := Ideal) (iblk m c 2 t) i
      = ROW (m ((c : Thread nD τ).loc main_arg0)) r k * Ideal.rsqrt (SQ NN EE (ROW (m ((c : Thread nD τ).loc main_arg0)) r)) := by
  pointwise [k0_pay10, k0_pay9, SQ, ROW]
  blk_point [iblk, V, idx t]

/-! ## The gradient of the input -/

theorem core6 (c : Dev nD) (t : Fin cfg0.N) (i : S832x1024.Idx) (r : Fin 4160) (k : Fin 1024)
    (hr : (r : ℕ) = t.val * 832 + i 0) (hk : (k : ℕ) = i 1) :
    k0_pay3 (F := Ideal) (dn1 m c t) (k0_pay9 (iblk m c 2 t)) (k0_pay10 (iblk m c 2 t)) (iblk m c 4 t) (iblk m c 3 t) i
      = ROW (m ((c : Thread nD τ).loc main_arg5)) r k + BWD NN EE (ROW (m ((c : Thread nD τ).loc main_arg0)) r)
          (DX (m ((c : Thread nD τ).loc main_arg3)) (m ((c : Thread nD τ).loc main_arg4)) (m ((c : Thread nD τ).loc main_arg2)) (m ((c : Thread nD τ).loc main_arg1)) r) k := by
  have e1 : ∀ q : Fin 1024, dn1 m c t (ix2 (i 0) q) = _ := fun q => dn1_at m c t (ix2 (i 0) q) r q hr rfl
  have e2 : ∀ q : Fin 1024, k0_pay10 (F := Ideal) (iblk m c 2 t) (ix2 (i 0) q) = _ := fun q => xhat_at m c t (ix2 (i 0) q) r q hr rfl
  have e3 := r_at m c t (ix2 (i 0) 0) r hr
  have f1 := dn1_at m c t i r k hr hk
  have f2 := xhat_at m c t i r k hr hk
  have e4 : ∀ q : Fin 1024, iblk m c 4 t (ix2 0 q) = m ((c : Thread nD τ).loc main_arg1) (ix2 0 q) := fun q => by
    blk_point [iblk, V, idx t]
  have e5 : iblk m c 3 t i = ROW (m ((c : Thread nD τ).loc main_arg5)) r k := by
    unfold ROW
    blk_point [iblk, V, idx t]
  obtain rfl : k = i 1 := Fin.ext hk
  generalize dn1 m c t = d at *
  generalize k0_pay9 (F := Ideal) (iblk m c 2 t) = z at *
  generalize k0_pay10 (F := Ideal) (iblk m c 2 t) = w at *
  pointwise [k0_pay3, BWD, DX]
  simp only [e5, e3, f1, f2, e1, e2]
  blk_point [iblk, V, idx t]

theorem sum_halves (f : Fin 1024 → EReal) :
    ∑ k : Fin 1024, f k = (∑ j : Fin 512, f ⟨(j : ℕ), by omega⟩) + ∑ j : Fin 512, f ⟨512 + (j : ℕ), by omega⟩ :=
  Fin.sum_univ_add (a := 512) (b := 512) f

/-- The two mixers' gradients side by side. -/
theorem v20_at (x3 x4 : FVec Ideal S4160x512 .f32) (e : S4160x1024.Idx) :
    val_main_v20 (F := Ideal) x3 x4 e = if h : (e 1 : ℕ) < 512 then x3 (ix2 (e 0) ⟨(e 1 : ℕ), h⟩)
      else x4 (ix2 (e 0) ⟨(e 1 : ℕ) - 512, by have := (e 1).isLt; simp at this; omega⟩) := by
  have h1 : (e 1 : ℕ) < 1024 := (e 1).isLt
  pointwise [val_main_v20, val_main_v19, val_main_v18, val_main_cst_3, val_main_cst_4]
  by_cases h : (e 1 : ℕ) < 512
  · rw [dif_pos h, dif_pos h, dif_neg (by omega), zero_add]
  · rw [dif_neg h, dif_neg h, dif_pos (by omega), add_zero]

/-- The reference's product with the transposed weight, its two halves side by side. -/
theorem v23_at (x2 : FVec Ideal S1024x1024 .f32) (x3 x4 : FVec Ideal S4160x512 .f32) (e : S4160x1024.Idx) :
    val_main_v23 (F := Ideal) x2 x3 x4 e = DN x3 x4 x2 (e 0) (e 1) := by
  rw [val_main_v23_apply]
  unfold DN
  rw [sum_halves]
  congr 1
  all_goals refine Finset.sum_congr rfl fun j _ => ?_
  · rw [v20_at]
    split
    · blk_point []
    · rename_i h
      exact absurd j.isLt h
  · rw [v20_at]
    split
    · rename_i h
      exact absurd (show 512 + (j : ℕ) < 512 from h) (by omega)
    · blk_point []

theorem v7_at (x0 : FVec Ideal S4160x1024 .f32) (e : Cert.BwdInRefIdeal.S4160x1.Idx) :
    val_main_v7 (F := Ideal) x0 e = Ideal.rsqrt (SQ NN EE (ROW x0 (e 0))) := by
  pointwise [val_main_v7, val_main_v6, val_main_v5, val_main_cst_1, val_main_v4, val_main_v3, val_main_cst_0, val_main_v2,
    val_main_v1, val_main_cst, val_main_v0, SQ, ROW]

theorem v6_at (x0 : FVec Ideal S4160x1024 .f32) (e : Cert.BwdInRefIdeal.S4160x1.Idx) :
    val_main_v6 (F := Ideal) x0 e = SQ NN EE (ROW x0 (e 0)) := by
  pointwise [val_main_v6, val_main_v5, val_main_cst_1, val_main_v4, val_main_v3, val_main_cst_0, val_main_v2,
    val_main_v1, val_main_cst, val_main_v0, SQ, ROW]

/-- The reference's gradient of the input at an entry. -/
theorem v43_at (x0 : FVec Ideal S4160x1024 .f32) (x1 : FVec Ideal S1x1024 .f32) (x2 : FVec Ideal S1024x1024 .f32)
    (x3 x4 : FVec Ideal S4160x512 .f32) (x5 : FVec Ideal S4160x1024 .f32) (e : S4160x1024.Idx) :
    val_main_v43 (F := Ideal) x0 x1 x2 x3 x4 x5 e
      = VJP NN EE (Ideal.ofBits .f32 0xBF000000#32) (x5 e) (ROW x0 (e 0)) (DX x3 x4 x2 x1 (e 0)) (e 1) := by
  have e1 : ∀ q : Fin 1024, val_main_v23 (F := Ideal) x2 x3 x4 (ix2 (e 0) q) = _ := fun q => v23_at x2 x3 x4 (ix2 (e 0) q)
  have f1 := v23_at x2 x3 x4 e
  have e2 := v7_at x0 (ix2 (e 0) (0 : Fin 1))
  have e3 := v6_at x0 (ix2 (e 0) (0 : Fin 1))
  pointwise [val_main_v43, val_main_v42, val_main_v41, val_main_v40, val_main_v39, val_main_v38, val_main_cst_8, val_main_v37,
    val_main_v36, val_main_cst_7, val_main_v35, val_main_v34, val_main_v33, val_main_v32, val_main_v31, val_main_v30,
    val_main_cst_6, val_main_v29, val_main_v28, val_main_v27, val_main_v10, val_main_v9, val_main_cst_2, val_main_v8, VJP, DSQ, DX]
  have f0 : x0 e = ROW x0 (e 0) (e 1) := congrArg x0 (by blk_ext)
  simp only [Fin.sum_univ_one, e1, f1, e2, e3, f0]
  rfl

/-- The reference's gradient of the input in the kernel's form. -/
theorem v43_bwd (x0 : FVec Ideal S4160x1024 .f32) (x1 : FVec Ideal S1x1024 .f32) (x2 : FVec Ideal S1024x1024 .f32)
    (x3 x4 : FVec Ideal S4160x512 .f32) (x5 : FVec Ideal S4160x1024 .f32)
    (e : S4160x1024.Idx) :
    val_main_v43 (F := Ideal) x0 x1 x2 x3 x4 x5 e = ROW x5 (e 0) (e 1) + BWD NN EE (ROW x0 (e 0)) (DX x3 x4 x2 x1 (e 0)) (e 1) := by
  obtain ⟨e', he', he⟩ := eps_pos
  rw [v43_at]
  refine (vjp_eq n1024 he (by norm_num) he' neg_half _ _ _ _).trans ?_
  congr 1
  unfold ROW
  blk_point []

theorem after6 (c : Dev nD) (t : Fin cfg0.N) (y : S832x1024.Idx) : (outsAt0 m c t.val t.isLt).1 y
    = k0_pay3 (F := Ideal) (dn1 m c t) (k0_pay9 (iblk m c 2 t)) (k0_pay10 (iblk m c 2 t)) (iblk m c 4 t) (iblk m c 3 t) y := by
  by_cases h : t.val % 5 = 0
  · rw [outsAt0_A m c t h]
    frame_out
    rfl
  · rw [outsAt0_B m c t h]
    frame_out
    rfl

/-- The gradient of the input. -/
theorem final6 (c : Dev nD) :
    (dats m 0 c).arrAt 6 cfg0.N
    = val_main_v43 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, after6, v43_bwd]
  refine core6 m c t y _ _ ?_ ?_
  all_goals (blk_simp [idx t] <;> try omega)

/-! ## The gradient of the weight -/

/-- One row block's part: the normalised input, transposed, times the two mixers' gradients side by side. -/
def PARTW (x : FVec Ideal S832x1024 .bf16) (u v : FVec Ideal S832x512 .f32) (j : S1024x1024.Idx) : EReal :=
  ∑ r : Fin 832, x (ix2 r (j 0)) * (if h : (j 1 : ℕ) < 512 then u (ix2 r ⟨(j 1 : ℕ), h⟩)
    else v (ix2 r ⟨(j 1 : ℕ) - 512, by have := (j 1).isLt; simp at this; omega⟩))

theorem pay12 (u : Vec Ideal S832x512 .f32) (h : Vec Ideal S832x1024 .f32) (g : Vec Ideal S1x1024 .f32) (acc : Vec Ideal S1024x512 .f32) (x : S1024x512.Idx) :
    k0_pay12 u h g acc x = acc x + ∑ r : Fin 832, k0_pay11 h g (ix2 r (x 0)) * u (ix2 r (x 1)) := by
  generalize hX : k0_pay11 (F := Ideal) h g = X
  unfold k0_pay12
  rw [hX]
  pointwise [k0_pay6]

theorem pay1 (v : Vec Ideal S832x512 .f32) (X : FVec Ideal S832x1024 .bf16) (acc : Vec Ideal S1024x512 .f32) (x : S1024x512.Idx) :
    k0_pay1 (k0_pay7 v) X acc x = acc x + ∑ r : Fin 832, X (ix2 r (x 0)) * v (ix2 r (x 1)) := by
  pointwise [k0_pay1, k0_pay7]

/-- The left half's store is the part at its own entries. -/
theorem part_lo (acc : EReal) (X : FVec Ideal S832x1024 .bf16) (u v : FVec Ideal S832x512 .f32) (x : S1024x512.Idx) (j : S1024x1024.Idx)
    (h0 : (j 0 : ℕ) = x 0) (h1 : (j 1 : ℕ) = x 1) :
    acc + ∑ r : Fin 832, X (ix2 r (x 0)) * u (ix2 r (x 1)) = acc + PARTW X u v j := by
  have hx : (x 1 : ℕ) < 512 := (x 1).isLt
  unfold PARTW
  congr 1
  refine Finset.sum_congr rfl fun r _ => ?_
  rw [dif_pos (by omega)]
  blk_point []

theorem part_hi (acc : EReal) (X : FVec Ideal S832x1024 .bf16) (u v : FVec Ideal S832x512 .f32) (x : S1024x512.Idx) (j : S1024x1024.Idx)
    (h0 : (j 0 : ℕ) = x 0) (h1 : (j 1 : ℕ) = 512 + x 1) :
    acc + ∑ r : Fin 832, X (ix2 r (x 0)) * v (ix2 r (x 1)) = acc + PARTW X u v j := by
  unfold PARTW
  congr 1
  refine Finset.sum_congr rfl fun r _ => ?_
  rw [dif_neg (by omega)]
  blk_point []

theorem stepB7 (c : Dev nD) (t : Fin cfg0.N) (h : ¬ t.val % 5 = 0) (j : S1024x1024.Idx) : (outsAt0 m c t.val t.isLt).2.1 j
    = (outsAt0 m c (t.val - 1) (by omega)).2.1 j + PARTW (k0_pay11 (iblk m c 2 t) (iblk m c 4 t)) (iblk m c 0 t) (iblk m c 1 t) j := by
  rw [outsAt0_B m c t h]
  frame_out
  canon_tiles x h
  · rw [pay1, ← part_hi _ _ _ _ x j h0 h1]
    congr 1
    generalize (outsAt0 m c (t.val - 1) _).2.1 = a
    pointwise
    blk_ext
  · rw [pay12, ← part_lo _ _ _ _ x j h0 h1]
    congr 1
    generalize (outsAt0 m c (t.val - 1) _).2.1 = a
    pointwise
    blk_ext

theorem stepA7 (c : Dev nD) (t : Fin cfg0.N) (h : t.val % 5 = 0) (j : S1024x1024.Idx) : (outsAt0 m c t.val t.isLt).2.1 j
    = 0 + PARTW (k0_pay11 (iblk m c 2 t) (iblk m c 4 t)) (iblk m c 0 t) (iblk m c 1 t) j := by
  rw [outsAt0_A m c t h]
  frame_out
  rw [View.readCov_skip _ _ _ _ _ rfl, View.readCov_fill _ _ _ _ _ (by decide), View.readCov_fill _ _ _ _ _ (by decide)]
  by_cases hj : (j 1 : ℕ) < 512
  · obtain_idx x : S1024x512 := [(j 0 : ℕ), (j 1 : ℕ)] with hx
    rw [View.canon_cons_of_not_mem _ _ (by
      mem_blk
      intro hm
      have h0 : 512 ≤ (j 1 : ℕ) := (hm 1).1
      omega)]
    have e : j = LO.emb x := by blk_ext
    rw [e, View.canon_cons_emb, pay12, ← part_lo _ _ _ _ x _ (by blk_simp <;> omega) (by blk_simp <;> omega)]
    congr 1
    pointwise [k0_pay4]
  · obtain_idx x : S1024x512 := [(j 0 : ℕ), (j 1 : ℕ) - 512] with hx
    have e : j = HI.emb x := by blk_ext
    rw [e, View.canon_cons_emb, pay1, ← part_hi _ _ _ _ x _ (by blk_simp <;> omega) (by blk_simp <;> omega)]
    congr 1
    pointwise [k0_pay4]

/-- The normalised input of a tile is the reference's. -/
theorem x_at (c : Dev nD) (t : Fin cfg0.N) (i : S832x1024.Idx) (e : S4160x1024.Idx)
    (hr : (e 0 : ℕ) = t.val * 832 + i 0) (hk : (e 1 : ℕ) = i 1) :
    k0_pay11 (F := Ideal) (iblk m c 2 t) (iblk m c 4 t) i
      = val_main_v14 (F := Ideal) (m ((c : Thread nD τ).loc main_arg0)) (m ((c : Thread nD τ).loc main_arg1)) e := by
  have f := xhat_at m c t i (e 0) (e 1) hr hk
  have f2 : _ = Ideal.rsqrt (SQ NN EE (ROW (m ((c : Thread nD τ).loc main_arg0)) (e 0))) :=
    v7_at (m ((c : Thread nD τ).loc main_arg0)) (ix2 (e 0) (0 : Fin 1))
  unfold k0_pay11
  generalize k0_pay10 (F := Ideal) (iblk m c 2 t) = w at *
  pointwise [val_main_v14, val_main_v13, val_main_v12, val_main_v11]
  simp only [f, f2, ROW]
  blk_point [iblk, V, idx t]

/-- The weight's gradient. -/
theorem final7 (c : Dev nD) : (dats m 0 c).arrAt 7 cfg0.N
    = val_main_v22 (F := Ideal) (m ((c : Thread nD τ).loc main_arg0)) (m ((c : Thread nD τ).loc main_arg1)) (m ((c : Thread nD τ).loc main_arg3))
      (m ((c : Thread nD τ).loc main_arg4)) := by
  refine (dats m 0 c).arrAt_eq_of_after_last 7 t0_4 (by decide +kernel) _ fun j => ?_
  blk_simp
  rw [after0_7, Pipeline.eq_sum_fin_of_reset_step_apply_last (fun n h => (outsAt0 m c n h).2.1) 5 (fun _ => 0) _
    (stepA7 m c) (stepB7 m c) (le_of_eq N_0) t0_4 rfl j, zero_add]
  rw [val_main_v22_apply, val_main_v21_apply]
  unfold PARTW
  refine Fin.sum_mul_add_congr fun s k hl => ?_
  rw [mul_comm, v20_at]
  refine congrArg₂ (· * ·) ?_ (x_at m c s _ _ ?_ ?_)
  · by_cases h : (j 1 : ℕ) < 512
    · refine (dif_pos h).trans ?_
      rw [dif_pos h]
      blk_point [iblk, V, idx s]
    · refine (dif_neg h).trans ?_
      rw [dif_neg h]
      blk_point [iblk, V, idx s]
  all_goals (blk_simp [idx s] <;> try omega)

/-! ## The gradient of the gain -/

/-- One row block's part. -/
def PARTG (d x : FVec Ideal S832x1024 .f32) (j : S1x1024.Idx) : EReal := ∑ r : Fin 832, d (ix2 r (j 1)) * x (ix2 r (j 1))

theorem pay2 (d x : FVec Ideal S832x1024 .f32) (acc : Vec Ideal S1x1024 .f32) (j : S1x1024.Idx) :
    k0_pay2 d x acc j = acc j + PARTG d x j := by
  pointwise [k0_pay2, PARTG]

theorem stepB8 (c : Dev nD) (t : Fin cfg0.N) (h : ¬ t.val % 5 = 0) (j : S1x1024.Idx) : (outsAt0 m c t.val t.isLt).2.2 j
    = (outsAt0 m c (t.val - 1) (by omega)).2.2 j + PARTG (dn1 m c t) (k0_pay10 (iblk m c 2 t)) j := by
  rw [outsAt0_B m c t h]
  frame_out
  generalize (outsAt0 m c (t.val - 1) _).2.2 = a
  rw [pay2]
  rfl

theorem stepA8 (c : Dev nD) (t : Fin cfg0.N) (h : t.val % 5 = 0) (j : S1x1024.Idx) : (outsAt0 m c t.val t.isLt).2.2 j
    = 0 + PARTG (dn1 m c t) (k0_pay10 (iblk m c 2 t)) j := by
  rw [outsAt0_A m c t h]
  frame_out
  rw [pay2]
  congr 1
  pointwise [k0_pay5]

/-- The gain's gradient. -/
theorem final8 (c : Dev nD) : (dats m 0 c).arrAt 8 cfg0.N
    = val_main_v26 (F := Ideal) (m ((c : Thread nD τ).loc main_arg0)) (m ((c : Thread nD τ).loc main_arg2)) (m ((c : Thread nD τ).loc main_arg3))
      (m ((c : Thread nD τ).loc main_arg4)) := by
  refine (dats m 0 c).arrAt_eq_of_after_last 8 t0_4 (by decide +kernel) _ fun j => ?_
  blk_simp
  rw [after0_8, Pipeline.eq_sum_fin_of_reset_step_apply_last (fun n h => (outsAt0 m c n h).2.2) 5 (fun _ => 0) _
    (stepA8 m c) (stepB8 m c) (le_of_eq N_0) t0_4 rfl j, zero_add]
  rw [val_main_v26_apply, val_main_v25_apply]
  unfold PARTG
  pointwise [val_main_v24, val_main_v12, val_main_v11, val_main_cst_5]
  refine Fin.sum_mul_add_congr fun s k hl => ?_
  rw [mul_comm, v23_at, v7_at]
  refine congrArg₂ (· * ·) ((xhat_at m c s _ ⟨s.val * 832 + k.val, hl⟩ (j 1) ?_ rfl).trans ?_)
    (dn1_at m c s _ _ _ ?_ ?_)
  · rfl
  · unfold ROW
    blk_point []
  · rfl
  · have h0 : (j 0 : ℕ) < 1 := (j 0).isLt
    have h1 : (j 1 : ℕ) < 1024 := (j 1).isLt
    blk_simp [idx_main_v25, idx_main_v26]

end Cert.BwdInIdeal.Sums
-- ==== Proof.BwdIn.Equation.lean ====
/-
  The backward pass of the in-projection and its norm: the kernel's run ends with the reference's three arrays.
-/
module

public import proofs.«01_k».proof.Proof.BwdIn.Sums
public import proofs.«01_k».proof.Defs

@[expose] public section

set_option maxRecDepth 16384

noncomputable section

namespace Cert.BwdInIdeal.Equation

open Cert.BwdInIdeal Cert.BwdInIdeal.Gen Idealize.ShloMosaic Idealize.ShloMosaic.TcCoe Idealize.SL.Sem
open Cert.BwdInRefIdeal.Read Cert.BwdInIdeal.Sums Cert.Norm

/-- Started on the same arguments, the kernel and the reference end with the same three gradients. -/
theorem algebraic : Cert.algebraic_BwdInIdeal_BwdInRefIdeal := by
  intro m g m' g' _ ha
  refine ⟨fun c => val_main_v43 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    fun c => val_main_v22 (F := Ideal) (m ((c : Thread nD τ).loc main_arg0)) (m ((c : Thread nD τ).loc main_arg1)) (m ((c : Thread nD τ).loc main_arg3))
      (m ((c : Thread nD τ).loc main_arg4)),
    fun c => val_main_v26 (F := Ideal) (m ((c : Thread nD τ).loc main_arg0)) (m ((c : Thread nD τ).loc main_arg2)) (m ((c : Thread nD τ).loc main_arg3))
      (m ((c : Thread nD τ).loc main_arg4)), ?_, ?_⟩
  · refine (θ_run _ _ _).mono (fun r h c => ?_) (Cert.BwdInIdeal.Value.run_blocks (F := Ideal) m g)
    obtain ⟨h0, h1, h2, hr⟩ := h c
    exact ⟨h0.trans (final6 m c),
      h1.trans (final7 m c), h2.trans (final8 m c), hr⟩
  · refine (θ_run _ _ _).mono (fun r h c => ?_) (Cert.BwdInRefIdeal.Value.run (F := Ideal) m' g')
    obtain ⟨e0, e1, e2, e3, e4, e5⟩ := ha c
    obtain ⟨h0, h1, h2, hr⟩ := h c
    refine ⟨h0.trans ((val_main_v43_eq m' c).trans ?_), h1.trans ((val_main_v22_eq _ _ _ _).trans ?_),
      h2.trans ((val_main_v26_eq _ _ _ _).trans ?_), hr⟩
    · rw [e0, e1, e2, e3, e4, e5]
    · rw [e0, e1, e3, e4]
    · rw [e0, e2, e3, e4]

end Cert.BwdInIdeal.Equation
-- ==== Proof.FwdIn.Equation.lean ====
/-
  The in-projection: the kernel's two outputs, tile by tile of 832 rows, are the reference's `rmsnorm(h) @ w_in`.
-/
module

public import proofs.«01_k».proof.Proof.Gen.FwdInIdeal.Value
public import proofs.«01_k».proof.Proof.Gen.FwdInRefIdeal.Read
public import proofs.«01_k».proof.Defs
public import Idealize.ShloMosaic.Lib.Pipeline.ValueKit

@[expose] public section

set_option maxRecDepth 16384

noncomputable section

namespace Cert.FwdInIdeal.Equation

open Cert.FwdInIdeal Cert.FwdInIdeal.Gen Idealize.ShloMosaic Idealize.ShloMosaic.TcCoe Idealize.SL.Sem
open Cert.FwdInRefIdeal.Read

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, t.val, 0] ∧ win0_4.index t = ![t.val, 0] :=
  (by decide +kernel : ∀ t : Fin grid0.N, _)

/-- The tile's product at an entry is the reference's product at the entry's row of the whole array. -/
theorem core (c : Dev nD) (t : Fin cfg0.N) (i : S832x1024.Idx) (j : S4160x1024.Idx)
    (hj0 : (j 0 : ℕ) = t.val * 832 + i 0) (hj1 : (j 1 : ℕ) = i 1) :
    k0_pay2 (F := Ideal) (iblk m c 0 t) (iblk m c 1 t) (iblk m c 2 t) i
      = val_main_v12 (F := Ideal) (m ((c : Thread nD τ).loc main_arg0)) (m ((c : Thread nD τ).loc main_arg1))
          (m ((c : Thread nD τ).loc main_arg2)) j := by
  pointwise [k0_pay2, val_main_v12, val_main_v11, val_main_v10, val_main_v9, val_main_v8, val_main_v7, val_main_v6,
    val_main_v5, val_main_cst_1, val_main_v4, val_main_v3, val_main_cst_0, val_main_v2, val_main_v1, val_main_cst,
    val_main_v0]
  blk_point [iblk, V, idx t]

/-- The reference's second result is columns 512 and on of the product. -/
theorem v_at (x0 : FVec Ideal S4160x1024 .f32) (x1 : FVec Ideal S1x1024 .f32) (x2 : FVec Ideal S1024x1024 .f32) (e : S4160x512.Idx) :
    val_main_v14 (F := Ideal) x0 x1 x2 e
      = val_main_v12 (F := Ideal) x0 x1 x2 (ix2 (e 0) ⟨512 + (e 1).val, by have := (e 1).isLt; simp at this; omega⟩) := by
  rw [val_main_v14_apply]
  generalize val_main_v12 (F := Ideal) x0 x1 x2 = z
  blk_ext

/-- The reference's first result is the first 512 columns in four lane groups. -/
theorem u_at (x0 : FVec Ideal S4160x1024 .f32) (x1 : FVec Ideal S1x1024 .f32) (x2 : FVec Ideal S1024x1024 .f32) (e : S4x4160x128.Idx) :
    val_main_v16 (F := Ideal) x0 x1 x2 e
      = val_main_v12 (F := Ideal) x0 x1 x2 (ix2 (e 1) ⟨(e 0).val * 128 + (e 2).val, by
          have := (e 0).isLt; have := (e 2).isLt; simp at *; omega⟩) := by
  rw [val_main_v16_apply, val_main_v15_apply, val_main_v13_apply]
  generalize val_main_v12 (F := Ideal) x0 x1 x2 = z
  blk_ext

/-- The last 512 columns are the pool mixer's input. -/
theorem final4 (c : Dev nD) : (dats m 0 c).arrAt 4 cfg0.N
    = val_main_v14 (F := Ideal) (m ((c : Thread nD τ).loc main_arg0)) (m ((c : Thread nD τ).loc main_arg1))
          (m ((c : Thread nD τ).loc main_arg2)) := by
  refine (dats m 0 c).arrAt_eq_of_covers 4 _ (by decide +kernel) fun t hf y => ?_
  blk_simp
  rw [after0_4]
  unfold Gen.outsAt0
  frame_out
  rw [v_at]
  refine Eq.trans (b := k0_pay2 (F := Ideal) (iblk m c 0 t) (iblk m c 1 t) (iblk m c 2 t) (ix2 (y 0) ⟨512 + (y 1).val, by have := (y 1).isLt; simp at this; omega⟩)) ?_ (core m c t _ _ ?_ ?_)
  · open_payloads
    pointwise
    blk_ext
  all_goals (blk_simp [idx t] <;> try omega)

/-- The first 512 columns, in four lane groups, are the S5 mixer's input. -/
theorem final3 (c : Dev nD) : (dats m 0 c).arrAt 3 cfg0.N
    = val_main_v16 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  unfold Gen.outsAt0
  frame_out
  rw [u_at]
  obtain_idx i : S832x1024 := [(y 1 : ℕ), (y 0 : ℕ) * 128 + (y 2 : ℕ)] with hi
  refine Eq.trans (b := k0_pay2 (F := Ideal) (iblk m c 0 t) (iblk m c 1 t) (iblk m c 2 t) i) ?_ (core m c t i _ ?_ ?_)
  · canon_tiles x h
    all_goals (open_payloads; pointwise; blk_ext)
  all_goals (blk_simp [idx t, hi0, hi1] <;> try omega)

/-- Started on the same arguments, the kernel and the reference end with the same two arrays. -/
theorem algebraic : Cert.algebraic_FwdInIdeal_FwdInRefIdeal := by
  intro m g m' g' _ ha
  refine ⟨fun c => val_main_v16 (F := Ideal) (m ((c : Thread nD τ).loc main_arg0)) (m ((c : Thread nD τ).loc main_arg1))
      (m ((c : Thread nD τ).loc main_arg2)),
    fun c => val_main_v14 (F := Ideal) (m ((c : Thread nD τ).loc main_arg0)) (m ((c : Thread nD τ).loc main_arg1))
      (m ((c : Thread nD τ).loc main_arg2)), ?_, ?_⟩
  · refine (θ_run _ _ _).mono (fun r h c => ?_) (Cert.FwdInIdeal.Value.run_blocks (F := Ideal) m g)
    obtain ⟨h0, h1, hr⟩ := h c
    exact ⟨h0.trans (final3 m c), h1.trans (final4 m c), hr⟩
  · refine (θ_run _ _ _).mono (fun r h c => ?_) (Cert.FwdInRefIdeal.Value.run (F := Ideal) m' g')
    obtain ⟨e0, e1, e2⟩ := ha c
    obtain ⟨h0, h1, hr⟩ := h c
    refine ⟨h0.trans ((val_main_v16_eq _ _ _).trans ?_), h1.trans ((val_main_v14_eq _ _ _).trans ?_), hr⟩ <;> rw [e0, e1, e2]

end Cert.FwdInIdeal.Equation
-- ==== Proof.Real.Window.lean ====
/-
  Sums over a window that ends at a row: the difference of two running sums, and the window's terms one by one.
-/
module

public import proofs.«01_k».proof.Proof.Real.Pool

@[expose] public section

noncomputable section

namespace Cert.Pool

open Idealize.ShloMosaic Cert.Norm

/-- A sequence moved sixteen places on, with zeros before it. -/
def bk (X : ℕ → EReal) (n : ℕ) : EReal := if 16 ≤ n then X (n - 16) else 0

/-- A window's quotient by the number of its rows, less the row. -/
def FE (X : ℕ → EReal) (w l : ℕ) (x : EReal) : EReal :=
  Ideal.div (∑ n ∈ Finset.range w, bk X (l + 16 - n)) (((min (l + 1) w : ℕ) : ℝ) : EReal) - x

theorem back_real (R : ℕ → ℝ) (l w : ℕ) :
    ∑ n ∈ Finset.range (l + 1), R n - ∑ n ∈ Finset.range (l + 1 - w), R n
      = ∑ n ∈ Finset.range w, if 16 ≤ l + 16 - n then R (l + 16 - n - 16) else 0 := by
  induction w with
  | zero => simp
  | succ w ih =>
    rw [Finset.sum_range_succ (fun n => if 16 ≤ l + 16 - n then R (l + 16 - n - 16) else 0) w, ← ih]
    by_cases h : w ≤ l
    · rw [if_pos (by omega), show l + 1 - w = l - w + 1 by omega, show l + 1 - (w + 1) = l - w by omega,
        show l + 16 - w - 16 = l - w by omega, Finset.sum_range_succ _ (l - w)]
      ring
    · rw [if_neg (by omega), show l + 1 - w = 0 by omega, show l + 1 - (w + 1) = 0 by omega, add_zero]

/-- The sum up to a row less the sum up to the row a window's length before is the sum over the window. -/
theorem back (X : ℕ → EReal) (hf : ∀ n, Fin' (X n)) (l w : ℕ) :
    ∑ n ∈ Finset.range (l + 1), X n - ∑ n ∈ Finset.range (l + 1 - w), X n = ∑ n ∈ Finset.range w, bk X (l + 16 - n) := by
  choose R hR using hf
  have e : ∀ n, bk X n = ((if 16 ≤ n then R (n - 16) else 0 : ℝ) : EReal) := fun n => by
    unfold bk
    split
    · exact hR _
    · rfl
  simp only [hR, e]
  rw [coe_sum, coe_sum, coe_sum, ← EReal.coe_sub, back_real]

end Cert.Pool
-- ==== Proof.PoolFwd.Ref.lean ====
/-
  The pooling mixer: the reference's stages, entry by entry.
-/
module

public import proofs.«01_k».proof.Proof.Gen.PoolFwdRefIdeal.Read
public import proofs.«01_k».proof.Proof.Real.Window
public import Idealize.ShloMosaic.Lib.Pipeline.ValueKit

@[expose] public section

set_option maxRecDepth 16384

noncomputable section

namespace Cert.PoolFwdRefIdeal.Rows

open Cert.PoolFwdRefIdeal Cert.PoolFwdRefIdeal.Gen Cert.PoolFwdRefIdeal.Read Idealize.ShloMosaic Idealize.ShloMosaic.TcCoe Idealize.SL.Sem
open Cert.Norm Cert.Pool

/-! ## The sums up to a row -/

theorem foldl_add {ι : Type*} (L : List ι) (g : ι → EReal) (v : EReal) : L.foldl (fun r n => r + g n) v = v + (L.map g).sum := by
  induction L generalizing v with
  | nil => simp
  | cons a L ih => rw [List.foldl_cons, ih, List.map_cons, List.sum_cons, add_assoc]

theorem win_row (n : Fin (⟨3, ![4160, 1, 1]⟩ : Shape).numel) : ((⟨3, ![4160, 1, 1]⟩ : Shape).rowMajor.symm n 0).val = n.val
    ∧ ((⟨3, ![4160, 1, 1]⟩ : Shape).rowMajor.symm n 1).val = 0 ∧ ((⟨3, ![4160, 1, 1]⟩ : Shape).rowMajor.symm n 2).val = 0 := by
  have e := Shape.rowMajor_val_three ((⟨3, ![4160, 1, 1]⟩ : Shape).rowMajor.symm n)
  rw [Equiv.apply_symm_apply] at e
  have h1 : ((⟨3, ![4160, 1, 1]⟩ : Shape).rowMajor.symm n 1).val < 1 := ((⟨3, ![4160, 1, 1]⟩ : Shape).rowMajor.symm n 1).isLt
  have h2 : ((⟨3, ![4160, 1, 1]⟩ : Shape).rowMajor.symm n 2).val < 1 := ((⟨3, ![4160, 1, 1]⟩ : Shape).rowMajor.symm n 2).isLt
  simp at e
  omega

/-- The window of the whole height, padded at the start: an entry holds the sum of its column's last rows up to its own. -/
theorem prefix_at (x : S4160x4x128.Idx → EReal) (h : S4160x4x128.ReduceWindows (![4160, 1, 1] : Fin 3 → Nat) ![1, 1, 1] ![4159, 0, 0] ![0, 0, 0] S4160x4x128)
    (l : Fin 4160) (q : Fin 4) (d : Fin 128) :
    Ideal.hostReduceWindowAdd ![4160, 1, 1] ![1, 1, 1] ![4159, 0, 0] ![0, 0, 0] h x 0 (ix3 l q d)
      = ∑ n ∈ Finset.range 4160, if hn : 4159 ≤ l.val + n ∧ l.val + n - 4159 < 4160 then x (ix3 ⟨l.val + n - 4159, hn.2⟩ q d) else 0 := by
  have hN : (⟨3, ![4160, 1, 1]⟩ : Shape).numel = 4160 := (Fin.prod_univ_three _).trans rfl
  unfold Ideal.hostReduceWindowAdd Host.reduceWindow
  refine (foldl_add _ _ _).trans ?_
  rw [zero_add, ← Fin.sum_univ_def]
  refine Eq.trans (Finset.sum_congr rfl fun n _ => ?_)
    ((Fin.sum_univ_eq_sum_range (fun n => if hn : 4159 ≤ l.val + n ∧ l.val + n - 4159 < 4160 then x (ix3 ⟨l.val + n - 4159, hn.2⟩ q d) else 0) _).trans (by rw [hN]))
  obtain ⟨w0, w1, w2⟩ := win_row n
  have hq := q.isLt
  have hd := d.isLt
  by_cases hl : 4159 ≤ l.val + n.val ∧ l.val + n.val - 4159 < 4160
  · rw [dif_pos hl, dif_pos (fun a => by
      match a with
      | ⟨0, _⟩ =>
        show 4159 ≤ l.val * 1 + ((⟨3, ![4160, 1, 1]⟩ : Shape).rowMajor.symm n 0).val ∧ l.val * 1 + ((⟨3, ![4160, 1, 1]⟩ : Shape).rowMajor.symm n 0).val - 4159 < 4160
        omega
      | ⟨1, _⟩ =>
        show 0 ≤ q.val * 1 + ((⟨3, ![4160, 1, 1]⟩ : Shape).rowMajor.symm n 1).val ∧ q.val * 1 + ((⟨3, ![4160, 1, 1]⟩ : Shape).rowMajor.symm n 1).val - 0 < 4
        omega
      | ⟨2, _⟩ =>
        show 0 ≤ d.val * 1 + ((⟨3, ![4160, 1, 1]⟩ : Shape).rowMajor.symm n 2).val ∧ d.val * 1 + ((⟨3, ![4160, 1, 1]⟩ : Shape).rowMajor.symm n 2).val - 0 < 128
        omega)]
    refine congrArg x (funext fun a => Fin.ext ?_)
    match a with
    | ⟨0, _⟩ =>
      show l.val * 1 + ((⟨3, ![4160, 1, 1]⟩ : Shape).rowMajor.symm n 0).val - 4159 = l.val + n.val - 4159
      omega
    | ⟨1, _⟩ =>
      show q.val * 1 + ((⟨3, ![4160, 1, 1]⟩ : Shape).rowMajor.symm n 1).val - 0 = q.val
      omega
    | ⟨2, _⟩ =>
      show d.val * 1 + ((⟨3, ![4160, 1, 1]⟩ : Shape).rowMajor.symm n 2).val - 0 = d.val
      omega
  · rw [dif_neg hl, dif_neg (fun ha => hl (by
      have h0 : 4159 ≤ l.val * 1 + ((⟨3, ![4160, 1, 1]⟩ : Shape).rowMajor.symm n 0).val ∧ l.val * 1 + ((⟨3, ![4160, 1, 1]⟩ : Shape).rowMajor.symm n 0).val - 4159 < 4160 := ha 0
      omega))]

theorem prefix_sum (X : ℕ → EReal) (l : ℕ) (hl : l < 4160) :
    (∑ n ∈ Finset.range 4160, if 4159 ≤ l + n then X (l + n - 4159) else 0) = ∑ n ∈ Finset.range (l + 1), X n := by
  rw [show 4160 = (4159 - l) + (l + 1) by omega, Finset.sum_range_add, Finset.sum_eq_zero (fun n hn => if_neg (by
    have := Finset.mem_range.mp hn
    omega)), zero_add]
  exact Finset.sum_congr rfl fun n _ => (if_pos (by omega)).trans (congrArg X (by omega))

/-! ## The number of rows in a window -/

theorem cnt (n : ℕ) (hn : n < 4160) (c : ℕ) (b : BitVec 32) (hb : Ideal.ofBits .f32 b = ((c : ℝ) : EReal)) :
    min (1 + FloatOps.sitofp (F := Ideal) .f32 (BitVec.ofNat 32 n)) (Ideal.ofBits .f32 b) = (((min (n + 1) c : ℕ) : ℝ) : EReal) := by
  have h1 : FloatOps.sitofp (F := Ideal) .f32 (BitVec.ofNat 32 n) = ((n : ℝ) : EReal) := by
    show (((BitVec.ofNat 32 n).toInt : ℝ) : EReal) = _
    have h : (BitVec.ofNat 32 n).toInt = n := by
      rw [BitVec.toInt_eq_toNat_of_lt (by rw [BitVec.toNat_ofNat]; omega), BitVec.toNat_ofNat]
      omega
    rw [h, Int.cast_natCast]
  rw [h1, hb, ← EReal.coe_one, ← EReal.coe_add]
  rw [Nat.cast_min, Nat.cast_add, Nat.cast_one, add_comm (1 : ℝ)]
  exact (EReal.coe_strictMono.monotone.map_min).symm

theorem b2 : Ideal.ofBits .f32 0x40000000#32 = (((2 : ℕ) : ℝ) : EReal) := by
  simp [Ideal.ofBits, Ideal.ieee, -EReal.coe_mul]; norm_num
theorem b4 : Ideal.ofBits .f32 0x40800000#32 = (((4 : ℕ) : ℝ) : EReal) := by
  simp [Ideal.ofBits, Ideal.ieee, -EReal.coe_mul]; norm_num
theorem b8 : Ideal.ofBits .f32 0x41000000#32 = (((8 : ℕ) : ℝ) : EReal) := by
  simp [Ideal.ofBits, Ideal.ieee, -EReal.coe_mul]; norm_num
theorem b16 : Ideal.ofBits .f32 0x41800000#32 = (((16 : ℕ) : ℝ) : EReal) := by
  simp [Ideal.ofBits, Ideal.ieee, -EReal.coe_mul]; norm_num

variable (x0 : FVec Ideal S4160x512 .f32) (x1 : FVec Ideal S4x128x128 .f32) (x2 : FVec Ideal S4x128 .f32) (x3 : FVec Ideal S512 .f32)

/-- A column of the input, zero beyond the last row. -/
def vn (j : Fin 512) (n : ℕ) : EReal := if h : n < 4160 then x0 (ix2 ⟨n, h⟩ j) else 0

/-- An entry of the running sums. -/
theorem v1_at (l : Fin 4160) (q : Fin 4) (d : Fin 128) :
    val_main_v1 (F := Ideal) x0 (ix3 l q d) = ∑ n ∈ Finset.range (l.val + 1), vn x0 (cc q d) n := by
  have h0 : val_main_call0_call0_v0 (F := Ideal) = fun _ => 0 := by
    funext i
    pointwise [val_main_call0_call0_v0, val_main_call0_call0_cst]
  refine Eq.trans ?_ ((prefix_at (val_main_v0 (F := Ideal) x0) reduceWindows_S4160x4x128_S4160x4x128_w4160s1p4159_0_w1s1p0_0_w1s1p0_0 l q d).trans
    (Eq.trans (Finset.sum_congr rfl fun n _ => ?_) (prefix_sum (vn x0 (cc q d)) l.val l.isLt)))
  · unfold val_main_v1 Host.reduceWindowAdd
    rw [h0]
    rfl
  · have hl := l.isLt
    by_cases h : 4159 ≤ l.val + n ∧ l.val + n - 4159 < 4160
    · rw [dif_pos h, if_pos h.1]
      unfold vn
      rw [dif_pos h.2]
      pointwise [val_main_v0]
      rfl
    · rw [dif_neg h]
      by_cases h' : 4159 ≤ l.val + n
      · rw [if_pos h']
        unfold vn
        rw [dif_neg (fun h2 => h ⟨h', h2⟩)]
      · rw [if_neg h']

/-- A feature of the reference. -/
abbrev fe (l : Fin 4160) (q : Fin 4) (d : Fin 128) : EReal := FE (vn x0 (cc q d)) (2 ^ (q.val + 1)) l.val (x0 (ix2 l (cc q d)))

/-- A column of a finite input is finite. -/
theorem vn_fin (hx : ∀ i, Fin' (x0 i)) (j : Fin 512) (n : ℕ) : Fin' (vn x0 j n) := by
  unfold vn
  split
  · exact hx _
  · exact Fin'.zero

theorem v18_at (hx : ∀ i, Fin' (x0 i)) (l : Fin 4160) (d : Fin 128) : val_main_v18 (F := Ideal) x0 (ix2 l d) = fe x0 l 0 d := by
  have f : ∀ l : Fin 4160, _ = ∑ n ∈ Finset.range (l.val + 1), vn x0 (cc 0 d) n := fun l => v1_at x0 l 0 d
  have hw : l.val + 1 - 2 ^ (((0 : Fin 4) : ℕ) + 1) = l.val + 1 - 2 := rfl
  unfold fe FE
  rw [← back _ (vn_fin x0 hx _), ← f l, hw]
  generalize hz : val_main_v1 (F := Ideal) x0 = z at f ⊢
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1]
  simp only [hz]
  refine congrArg₂ (· - ·) (congrArg₂ Ideal.div (congrArg (z (ix3 l 0 d) - ·) ?_) (cnt l.val l.isLt 2 _ b2))
    (congrArg (fun e : Fin 512 => x0 (ix2 l e)) (Fin.ext (by simp [cc])))
  by_cases h : l.val < 2
  · rw [dif_pos h, show l.val + 1 - 2 = 0 by omega, Finset.sum_range_zero]
  · have e := f ⟨l.val - 2, by omega⟩
    rw [dif_neg h]
    refine e.trans ?_
    rw [show l.val + 1 - 2 = l.val - 2 + 1 by omega]

theorem v32_at (hx : ∀ i, Fin' (x0 i)) (l : Fin 4160) (d : Fin 128) : val_main_v32 (F := Ideal) x0 (ix2 l d) = fe x0 l 1 d := by
  have f : ∀ l : Fin 4160, _ = ∑ n ∈ Finset.range (l.val + 1), vn x0 (cc 1 d) n := fun l => v1_at x0 l 1 d
  have hw : l.val + 1 - 2 ^ (((1 : Fin 4) : ℕ) + 1) = l.val + 1 - 4 := rfl
  unfold fe FE
  rw [← back _ (vn_fin x0 hx _), ← f l, hw]
  generalize hz : val_main_v1 (F := Ideal) x0 = z at f ⊢
  pointwise [val_main_v32, val_main_v31, val_main_v30, val_main_v29, val_main_v28, val_main_v27, val_main_v26, val_main_v25, val_main_v24, val_main_v23, val_main_v22, val_main_v21, val_main_v20, val_main_v19, val_main_v4, val_main_v3, val_main_v2, val_main_v0, val_main_cst, val_main_cst_2, val_main_cst_3]
  simp only [hz]
  refine congrArg₂ (· - ·) (congrArg₂ Ideal.div (congrArg (z (ix3 l 1 d) - ·) ?_) (cnt l.val l.isLt 4 _ b4))
    (congrArg (fun e : Fin 512 => x0 (ix2 l e)) (Fin.ext (by simp [cc])))
  by_cases h : l.val < 4
  · rw [dif_pos h, show l.val + 1 - 4 = 0 by omega, Finset.sum_range_zero]
  · have e := f ⟨l.val - 4, by omega⟩
    rw [dif_neg h]
    refine e.trans ?_
    rw [show l.val + 1 - 4 = l.val - 4 + 1 by omega]

theorem v46_at (hx : ∀ i, Fin' (x0 i)) (l : Fin 4160) (d : Fin 128) : val_main_v46 (F := Ideal) x0 (ix2 l d) = fe x0 l 2 d := by
  have f : ∀ l : Fin 4160, _ = ∑ n ∈ Finset.range (l.val + 1), vn x0 (cc 2 d) n := fun l => v1_at x0 l 2 d
  have hw : l.val + 1 - 2 ^ (((2 : Fin 4) : ℕ) + 1) = l.val + 1 - 8 := rfl
  unfold fe FE
  rw [← back _ (vn_fin x0 hx _), ← f l, hw]
  generalize hz : val_main_v1 (F := Ideal) x0 = z at f ⊢
  pointwise [val_main_v46, val_main_v45, val_main_v44, val_main_v43, val_main_v42, val_main_v41, val_main_v40, val_main_v39, val_main_v38, val_main_v37, val_main_v36, val_main_v35, val_main_v34, val_main_v33, val_main_v4, val_main_v3, val_main_v2, val_main_v0, val_main_cst, val_main_cst_4, val_main_cst_5]
  simp only [hz]
  refine congrArg₂ (· - ·) (congrArg₂ Ideal.div (congrArg (z (ix3 l 2 d) - ·) ?_) (cnt l.val l.isLt 8 _ b8))
    (congrArg (fun e : Fin 512 => x0 (ix2 l e)) (Fin.ext (by simp [cc])))
  by_cases h : l.val < 8
  · rw [dif_pos h, show l.val + 1 - 8 = 0 by omega, Finset.sum_range_zero]
  · have e := f ⟨l.val - 8, by omega⟩
    rw [dif_neg h]
    refine e.trans ?_
    rw [show l.val + 1 - 8 = l.val - 8 + 1 by omega]

theorem v60_at (hx : ∀ i, Fin' (x0 i)) (l : Fin 4160) (d : Fin 128) : val_main_v60 (F := Ideal) x0 (ix2 l d) = fe x0 l 3 d := by
  have f : ∀ l : Fin 4160, _ = ∑ n ∈ Finset.range (l.val + 1), vn x0 (cc 3 d) n := fun l => v1_at x0 l 3 d
  have hw : l.val + 1 - 2 ^ (((3 : Fin 4) : ℕ) + 1) = l.val + 1 - 16 := rfl
  unfold fe FE
  rw [← back _ (vn_fin x0 hx _), ← f l, hw]
  generalize hz : val_main_v1 (F := Ideal) x0 = z at f ⊢
  pointwise [val_main_v60, val_main_v59, val_main_v58, val_main_v57, val_main_v56, val_main_v55, val_main_v54, val_main_v53, val_main_v52, val_main_v51, val_main_v50, val_main_v49, val_main_v48, val_main_v47, val_main_v4, val_main_v3, val_main_v2, val_main_v0, val_main_cst, val_main_cst_6, val_main_cst_7]
  simp only [hz]
  refine congrArg₂ (· - ·) (congrArg₂ Ideal.div (congrArg (z (ix3 l 3 d) - ·) ?_) (cnt l.val l.isLt 16 _ b16))
    (congrArg (fun e : Fin 512 => x0 (ix2 l e)) (Fin.ext (by simp [cc])))
  by_cases h : l.val < 16
  · rw [dif_pos h, show l.val + 1 - 16 = 0 by omega, Finset.sum_range_zero]
  · have e := f ⟨l.val - 16, by omega⟩
    rw [dif_neg h]
    refine e.trans ?_
    rw [show l.val + 1 - 16 = l.val - 16 + 1 by omega]

/-- The features by row, group and place. -/
theorem v65_at (hx : ∀ i, Fin' (x0 i)) (l : Fin 4160) (q : Fin 4) (d : Fin 128) : val_main_v65 (F := Ideal) x0 (ix3 l q d) = fe x0 l q d := by
  have f0 := v18_at x0 hx l d
  have f1 := v32_at x0 hx l d
  have f2 := v46_at x0 hx l d
  have f3 := v60_at x0 hx l d
  generalize h0 : val_main_v18 (F := Ideal) x0 = z0 at f0
  generalize h1 : val_main_v32 (F := Ideal) x0 = z1 at f1
  generalize h2 : val_main_v46 (F := Ideal) x0 = z2 at f2
  generalize h3 : val_main_v60 (F := Ideal) x0 = z3 at f3
  fin_cases q
  · refine Eq.trans ?_ f0
    pointwise [val_main_v65, val_main_v64, val_main_v63, val_main_v62, val_main_v61]
    simp only [h0]
  · refine Eq.trans ?_ f1
    pointwise [val_main_v65, val_main_v64, val_main_v63, val_main_v62, val_main_v61]
    simp only [h1]
  · refine Eq.trans ?_ f2
    pointwise [val_main_v65, val_main_v64, val_main_v63, val_main_v62, val_main_v61]
    simp only [h2]
  · refine Eq.trans ?_ f3
    pointwise [val_main_v65, val_main_v64, val_main_v63, val_main_v62, val_main_v61]
    simp only [h3]

/-! ## The mixer and the norm -/

/-- A row of the features, the matrices, the scale, the gain. -/
abbrev fl (l : Fin 4160) (j : Fin 512) : EReal := val_main_v65 (F := Ideal) x0 (ix3 l (gq j) (gd j))
abbrev wl (q : Fin 4) (a b : Fin 128) : EReal := x1 (ix3 q a b)
abbrev sl (j : Fin 512) : EReal := x2 (ix2 (gq j) (gd j))
abbrev gl (j : Fin 512) : EReal := x3 (ix1 j)

/-- The first result: the features as rows. -/
theorem v67_at (l : Fin 4160) (j : Fin 512) : val_main_v67 (F := Ideal) x0 (ix2 l j) = fl x0 l j := by
  unfold fl
  generalize hz : val_main_v65 (F := Ideal) x0 = z
  pointwise [val_main_v67, val_main_v66]
  simp only [hz]
  rfl

theorem v69_at (l : Fin 4160) (q : Fin 4) (d : Fin 128) : val_main_v69 (F := Ideal) x0 x1 (ix3 l q d) = PR (fl x0 l) (wl x1) (cc q d) := by
  unfold PR fl
  simp only [gq_cc, gd_cc]
  generalize hz : val_main_v65 (F := Ideal) x0 = z
  pointwise [val_main_v69, val_main_v68]
  rw [hz]
  refine Finset.sum_congr rfl fun a _ => (mul_comm _ _).trans ?_
  rfl

theorem v73_at (l : Fin 4160) (j : Fin 512) : val_main_v73 (F := Ideal) x0 x1 x2 (ix2 l j) = YP (fl x0 l) (wl x1) (sl x2) j := by
  have f := v69_at x0 x1 l (gq j) (gd j)
  rw [cc_g] at f
  unfold YP
  rw [← f]
  generalize hz : val_main_v69 (F := Ideal) x0 x1 = z
  pointwise [val_main_v73, val_main_v72, val_main_v71, val_main_v70]
  rw [hz]
  rfl

theorem yp_row (l : Fin 4160) : YP (fl x0 l) (wl x1) (sl x2) = fun j : Fin 512 => val_main_v73 (F := Ideal) x0 x1 x2 (ix2 l j) :=
  funext fun j => (v73_at x0 x1 x2 l j).symm

theorem v80_at (l : Fin 4160) : val_main_v80 (F := Ideal) x0 x1 x2 (ix2 l 0) = SQ NN EE (YP (fl x0 l) (wl x1) (sl x2)) := by
  rw [yp_row]
  unfold SQ
  generalize hz : val_main_v73 (F := Ideal) x0 x1 x2 = z
  pointwise [val_main_v80, val_main_v79, val_main_cst_10, val_main_v78, val_main_v77, val_main_cst_9, val_main_v76, val_main_v75, val_main_cst_8, val_main_v74]
  simp only [hz]

/-- The second result: the normed row times the gain. -/
theorem v87_at (l : Fin 4160) (j : Fin 512) :
    val_main_v87 (F := Ideal) x0 x1 x2 x3 (ix2 l j) = XH (fl x0 l) (wl x1) (sl x2) j * gl x3 j := by
  unfold XH
  rw [← v80_at, ← v73_at]
  generalize hy : val_main_v80 (F := Ideal) x0 x1 x2 = y
  generalize hz : val_main_v73 (F := Ideal) x0 x1 x2 = z
  pointwise [val_main_v87, val_main_v86, val_main_v85, val_main_v84, val_main_v83, val_main_v82, val_main_v81]
  simp only [hz, hy]

end Cert.PoolFwdRefIdeal.Rows
-- ==== Proof.PoolFwd.Payload.lean ====
/-
  The pooling mixer: what one point of the kernel computes of its blocks, entry by entry.
-/
module

public import proofs.«01_k».proof.Proof.Gen.PoolFwdIdeal.Value
public import proofs.«01_k».proof.Proof.Real.Window
public import Idealize.ShloMosaic.Lib.Pipeline.ValueKit
public import Idealize.ShloMosaic.Lib.Pipeline.ReadBack

@[expose] public section

set_option maxRecDepth 16384

noncomputable section

namespace Cert.PoolFwdIdeal.Payload

open Cert.PoolFwdIdeal Cert.PoolFwdIdeal.Gen Idealize.ShloMosaic Idealize.ShloMosaic.TcCoe Idealize.SL.Sem
open Cert.Norm Cert.Pool

/-- Matrix `q` of the four, and row `q` of the eight vectors. -/
abbrev RW (q : ℕ) (h : q < 4) : Rect S4x128x128 := Rect.unit (s := S4x128x128) ![q, 0, 0] S1x128x128.size (by
  intro a
  fin_cases a <;> simp <;> omega)

abbrev RV (q : ℕ) (h : q < 8) : Rect S8x512 := Rect.unit (s := S8x512) ![q, 0] S1x512.size (by
  intro a
  fin_cases a <;> simp <;> omega)

/-! ## The windows -/

/-- The number of rows up to a row, cut off at the window's length, as the kernel counts it. -/
theorem cnt (t : ℕ) (ht : t < 13) (r : ℕ) (hr : r < 320) (c : ℕ) (hc : c ≤ 16) :
    FloatOps.sitofp (F := Ideal) .f32 (IntOp.minsi (IntOp.addi (IntOp.addi (Scalar.muli (BitVec.ofNat 32 t) 320#32) (BitVec.ofNat 32 r)) 1#32)
      (BitVec.ofNat 32 c)) = (((min (t * 320 + r + 1) c : ℕ) : ℝ) : EReal) := by
  have e : IntOp.addi (IntOp.addi (Scalar.muli (BitVec.ofNat 32 t) 320#32) (BitVec.ofNat 32 r)) 1#32
      = BitVec.ofNat 32 (t * 320 + r + 1) := by
    have e1 : Scalar.muli (BitVec.ofNat 32 t) 320#32 = BitVec.ofNat 32 (t * 320) := by
      interval_cases t <;> rfl
    rw [e1]
    simp only [IntOp.addi]
    apply BitVec.eq_of_toNat_eq
    simp
  rw [e]
  generalize hn : t * 320 + r + 1 = n
  have hn' : n ≤ 4160 := by omega
  have h1 : (BitVec.ofNat 32 n).toInt = n := by
    rw [BitVec.toInt_eq_toNat_of_lt (by rw [BitVec.toNat_ofNat]; omega), BitVec.toNat_ofNat]
    omega
  have h2 : (BitVec.ofNat 32 c).toInt = c := by
    rw [BitVec.toInt_eq_toNat_of_lt (by rw [BitVec.toNat_ofNat]; omega), BitVec.toNat_ofNat]
    omega
  have h3 : IntOp.minsi (BitVec.ofNat 32 n) (BitVec.ofNat 32 c) = BitVec.ofNat 32 (min n c) := by
    unfold IntOp.minsi
    have hs : (BitVec.ofNat 32 n).slt (BitVec.ofNat 32 c) = decide (n < c) := by
      rw [BitVec.slt, h1, h2]
      exact decide_eq_decide.mpr (by omega)
    rw [hs]
    by_cases h : n < c
    · rw [if_pos (decide_eq_true h), min_eq_left h.le]
    · rw [if_neg (by simpa using h), min_eq_right (by omega)]
  have h4 : (BitVec.ofNat 32 (min n c)).toInt = (min n c : ℕ) := by
    rw [BitVec.toInt_eq_toNat_of_lt (by rw [BitVec.toNat_ofNat]; omega), BitVec.toNat_ofNat]
    omega
  rw [h3]
  show (((BitVec.ofNat 32 (min n c)).toInt : ℝ) : EReal) = _
  rw [h4, Int.cast_natCast]

theorem cnt_ne (n c : ℕ) (hc : 0 < c) : ((min (n + 1) c : ℕ) : ℝ) ≠ 0 := by
  have : min (n + 1) c ≠ 0 := by omega
  exact_mod_cast this

/-- The sixteen rows before the block, and the block. -/
theorem ext_at (v : Vec Ideal S320x512 .f32) (h : Vec Ideal S16x512 .f32) (i : Fin 336) (j : Fin 512) :
    k0_pay3 (F := Ideal) v h (ix2 i j) = if hi : i.val < 16 then h (ix2 ⟨i.val, hi⟩ j) else v (ix2 ⟨i.val - 16, by omega⟩ j) := by
  pointwise [k0_pay3]

/-- The block's last sixteen rows. -/
theorem hist_at (v : Vec Ideal S320x512 .f32) (i : Fin 16) (j : Fin 512) :
    k0_pay4 (F := Ideal) v (ix2 i j) = v (ix2 ⟨304 + i.val, by omega⟩ j) := by
  pointwise [k0_pay4]

variable (t : ℕ) (ht : t < 13) (v : Vec Ideal S320x512 .f32) (x : FVec Ideal S336x512 .f32) (Y : ℕ → EReal) (r : Fin 320) (d : Fin 128)

theorem dbl1 (z : FVec Ideal S336x128 .f32) (Z : ℕ → EReal) (L : ℕ) (hz : ∀ i : Fin 336, L ≤ i.val → z (ix2 i d) = Z i.val)
    (i : Fin 336) (hi : L + 1 ≤ i.val) :
    addf z (dynamicRotate 0 1#32 none z rotates_S336x128_d0) (ix2 i d) = Z i.val + Z (i.val - 1) := by
  rw [← hz i (by omega), ← hz ⟨i.val - 1, by omega⟩ (show L ≤ i.val - 1 by omega)]
  pointwise
  exact congrArg (fun e : Fin 336 => z (ix2 i d) + z (ix2 e d)) (Fin.ext (show (i.val + 336 - 1) % 336 = i.val - 1 by omega))

theorem dbl2 (z : FVec Ideal S336x128 .f32) (Z : ℕ → EReal) (L : ℕ) (hz : ∀ i : Fin 336, L ≤ i.val → z (ix2 i d) = Z i.val)
    (i : Fin 336) (hi : L + 2 ≤ i.val) :
    addf z (dynamicRotate 0 2#32 none z rotates_S336x128_d0) (ix2 i d) = Z i.val + Z (i.val - 2) := by
  rw [← hz i (by omega), ← hz ⟨i.val - 2, by omega⟩ (show L ≤ i.val - 2 by omega)]
  pointwise
  exact congrArg (fun e : Fin 336 => z (ix2 i d) + z (ix2 e d)) (Fin.ext (show (i.val + 336 - 2) % 336 = i.val - 2 by omega))

theorem dbl4 (z : FVec Ideal S336x128 .f32) (Z : ℕ → EReal) (L : ℕ) (hz : ∀ i : Fin 336, L ≤ i.val → z (ix2 i d) = Z i.val)
    (i : Fin 336) (hi : L + 4 ≤ i.val) :
    addf z (dynamicRotate 0 4#32 none z rotates_S336x128_d0) (ix2 i d) = Z i.val + Z (i.val - 4) := by
  rw [← hz i (by omega), ← hz ⟨i.val - 4, by omega⟩ (show L ≤ i.val - 4 by omega)]
  pointwise
  exact congrArg (fun e : Fin 336 => z (ix2 i d) + z (ix2 e d)) (Fin.ext (show (i.val + 336 - 4) % 336 = i.val - 4 by omega))

theorem dbl8 (z : FVec Ideal S336x128 .f32) (Z : ℕ → EReal) (L : ℕ) (hz : ∀ i : Fin 336, L ≤ i.val → z (ix2 i d) = Z i.val)
    (i : Fin 336) (hi : L + 8 ≤ i.val) :
    addf z (dynamicRotate 0 8#32 none z rotates_S336x128_d0) (ix2 i d) = Z i.val + Z (i.val - 8) := by
  rw [← hz i (by omega), ← hz ⟨i.val - 8, by omega⟩ (show L ≤ i.val - 8 by omega)]
  pointwise
  exact congrArg (fun e : Fin 336 => z (ix2 i d) + z (ix2 e d)) (Fin.ext (show (i.val + 336 - 8) % 336 = i.val - 8 by omega))

include ht in
theorem f0_at (c : grid0.Coords) (hc : (c 0).val = t) (h : Vec Ideal S16x512 .f32) (hY : ∀ i : Fin 336, k0_pay3 (F := Ideal) v h (ix2 i (cc 0 d)) = Y i.val) :
    k0_pay5 (F := Ideal) c v h (ix2 r d)
      = Ideal.div (∑ n ∈ Finset.range 2, Y (r.val + 16 - n)) (((min (t * 320 + r.val + 1) 2 : ℕ) : ℝ) : EReal) - v (ix2 r (cc 0 d)) := by
  have hr : r.val < 320 := r.isLt
  unfold k0_pay5
  rw [hc]
  generalize k0_pay3 (F := Ideal) v h = x at hY ⊢
  have h0 : ∀ i : Fin 336, 0 ≤ i.val → extractStridedSlice S336x128 ![0, 0] x slices_S336x512_o0_0_S336x128 (ix2 i d) = Y i.val := fun i _ => by
    rw [← hY i]
    pointwise
    exact congrArg x (congrArg (ix2 i) (Fin.ext (by simp [cc])))
  have h' := dbl1 d _ Y 0 h0 ⟨r.val + 16, by omega⟩ (show 0 + 1 ≤ r.val + 16 by omega)
  clear h0
  rw [← mul_recip _ (cnt_ne _ _ (by decide)), ← cnt t ht r.val r.isLt 2 (by decide)]
  generalize addf (F := Ideal) (s := S336x128) (φ := .f32) _ (dynamicRotate (s := S336x128) 0 1#32 none _ _) = y at h' ⊢
  have hd : d.val < 128 := d.isLt
  have e : y (ix2 ⟨r.val + 16, by omega⟩ d) = ∑ n ∈ Finset.range 2, Y (r.val + 16 - n) := by
    refine h'.trans ?_
    simp only [Finset.sum_range_succ, Finset.sum_range_zero, zero_add, Nat.sub_sub, Nat.reduceAdd, Nat.sub_zero, add_assoc]
  rw [← e]
  pointwise [cc]
  exact congrArg₂ (· - ·) (congrArg (· * _) (congrArg (fun e : Fin 336 => y (ix2 e d)) (Fin.ext (Nat.add_comm 16 r.val))))
    (congrArg (fun e : Fin 512 => v (ix2 r e)) (Fin.ext (by simp)))

include ht in
theorem f1_at (h : Vec Ideal S16x512 .f32) (hY : ∀ i : Fin 336, k0_pay3 (F := Ideal) v h (ix2 i (cc 1 d)) = Y i.val) :
    k0_pay8 (F := Ideal) (BitVec.ofNat 32 t) v (k0_pay7 v h) (ix2 r d)
      = Ideal.div (∑ n ∈ Finset.range 4, Y (r.val + 16 - n)) (((min (t * 320 + r.val + 1) 4 : ℕ) : ℝ) : EReal) - v (ix2 r (cc 1 d)) := by
  have hr : r.val < 320 := r.isLt
  have hd : d.val < 128 := d.isLt
  have e : k0_pay7 (F := Ideal) v h (ix2 ⟨r.val + 16, by omega⟩ d) = ∑ n ∈ Finset.range 4, Y (r.val + 16 - n) := by
    unfold k0_pay7
    generalize k0_pay3 (F := Ideal) v h = x at hY ⊢
    have h0 : ∀ i : Fin 336, 0 ≤ i.val → extractStridedSlice S336x128 ![0, 128] x slices_S336x512_o0_128_S336x128 (ix2 i d) = Y i.val := fun i _ => by
      rw [← hY i]
      pointwise
      exact congrArg x (congrArg (ix2 i) (Fin.ext (by simp [cc])))
    have h1 := dbl1 d _ Y 0 h0
    refine (dbl2 d _ (fun m => Y m + Y (m - 1)) (0 + 1) h1 ⟨r.val + 16, by omega⟩ (show (0 + 1) + 2 ≤ r.val + 16 by omega)).trans ?_
    simp only [Finset.sum_range_succ, Finset.sum_range_zero, zero_add, Nat.sub_sub, Nat.reduceAdd, Nat.sub_zero, add_assoc]
  rw [← mul_recip _ (cnt_ne _ _ (by decide)), ← cnt t ht r.val r.isLt 4 (by decide), ← e]
  unfold k0_pay8
  generalize k0_pay7 (F := Ideal) v h = y
  pointwise [cc]
  exact congrArg₂ (· - ·) (congrArg (· * _) (congrArg (fun e : Fin 336 => y (ix2 e d)) (Fin.ext (Nat.add_comm 16 r.val))))
    (congrArg (fun e : Fin 512 => v (ix2 r e)) (Fin.ext (by simp)))

include ht in
theorem f2_at (hY : ∀ i : Fin 336, x (ix2 i (cc 2 d)) = Y i.val) :
    k0_pay10 (F := Ideal) (BitVec.ofNat 32 t) v x (ix2 r d)
      = Ideal.div (∑ n ∈ Finset.range 8, Y (r.val + 16 - n)) (((min (t * 320 + r.val + 1) 8 : ℕ) : ℝ) : EReal) - v (ix2 r (cc 2 d)) := by
  have hr : r.val < 320 := r.isLt
  unfold k0_pay10
  have h0 : ∀ i : Fin 336, 0 ≤ i.val → extractStridedSlice S336x128 ![0, 256] x slices_S336x512_o0_256_S336x128 (ix2 i d) = Y i.val := fun i _ => by
    rw [← hY i]
    pointwise
    exact congrArg x (congrArg (ix2 i) (Fin.ext (by simp [cc])))
  have h1 := dbl1 d _ Y 0 h0
  have h2 := dbl2 d _ (fun m => Y m + Y (m - 1)) (0 + 1) h1
  have h' := dbl4 d _ (fun m => (Y m + Y (m - 1)) + (Y (m - 2) + Y (m - 2 - 1))) (0 + 1 + 2) h2 ⟨r.val + 16, by omega⟩ (show (0 + 1 + 2) + 4 ≤ r.val + 16 by omega)
  clear h0 h1 h2
  rw [← mul_recip _ (cnt_ne _ _ (by decide)), ← cnt t ht r.val r.isLt 8 (by decide)]
  generalize addf (F := Ideal) (s := S336x128) (φ := .f32) _ (dynamicRotate (s := S336x128) 0 4#32 none _ _) = y at h' ⊢
  have hd : d.val < 128 := d.isLt
  have e : y (ix2 ⟨r.val + 16, by omega⟩ d) = ∑ n ∈ Finset.range 8, Y (r.val + 16 - n) := by
    refine h'.trans ?_
    simp only [Finset.sum_range_succ, Finset.sum_range_zero, zero_add, Nat.sub_sub, Nat.reduceAdd, Nat.sub_zero, add_assoc]
  rw [← e]
  pointwise [cc]
  exact congrArg₂ (· - ·) (congrArg (· * _) (congrArg (fun e : Fin 336 => y (ix2 e d)) (Fin.ext (Nat.add_comm 16 r.val))))
    (congrArg (fun e : Fin 512 => v (ix2 r e)) (Fin.ext (by simp)))

include ht in
theorem f3_at (hY : ∀ i : Fin 336, x (ix2 i (cc 3 d)) = Y i.val) :
    k0_pay11 (F := Ideal) (BitVec.ofNat 32 t) v x (ix2 r d)
      = Ideal.div (∑ n ∈ Finset.range 16, Y (r.val + 16 - n)) (((min (t * 320 + r.val + 1) 16 : ℕ) : ℝ) : EReal) - v (ix2 r (cc 3 d)) := by
  have hr : r.val < 320 := r.isLt
  unfold k0_pay11
  have h0 : ∀ i : Fin 336, 0 ≤ i.val → extractStridedSlice S336x128 ![0, 384] x slices_S336x512_o0_384_S336x128 (ix2 i d) = Y i.val := fun i _ => by
    rw [← hY i]
    pointwise
    exact congrArg x (congrArg (ix2 i) (Fin.ext (by simp [cc])))
  have h1 := dbl1 d _ Y 0 h0
  have h2 := dbl2 d _ (fun m => Y m + Y (m - 1)) (0 + 1) h1
  have h3 := dbl4 d _ (fun m => (Y m + Y (m - 1)) + (Y (m - 2) + Y (m - 2 - 1))) (0 + 1 + 2) h2
  have h' := dbl8 d _ (fun m => ((Y m + Y (m - 1)) + (Y (m - 2) + Y (m - 2 - 1))) + ((Y (m - 4) + Y (m - 4 - 1)) + (Y (m - 4 - 2) + Y (m - 4 - 2 - 1)))) (0 + 1 + 2 + 4) h3 ⟨r.val + 16, by omega⟩ (show (0 + 1 + 2 + 4) + 8 ≤ r.val + 16 by omega)
  clear h0 h1 h2 h3
  rw [← mul_recip _ (cnt_ne _ _ (by decide)), ← cnt t ht r.val r.isLt 16 (by decide)]
  generalize addf (F := Ideal) (s := S336x128) (φ := .f32) _ (dynamicRotate (s := S336x128) 0 8#32 none _ _) = y at h' ⊢
  have hd : d.val < 128 := d.isLt
  have e : y (ix2 ⟨r.val + 16, by omega⟩ d) = ∑ n ∈ Finset.range 16, Y (r.val + 16 - n) := by
    refine h'.trans ?_
    simp only [Finset.sum_range_succ, Finset.sum_range_zero, zero_add, Nat.sub_sub, Nat.reduceAdd, Nat.sub_zero, add_assoc]
  rw [← e]
  pointwise [cc]
  exact congrArg₂ (· - ·) (congrArg (· * _) (congrArg (fun e : Fin 336 => y (ix2 e d)) (Fin.ext (Nat.add_comm 16 r.val))))
    (congrArg (fun e : Fin 512 => v (ix2 r e)) (Fin.ext (by simp)))

/-! ## The mixer and the norm -/

section Point
variable (c : grid0.Coords) (h : Vec Ideal S16x512 .f32) (w : Vec Ideal S4x128x128 .bf16) (s : Vec Ideal S8x512 .f32)

/-- The matrices, the scale, the gain. -/
abbrev wr (q : Fin 4) (a b : Fin 128) : EReal := w (ix3 q a b)
abbrev sr (j : Fin 512) : EReal := s (ix2 0 j)
abbrev gr (j : Fin 512) : EReal := s (ix2 1 j)

/-- The grid's coordinate, as the kernel's number. -/
abbrev gb : BitVec 32 := BitVec.ofNat 32 (c 0).val

/-- The features of a block, their scaled products, the squares of these, and the normed rows times the gain. -/
abbrev FT : FVec Ideal S320x512 .bf16 :=
  k0_pay12 (F := Ideal) (gb c) v (k0_pay3 v h) (k0_pay5 c v h) (k0_pay8 (gb c) v (k0_pay7 v h)) (k0_pay10 (gb c) v (k0_pay3 v h))
abbrev T13 : FVec Ideal S320x512 .f32 :=
  k0_pay13 (F := Ideal) (gb c) v (k0_pay3 v h) (k0_pay6 c v h (View.ld w (RW 0 (by decide)))) (k0_pay9 (gb c) v (k0_pay7 v h) (View.ld w (RW 1 (by decide))))
    (k0_pay10 (gb c) v (k0_pay3 v h)) (View.ld w (RW 2 (by decide))) (View.ld w (RW 3 (by decide))) (View.ld s (RV 0 (by decide)))
abbrev T14 : FVec Ideal S320x512 .f32 :=
  k0_pay14 (F := Ideal) (gb c) v (k0_pay3 v h) (k0_pay6 c v h (View.ld w (RW 0 (by decide)))) (k0_pay9 (gb c) v (k0_pay7 v h) (View.ld w (RW 1 (by decide))))
    (k0_pay10 (gb c) v (k0_pay3 v h)) (View.ld w (RW 2 (by decide))) (View.ld w (RW 3 (by decide))) (View.ld s (RV 0 (by decide)))
abbrev MP : FVec Ideal S320x512 .bf16 := k0_pay1 (F := Ideal) (T13 v c h w s) (T14 v c h w s) (View.ld s (RV 1 (by decide)))

theorem ft_at (hc : (c 0).val < 13) (q : Fin 4) (hY : ∀ i : Fin 336, k0_pay3 (F := Ideal) v h (ix2 i (cc q d)) = Y i.val) :
    FT v c h (ix2 r (cc q d)) = Ideal.div (∑ n ∈ Finset.range (2 ^ (q.val + 1)), Y (r.val + 16 - n))
      (((min ((c 0).val * 320 + r.val + 1) (2 ^ (q.val + 1)) : ℕ) : ℝ) : EReal) - v (ix2 r (cc q d)) := by
  have hd : d.val < 128 := d.isLt
  show k0_pay12 (F := Ideal) _ _ _ _ _ _ _ = _
  fin_cases q
  · refine Eq.trans ?_ (f0_at (c 0).val hc v Y r d c rfl h hY)
    unfold k0_pay12
    generalize k0_pay5 (F := Ideal) _ _ _ = z0
    generalize k0_pay8 (F := Ideal) _ _ _ = z1
    generalize k0_pay10 (F := Ideal) _ _ _ = z2
    generalize k0_pay11 (F := Ideal) _ _ _ = z3
    pointwise [cc]
  · refine Eq.trans ?_ (f1_at (c 0).val hc v Y r d h hY)
    unfold k0_pay12
    generalize k0_pay5 (F := Ideal) _ _ _ = z0
    generalize k0_pay8 (F := Ideal) _ _ _ = z1
    generalize k0_pay10 (F := Ideal) _ _ _ = z2
    generalize k0_pay11 (F := Ideal) _ _ _ = z3
    pointwise [cc]
  · refine Eq.trans ?_ (f2_at (c 0).val hc v _ Y r d hY)
    unfold k0_pay12
    generalize k0_pay5 (F := Ideal) _ _ _ = z0
    generalize k0_pay8 (F := Ideal) _ _ _ = z1
    generalize k0_pay10 (F := Ideal) _ _ _ = z2
    generalize k0_pay11 (F := Ideal) _ _ _ = z3
    pointwise [cc]
    rw [dif_neg (by omega), dif_neg (by omega), dif_pos (by omega)]
    exact congrArg (fun e : Fin 128 => z2 (ix2 r e)) (Fin.ext (by simp; omega))
  · refine Eq.trans ?_ (f3_at (c 0).val hc v _ Y r d hY)
    unfold k0_pay12
    generalize k0_pay5 (F := Ideal) _ _ _ = z0
    generalize k0_pay8 (F := Ideal) _ _ _ = z1
    generalize k0_pay10 (F := Ideal) _ _ _ = z2
    generalize k0_pay11 (F := Ideal) _ _ _ = z3
    pointwise [cc]
    rw [dif_neg (by omega), dif_neg (by omega), dif_neg (by omega)]
    exact congrArg (fun e : Fin 128 => z3 (ix2 r e)) (Fin.ext (by simp; omega))

/-- A row of the point's features. -/
abbrev fr (r : Fin 320) (j : Fin 512) : EReal := FT v c h (ix2 r j)

theorem t13_at (r : Fin 320) (j : Fin 512) : T13 v c h w s (ix2 r j) = YP (fr v c h r) (wr w) (sr s) j := by
  have hj : j.val < 512 := j.isLt
  unfold YP PR fr
  show k0_pay13 (F := Ideal) _ _ _ _ _ _ _ _ _ _ = _
  unfold FT k0_pay13 k0_pay12 k0_pay6 k0_pay9
  generalize k0_pay5 (F := Ideal) _ _ _ = z0
  generalize k0_pay8 (F := Ideal) _ _ _ = z1
  generalize k0_pay10 (F := Ideal) _ _ _ = z2
  generalize k0_pay11 (F := Ideal) _ _ _ = z3
  pointwise
  refine congrArg (· * s (ix2 0 j)) ?_
  have e : ∀ a : Fin 128, (cc (gq j) a).val = j.val / 128 * 128 + a.val := fun _ => rfl
  split_ifs with h0 h1 h2
  all_goals
    refine Finset.sum_congr rfl fun a _ => congrArg₂ (· * ·) ?_ (congrArg w ?_)
    rotate_left
    · congr 1
      all_goals exact Fin.ext (by simp [gq, gd]; omega)
    have ea := e a
    have ha := a.isLt
    first
    | rw [dif_pos (by omega)]
      exact congrArg (fun b : Fin 128 => z0 (ix2 r b)) (Fin.ext (by simp; omega))
    | rw [dif_neg (by omega), dif_pos (by omega)]
      exact congrArg (fun b : Fin 128 => z1 (ix2 r b)) (Fin.ext (by simp; omega))
    | rw [dif_neg (by omega), dif_neg (by omega), dif_pos (by omega)]
      exact congrArg (fun b : Fin 128 => z2 (ix2 r b)) (Fin.ext (by simp; omega))
    | rw [dif_neg (by omega), dif_neg (by omega), dif_neg (by omega)]
      exact congrArg (fun b : Fin 128 => z3 (ix2 r b)) (Fin.ext (by simp; omega))

theorem mp_at (r : Fin 320) (j : Fin 512) : MP v c h w s (ix2 r j) = XH (fr v c h r) (wr w) (sr s) j * gr s j := by
  have f : YP (fr v c h r) (wr w) (sr s) = fun k : Fin 512 => T13 v c h w s (ix2 r k) := funext fun k => (t13_at v c h w s r k).symm
  unfold XH SQ
  rw [f]
  show k0_pay1 (F := Ideal) _ _ _ _ = _
  unfold T13 T14 k0_pay14 k0_pay1
  generalize k0_pay13 (F := Ideal) _ _ _ _ _ _ _ _ _ = z
  pointwise
end Point

end Cert.PoolFwdIdeal.Payload
-- ==== Proof.PoolFwd.Link.lean ====
/-
  The pooling mixer: the arrays that the kernel finds when it starts, the blocks that a point reads, and what the point
  computes of them: the reference's rows.
-/
module

public import proofs.«01_k».proof.Proof.PoolFwd.Ref
public import proofs.«01_k».proof.Proof.PoolFwd.Payload
public import Idealize.ShloMosaic.Lib.StableHlo.ReadAt

@[expose] public section

set_option maxRecDepth 16384

noncomputable section

namespace Cert.PoolFwdIdeal.Link

open Cert.PoolFwdIdeal Cert.PoolFwdIdeal.Gen Idealize.ShloMosaic Idealize.ShloMosaic.TcCoe Idealize.SL.Sem
open Cert.PoolFwdIdeal.Payload
open Cert.PoolFwdRefIdeal.Read Cert.PoolFwdRefIdeal.Rows Cert.Norm Cert.Pool

variable (m : (ℓ : Loc nD τ sig) → Buf (Elt Ideal) ℓ)

/-! ## The arrays at the start -/

/-- Two arrays one after the other: a function of the arrays, so that what stands in them can be rewritten. -/
def cat2 {s₁ s₂ : Shape} (t : Shape) (d : Fin t.rank) (a : FVec Ideal s₁ .f32) (b : FVec Ideal s₂ .f32) (h : Shape.Concatenates [s₁, s₂] t d) : FVec Ideal t .f32 :=
  concatenate t d [⟨s₁, a⟩, ⟨s₂, b⟩] h

theorem cat2_eq {s₁ s₂ t : Shape} (d : Fin t.rank) (a : FVec Ideal s₁ .f32) (b : FVec Ideal s₂ .f32) (h : Shape.Concatenates [s₁, s₂] t d) :
    concatenate t d [⟨s₁, a⟩, ⟨s₂, b⟩] h = cat2 t d a b h := rfl

/-- The arguments on device `c`. -/
abbrev A0 (c : Dev nD) : FVec Ideal S4160x512 .f32 := m ((c : Thread nD τ).loc main_arg0)
abbrev A1 (c : Dev nD) : FVec Ideal S4x128x128 .f32 := m ((c : Thread nD τ).loc main_arg1)
abbrev A2 (c : Dev nD) : FVec Ideal S4x128 .f32 := m ((c : Thread nD τ).loc main_arg2)
abbrev A3 (c : Dev nD) : FVec Ideal S512 .f32 := m ((c : Thread nD τ).loc main_arg3)

theorem entry_v (c : Dev nD) : V m c main_arg0 = m ((c : Thread nD τ).loc main_arg0) := by
  unfold V
  after_reads_simp

theorem entry_w (c : Dev nD) : (V m c main_v0 : FVec Ideal S4x128x128 .bf16) = m ((c : Thread nD τ).loc main_arg1) := by
  unfold V
  after_reads_simp
  rfl

theorem entry_s (c : Dev nD) (j : Fin 512) : V m c main_v4 (ix2 0 j) = m ((c : Thread nD τ).loc main_arg2) (ix2 (gq j) (gd j)) := by
  unfold V
  after_reads_simp
  simp -implicitDefEqProofs only [StableHlo.TRef.toBuf, StableHlo.TRef.ofBuf, cast_cast, cast_eq]
  simp only [cat2_eq]
  after_reads_simp
  unfold cat2
  pointwise
  rfl

theorem entry_g (c : Dev nD) (j : Fin 512) : V m c main_v4 (ix2 1 j) = m ((c : Thread nD τ).loc main_arg3) (ix1 j) := by
  unfold V
  after_reads_simp
  simp -implicitDefEqProofs only [StableHlo.TRef.toBuf, StableHlo.TRef.ofBuf, cast_cast, cast_eq]
  simp only [cat2_eq]
  after_reads_simp
  unfold cat2
  pointwise

/-! ## The blocks -/

theorem idx : ∀ t : Fin cfg0.N, win0_0.index t = ![t.val, 0] ∧ win0_1.index t = ![0, 0, 0] ∧ win0_2.index t = ![0, 0]
    ∧ win0_3.index t = ![t.val, 0] ∧ win0_4.index t = ![t.val, 0] :=
  (by decide +kernel : ∀ t : Fin grid0.N, _)

theorem co_eq (t : Fin cfg0.N) : (grid0.coords t 0).val = t.val := by
  revert t
  exact (by decide +kernel : ∀ t : Fin grid0.N, (grid0.coords t 0).val = t.val)

/-- Row `r` of point `t`'s block, in the whole array. -/
def row (t : Fin cfg0.N) (r : Fin 320) : Fin 4160 := ⟨t.val * 320 + r.val, by
  have hN : t.val < 13 := lt_of_lt_of_eq t.isLt N_0
  omega⟩

theorem v_row (c : Dev nD) (t : Fin cfg0.N) (r : Fin 320) (j : Fin 512) :
    (iblk m c 0 t : Vec Ideal S320x512 .f32) (ix2 r j) = A0 m c (ix2 (row t r) j) := by
  have e := congrFun (entry_v m c) (ix2 (row t r) j)
  unfold iblk
  generalize V m c = z at e ⊢
  refine Eq.trans ?_ e
  unfold row
  blk_point [idx t]

theorem w_row (c : Dev nD) (t : Fin cfg0.N) : wr (iblk m c 1 t) = wl (A1 m c) := by
  funext q a b
  have e := congrFun (entry_w m c) (ix3 q a b)
  unfold wr iblk
  generalize V m c = z at e ⊢
  refine Eq.trans ?_ e
  blk_point [idx t]

theorem s_row (c : Dev nD) (t : Fin cfg0.N) : sr (iblk m c 2 t) = sl (A2 m c) := by
  funext j
  have e := entry_s m c j
  unfold sr iblk
  generalize V m c = z at e ⊢
  refine Eq.trans ?_ e
  blk_point [idx t]

theorem g_row (c : Dev nD) (t : Fin cfg0.N) : gr (iblk m c 2 t) = gl (A3 m c) := by
  funext j
  have e := entry_g m c j
  unfold gr iblk
  generalize V m c = z at e ⊢
  refine Eq.trans ?_ e
  blk_point [idx t]

/-! ## What a point leaves -/

/-- The sixteen rows that a point leaves for the next. -/
theorem after_h (c : Dev nD) (t : Fin cfg0.N) (y : S16x512.Idx) : (outsAt0 m c t.val t.isLt).2.2 y = k0_pay4 (F := Ideal) (iblk m c 0 t) y := by
  by_cases h : t.val % 13 = 0
  · rw [outsAt0_A m c t h]
    frame_out
  · rw [outsAt0_B m c t h]
    frame_out

theorem h_at (c : Dev nD) (t : Fin cfg0.N) (i : Fin 16) (j : Fin 512) : (outsAt0 m c t.val t.isLt).2.2 (ix2 i j)
    = vn (A0 m c) j (t.val * 320 + 304 + i.val) := by
  have hN : t.val < 13 := lt_of_lt_of_eq t.isLt N_0
  refine (after_h m c t _).trans ((hist_at _ i j).trans ((v_row m c t _ j).trans ?_))
  unfold vn
  rw [dif_pos (by omega)]
  exact congrArg (fun e : Fin 4160 => A0 m c (ix2 e j)) (Fin.ext (show t.val * 320 + (304 + i.val) = t.val * 320 + 304 + i.val by omega))

/-- The sixteen rows that a point finds: zeros before the first block, else the rows before the block. -/
def hist (c : Dev nD) (t : Fin cfg0.N) : Vec Ideal S16x512 .f32 :=
  if t.val % 13 = 0 then k0_pay2 (F := Ideal) else (outsAt0 m c (t.val - 1) (by omega)).2.2

theorem after3 (c : Dev nD) (t : Fin cfg0.N) (y : S320x512.Idx) : (outsAt0 m c t.val t.isLt).1 y
    = FT (iblk m c 0 t) (grid0.coords t) (hist m c t) y := by
  unfold hist
  by_cases h : t.val % 13 = 0
  · rw [outsAt0_A m c t h, if_pos h]
    frame_out
  · rw [outsAt0_B m c t h, if_neg h]
    frame_out
    exact congrArg (fun f => FT (iblk m c 0 t) (grid0.coords t) f y) ((Memref.isWhole_whole _).read_unread _)

theorem after4 (c : Dev nD) (t : Fin cfg0.N) (y : S320x512.Idx) : (outsAt0 m c t.val t.isLt).2.1 y
    = MP (iblk m c 0 t) (grid0.coords t) (hist m c t) (iblk m c 1 t) (iblk m c 2 t) y := by
  unfold hist
  by_cases h : t.val % 13 = 0
  · rw [outsAt0_A m c t h, if_pos h]
    frame_out
  · rw [outsAt0_B m c t h, if_neg h]
    frame_out
    exact congrArg (fun f => MP (iblk m c 0 t) (grid0.coords t) f (iblk m c 1 t) (iblk m c 2 t) y) ((Memref.isWhole_whole _).read_unread _)

/-- The block with the sixteen rows before it is the column from sixteen rows before the block on. -/
theorem ext_col (c : Dev nD) (t : Fin cfg0.N) (i : Fin 336) (j : Fin 512) :
    k0_pay3 (F := Ideal) (iblk m c 0 t) (hist m c t) (ix2 i j) = bk (vn (A0 m c) j) (t.val * 320 + i.val) := by
  have hN : t.val < 13 := lt_of_lt_of_eq t.isLt N_0
  rw [ext_at]
  unfold bk
  by_cases hi : i.val < 16
  · rw [dif_pos hi]
    unfold hist
    by_cases h : t.val % 13 = 0
    · rw [if_pos h, if_neg (by omega)]
      pointwise [k0_pay2]
    · rw [if_neg h, if_pos (by omega)]
      refine (h_at m c ⟨t.val - 1, by omega⟩ _ j).trans (congrArg _ ?_)
      show (t.val - 1) * 320 + 304 + i.val = t.val * 320 + i.val - 16
      omega
  · rw [dif_neg hi, if_pos (by omega)]
    refine (v_row m c t _ j).trans ?_
    unfold vn
    rw [dif_pos (by omega)]
    exact congrArg (fun e : Fin 4160 => A0 m c (ix2 e j)) (Fin.ext (show t.val * 320 + (i.val - 16) = t.val * 320 + i.val - 16 by omega))

/-- The point's features are the reference's. -/
theorem f_row (c : Dev nD) (hx : ∀ i, Fin' (A0 m c i)) (t : Fin cfg0.N) (r : Fin 320) :
    fr (iblk m c 0 t) (grid0.coords t) (hist m c t) r = fl (A0 m c) (row t r) := by
  have hN : t.val < 13 := lt_of_lt_of_eq t.isLt N_0
  have g : ∀ (q : Fin 4) (d : Fin 128), FT (iblk m c 0 t) (grid0.coords t) (hist m c t) (ix2 r (cc q d)) = fe (A0 m c) (row t r) q d := fun q d => by
    refine (ft_at (iblk m c 0 t) (fun n => bk (vn (A0 m c) (cc q d)) (t.val * 320 + n)) r d (grid0.coords t) (hist m c t) (by rw [co_eq]; exact hN) q
      (fun i => ext_col m c t i _)).trans ?_
    unfold fe FE
    rw [co_eq, v_row]
    refine congrArg₂ (· - ·) (congrArg₂ Ideal.div (Finset.sum_congr rfl fun n hn => congrArg _ ?_) rfl) rfl
    have h1 := Finset.mem_range.mp hn
    have h2 : 2 ^ (q.val + 1) ≤ 16 := Nat.pow_le_pow_right (n := 2) (by decide) (show q.val + 1 ≤ 4 by omega)
    show t.val * 320 + (r.val + 16 - n) = t.val * 320 + r.val + 16 - n
    omega
  funext j
  have e := (g (gq j) (gd j)).trans (v65_at (A0 m c) hx (row t r) (gq j) (gd j)).symm
  rw [cc_g] at e
  exact e

theorem after3_row (c : Dev nD) (hx : ∀ i, Fin' (A0 m c i)) (t : Fin cfg0.N) (r : Fin 320) (j : Fin 512) :
    (outsAt0 m c t.val t.isLt).1 (ix2 r j) = val_main_v67 (F := Ideal) (A0 m c) (ix2 (row t r) j) :=
  (after3 m c t _).trans ((congrFun (f_row m c hx t r) j).trans (v67_at _ _ _).symm)

theorem after4_row (c : Dev nD) (hx : ∀ i, Fin' (A0 m c i)) (t : Fin cfg0.N) (r : Fin 320) (j : Fin 512) :
    (outsAt0 m c t.val t.isLt).2.1 (ix2 r j) = val_main_v87 (F := Ideal) (A0 m c) (A1 m c) (A2 m c) (A3 m c) (ix2 (row t r) j) := by
  refine (after4 m c t _).trans ((mp_at _ _ _ _ _ r j).trans ?_)
  rw [f_row m c hx, w_row, s_row, g_row, v87_at]

end Cert.PoolFwdIdeal.Link
-- ==== Proof.PoolFwd.Equation.lean ====
/-
  The pooling mixer: the kernel's run ends with the reference's two arrays.
-/
module

public import proofs.«01_k».proof.Proof.PoolFwd.Link
public import proofs.«01_k».proof.Proof.Gen.PoolFwdRefIdeal.Run
public import proofs.«01_k».proof.Defs

@[expose] public section

set_option maxRecDepth 16384

noncomputable section

namespace Cert.PoolFwdIdeal.Equation

open Cert.PoolFwdIdeal Cert.PoolFwdIdeal.Gen Idealize.ShloMosaic Idealize.ShloMosaic.TcCoe Idealize.SL.Sem
open Cert.PoolFwdRefIdeal.Read Cert.PoolFwdIdeal.Link Cert.Norm

variable (m : (ℓ : Loc nD τ sig) → Buf (Elt Ideal) ℓ)

/-- The features. -/
theorem final3 (c : Dev nD) (hx : ∀ i, Fin' (A0 m c i)) : (dats m 0 c).arrAt 3 cfg0.N = val_main_v67 (F := Ideal) (A0 m c) := by
  refine (dats m 0 c).arrAt_eq_of_covers 3 _ (by decide +kernel) fun t hf y => ?_
  have e := after3_row m c hx t (y 0) (y 1)
  have hy : (ix2 (y 0) (y 1) : S320x512.Idx) = y := by blk_ext
  rw [hy] at e
  blk_simp
  rw [after0_3]
  refine e.trans (congrArg _ ?_)
  unfold row
  blk_ext [idx t]

/-- The normed rows times the gain. -/
theorem final4 (c : Dev nD) (hx : ∀ i, Fin' (A0 m c i)) :
    (dats m 0 c).arrAt 4 cfg0.N = val_main_v87 (F := Ideal) (A0 m c) (A1 m c) (A2 m c) (A3 m c) := by
  refine (dats m 0 c).arrAt_eq_of_covers 4 _ (by decide +kernel) fun t hf y => ?_
  have e := after4_row m c hx t (y 0) (y 1)
  have hy : (ix2 (y 0) (y 1) : S320x512.Idx) = y := by blk_ext
  rw [hy] at e
  blk_simp
  rw [after0_4]
  refine e.trans (congrArg _ ?_)
  unfold row
  blk_ext [idx t]

/-- Started on the same arguments, the mixer's input finite, the kernel and the reference end with the same features and the
    same normed rows. -/
theorem algebraic [Cert.Pre_pool_fwd_finite.Facts] : Cert.algebraic_PoolFwdIdeal_PoolFwdRefIdeal_pre_pool_fwd_finite := by
  intro m g m' g' hp ha
  have hf : ∀ c : Dev nD, ∀ i, Fin' (A0 m c i) := fun c i => fin_of_lt _ (congrFun (hp c) i)
  refine ⟨fun c => val_main_v67 (F := Ideal) (A0 m c), fun c => val_main_v87 (F := Ideal) (A0 m c) (A1 m c) (A2 m c) (A3 m c), ?_, ?_⟩
  · refine (θ_run _ _ _).mono (fun r h c => ?_) (Cert.PoolFwdIdeal.Value.run_blocks m g)
    obtain ⟨h0, h1, hr⟩ := h c
    exact ⟨h0.trans (final3 m c (hf c)), h1.trans (final4 m c (hf c)), hr⟩
  · refine (θ_run _ _ _).mono (fun r h c => ?_) (Cert.PoolFwdRefIdeal.Value.run (F := Ideal) m' g')
    obtain ⟨e0, e1, e2, e3⟩ := ha c
    obtain ⟨h0, h1, hr⟩ := h c
    refine ⟨h0.trans ((val_main_v67_eq m' c).trans ?_),
      h1.trans ((val_main_v87_eq m' c).trans ?_), hr⟩
    · exact congrArg _ e0
    · show val_main_v87 (F := Ideal) _ _ _ _ = _
      exact congr (congr (congr (congrArg _ e0) e1) e2) e3

end Cert.PoolFwdIdeal.Equation
-- ==== Proof.lean ====
module

public import proofs.«01_k».proof.Proof.Gen.PoolBwdIdeal.Value
public import proofs.«01_k».proof.Proof.Gen.PoolBwdRefIdeal.Run
public import proofs.«01_k».proof.Proof.Gen.PoolBwdRefIdeal.Read
public import proofs.«01_k».proof.Proof.Gen.BwdFfnRefIdeal.Run
public import proofs.«01_k».proof.Proof.Gen.BwdFfnRefIdeal.Read
public import proofs.«01_k».proof.Proof.Gen.GradFfnIdeal.Value
public import proofs.«01_k».proof.Proof.Gen.GradFfnRefIdeal.Run
public import proofs.«01_k».proof.Proof.Gen.GradFfnRefIdeal.Read
public import proofs.«01_k».proof.Proof.Gen.BwdOutIdeal.Value
public import proofs.«01_k».proof.Proof.Gen.BwdOutRefIdeal.Run
public import proofs.«01_k».proof.Proof.Gen.BwdOutRefIdeal.Read
public import proofs.«01_k».proof.Proof.Gen.BwdInIdeal.Value
public import proofs.«01_k».proof.Proof.Gen.BwdInRefIdeal.Run
public import proofs.«01_k».proof.Proof.Gen.BwdInRefIdeal.Read
public import proofs.«01_k».proof.Proof.Gen.FwdInIdeal.Value
public import proofs.«01_k».proof.Proof.Gen.FwdInRefIdeal.Run
public import proofs.«01_k».proof.Proof.Gen.FwdInRefIdeal.Read
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Defs
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolBwdRefIdeal
public import proofs.«01_k».proof.Proof.Gen.BwdFfn
public import proofs.«01_k».proof.Proof.Gen.BwdFfn.Skeleton
public import proofs.«01_k».proof.Proof.Gen.BwdFfn.Launch
public import proofs.«01_k».proof.Proof.Gen.BwdFfn.Points
public import proofs.«01_k».proof.Proof.Gen.BwdFfn.Frame
public import proofs.«01_k».proof.Proof.Gen.BwdFfnIdeal
public import proofs.«01_k».proof.Proof.Gen.BwdFfnIdeal.Skeleton
public import proofs.«01_k».proof.Proof.Gen.BwdFfnIdeal.Launch
public import proofs.«01_k».proof.Proof.Gen.BwdFfnIdeal.Points
public import proofs.«01_k».proof.Proof.Gen.BwdFfnIdeal.Frame
public import proofs.«01_k».proof.Proof.Gen.BwdFfnRefIdeal
public import proofs.«01_k».proof.Proof.Gen.GradFfn
public import proofs.«01_k».proof.Proof.Gen.GradFfn.Skeleton
public import proofs.«01_k».proof.Proof.Gen.GradFfn.Launch
public import proofs.«01_k».proof.Proof.Gen.GradFfn.Points
public import proofs.«01_k».proof.Proof.Gen.GradFfn.Frame
public import proofs.«01_k».proof.Proof.Gen.GradFfnIdeal
public import proofs.«01_k».proof.Proof.Gen.GradFfnIdeal.Skeleton
public import proofs.«01_k».proof.Proof.Gen.GradFfnIdeal.Launch
public import proofs.«01_k».proof.Proof.Gen.GradFfnIdeal.Points
public import proofs.«01_k».proof.Proof.Gen.GradFfnIdeal.Frame
public import proofs.«01_k».proof.Proof.Gen.GradFfnRefIdeal
public import proofs.«01_k».proof.Proof.Gen.BwdOut
public import proofs.«01_k».proof.Proof.Gen.BwdOut.Skeleton
public import proofs.«01_k».proof.Proof.Gen.BwdOut.Launch
public import proofs.«01_k».proof.Proof.Gen.BwdOut.Points
public import proofs.«01_k».proof.Proof.Gen.BwdOut.Frame
public import proofs.«01_k».proof.Proof.Gen.BwdOutIdeal
public import proofs.«01_k».proof.Proof.Gen.BwdOutIdeal.Skeleton
public import proofs.«01_k».proof.Proof.Gen.BwdOutIdeal.Launch
public import proofs.«01_k».proof.Proof.Gen.BwdOutIdeal.Points
public import proofs.«01_k».proof.Proof.Gen.BwdOutIdeal.Frame
public import proofs.«01_k».proof.Proof.Gen.BwdOutRefIdeal
public import proofs.«01_k».proof.Proof.Gen.BwdIn
public import proofs.«01_k».proof.Proof.Gen.BwdIn.Skeleton
public import proofs.«01_k».proof.Proof.Gen.BwdIn.Launch
public import proofs.«01_k».proof.Proof.Gen.BwdIn.Points
public import proofs.«01_k».proof.Proof.Gen.BwdIn.Frame
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInIdeal.Frame
public import proofs.«01_k».proof.Proof.Gen.BwdInRefIdeal
public import proofs.«01_k».proof.Proof.Gen.FwdIn
public import proofs.«01_k».proof.Proof.Gen.FwdIn.Skeleton
public import proofs.«01_k».proof.Proof.Gen.FwdIn.Launch
public import proofs.«01_k».proof.Proof.Gen.FwdIn.Points
public import proofs.«01_k».proof.Proof.Gen.FwdIn.Frame
public import proofs.«01_k».proof.Proof.Gen.FwdInIdeal
public import proofs.«01_k».proof.Proof.Gen.FwdInIdeal.Skeleton
public import proofs.«01_k».proof.Proof.Gen.FwdInIdeal.Launch
public import proofs.«01_k».proof.Proof.Gen.FwdInIdeal.Points
public import proofs.«01_k».proof.Proof.Gen.FwdInIdeal.Frame
public import proofs.«01_k».proof.Proof.Gen.FwdInRefIdeal
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdRefIdeal
public import proofs.«01_k».proof.Proof.Gen.Pre_pool_bwd_finite
public import proofs.«01_k».proof.Proof.Gen.Pre_bwd_ffn_finite
public import proofs.«01_k».proof.Proof.Gen.Pre_pool_fwd_finite
public import proofs.«01_k».proof.Proof.PoolBwd.Equation
public import proofs.«01_k».proof.Proof.BwdFfn.Equation
public import proofs.«01_k».proof.Proof.GradFfn.Equation
public import proofs.«01_k».proof.Proof.BwdOut.Equation
public import proofs.«01_k».proof.Proof.BwdIn.Equation
public import proofs.«01_k».proof.Proof.FwdIn.Equation
public import proofs.«01_k».proof.Proof.PoolFwd.Equation
public import Idealize.ShloMosaic.Adequacy
public import Idealize.ShloMosaic.Init

@[expose] public section

noncomputable section

namespace Cert.Proof

open Idealize.ShloMosaic Idealize.SL.Sem

/-- The reference of PoolBwd over the extended reals runs to its end and leaves its arguments as they were; it has no
    semaphore at all, so none ends above zero. -/
theorem frame_PoolBwdRef : Cert.quiescent_PoolBwdRefIdeal := fun m ρ _ =>
  (θ_run Cert.PoolBwdRefIdeal.defs _ _).mono (fun r h => ⟨fun c => (h c).2.2.2,
    sem_eq_zero_of_no_sems (by decide) r.2⟩) (Cert.PoolBwdRefIdeal.Value.run (F := Ideal) m ρ)

/-- The reference of BwdFfn over the extended reals runs to its end and leaves its arguments as they were; it has no
    semaphore at all, so none ends above zero. -/
theorem frame_BwdFfnRef : Cert.quiescent_BwdFfnRefIdeal := fun m ρ _ =>
  (θ_run Cert.BwdFfnRefIdeal.defs _ _).mono (fun r h => ⟨fun c => (h c).2.2.2.2,
    sem_eq_zero_of_no_sems (by decide) r.2⟩) (Cert.BwdFfnRefIdeal.Value.run (F := Ideal) m ρ)

/-- The reference of GradFfn over the extended reals runs to its end and leaves its arguments as they were; it has no
    semaphore at all, so none ends above zero. -/
theorem frame_GradFfnRef : Cert.quiescent_GradFfnRefIdeal := fun m ρ _ =>
  (θ_run Cert.GradFfnRefIdeal.defs _ _).mono (fun r h => ⟨fun c => (h c).2.2.2,
    sem_eq_zero_of_no_sems (by decide) r.2⟩) (Cert.GradFfnRefIdeal.Value.run (F := Ideal) m ρ)

/-- The reference of BwdOut over the extended reals runs to its end and leaves its arguments as they were; it has no
    semaphore at all, so none ends above zero. -/
theorem frame_BwdOutRef : Cert.quiescent_BwdOutRefIdeal := fun m ρ _ =>
  (θ_run Cert.BwdOutRefIdeal.defs _ _).mono (fun r h => ⟨fun c => (h c).2.2.2,
    sem_eq_zero_of_no_sems (by decide) r.2⟩) (Cert.BwdOutRefIdeal.Value.run (F := Ideal) m ρ)

/-- The reference of BwdIn over the extended reals runs to its end and leaves its arguments as they were; it has no
    semaphore at all, so none ends above zero. -/
theorem frame_BwdInRef : Cert.quiescent_BwdInRefIdeal := fun m ρ _ =>
  (θ_run Cert.BwdInRefIdeal.defs _ _).mono (fun r h => ⟨fun c => (h c).2.2.2,
    sem_eq_zero_of_no_sems (by decide) r.2⟩) (Cert.BwdInRefIdeal.Value.run (F := Ideal) m ρ)

/-- The reference of FwdIn over the extended reals runs to its end and leaves its arguments as they were; it has no
    semaphore at all, so none ends above zero. -/
theorem frame_FwdInRef : Cert.quiescent_FwdInRefIdeal := fun m ρ _ =>
  (θ_run Cert.FwdInRefIdeal.defs _ _).mono (fun r h => ⟨fun c => (h c).2.2,
    sem_eq_zero_of_no_sems (by decide) r.2⟩) (Cert.FwdInRefIdeal.Value.run (F := Ideal) m ρ)

/-- The reference of PoolFwd over the extended reals runs to its end and leaves its arguments as they were; it has no
    semaphore at all, so none ends above zero. -/
theorem frame_PoolFwdRef : Cert.quiescent_PoolFwdRefIdeal := fun m ρ _ =>
  (θ_run Cert.PoolFwdRefIdeal.defs _ _).mono (fun r h => ⟨fun c => (h c).2.2,
    sem_eq_zero_of_no_sems (by decide) r.2⟩) (Cert.PoolFwdRefIdeal.Value.run (F := Ideal) m ρ)

/-- Every call that is certified here runs to its end, leaves its arguments as they were and every semaphore at zero,
    as printed and over the extended reals, and there it computes what its reference computes. -/
theorem claim : Cert.Claim := ⟨Cert.PoolBwd.Gen.facts, Cert.PoolBwdIdeal.Gen.facts, Cert.PoolBwdRefIdeal.Gen.facts, Cert.BwdFfn.Gen.facts, Cert.BwdFfnIdeal.Gen.facts, Cert.BwdFfnRefIdeal.Gen.facts, Cert.GradFfn.Gen.facts, Cert.GradFfnIdeal.Gen.facts, Cert.GradFfnRefIdeal.Gen.facts, Cert.BwdOut.Gen.facts, Cert.BwdOutIdeal.Gen.facts, Cert.BwdOutRefIdeal.Gen.facts, Cert.BwdIn.Gen.facts, Cert.BwdInIdeal.Gen.facts, Cert.BwdInRefIdeal.Gen.facts, Cert.FwdIn.Gen.facts, Cert.FwdInIdeal.Gen.facts, Cert.FwdInRefIdeal.Gen.facts, Cert.PoolFwd.Gen.facts, Cert.PoolFwdIdeal.Gen.facts, Cert.PoolFwdRefIdeal.Gen.facts, Cert.Pre_pool_bwd_finite.Gen.facts, Cert.Pre_bwd_ffn_finite.Gen.facts, Cert.Pre_pool_fwd_finite.Gen.facts,
  fun m ρ _ => Cert.PoolBwd.Gen.frame m ρ,
  fun m ρ _ => Cert.PoolBwdIdeal.Gen.frame m ρ,
  fun m ρ _ => Cert.PoolBwdIdeal.Gen.frame m ρ,
  frame_PoolBwdRef,
  fun m ρ _ => frame_PoolBwdRef m ρ trivial,
  fun m ρ _ => Cert.BwdFfn.Gen.frame m ρ,
  fun m ρ _ => Cert.BwdFfnIdeal.Gen.frame m ρ,
  fun m ρ _ => Cert.BwdFfnIdeal.Gen.frame m ρ,
  frame_BwdFfnRef,
  fun m ρ _ => frame_BwdFfnRef m ρ trivial,
  fun m ρ _ => Cert.GradFfn.Gen.frame m ρ,
  fun m ρ _ => Cert.GradFfnIdeal.Gen.frame m ρ,
  frame_GradFfnRef,
  fun m ρ _ => Cert.BwdOut.Gen.frame m ρ,
  fun m ρ _ => Cert.BwdOutIdeal.Gen.frame m ρ,
  frame_BwdOutRef,
  fun m ρ _ => Cert.BwdIn.Gen.frame m ρ,
  fun m ρ _ => Cert.BwdInIdeal.Gen.frame m ρ,
  frame_BwdInRef,
  fun m ρ _ => Cert.FwdIn.Gen.frame m ρ,
  fun m ρ _ => Cert.FwdInIdeal.Gen.frame m ρ,
  frame_FwdInRef,
  fun m ρ _ => Cert.PoolFwd.Gen.frame m ρ,
  fun m ρ _ => Cert.PoolFwdIdeal.Gen.frame m ρ,
  fun m ρ _ => Cert.PoolFwdIdeal.Gen.frame m ρ,
  frame_PoolFwdRef,
  fun m ρ _ => frame_PoolFwdRef m ρ trivial,
  trivial,
  Cert.PoolBwdIdeal.Equation.algebraic,
  trivial,
  Cert.BwdFfnIdeal.Equation.algebraic,
  trivial,
  Cert.GradFfnIdeal.Equation.algebraic,
  trivial,
  Cert.BwdOutIdeal.Equation.algebraic,
  trivial,
  Cert.BwdInIdeal.Equation.algebraic,
  trivial,
  Cert.FwdInIdeal.Equation.algebraic,
  trivial,
  Cert.PoolFwdIdeal.Equation.algebraic⟩

end Cert.Proof

end
